-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Up [hPre_routed_up : Cert.Pre_routed_up.Facts] (m : (ℓ : Loc Cert.Up.nD Cert.Up.τ Cert.Up.sig) → Buf (Elt Bits) ℓ) : Prop :=
  ∀ c : Dev Cert.Up.nD,
    (Cert.Pre_routed_up.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4))) = (fun _ => 1#1)

def Pre_UpIdeal [hPre_routed_up : Cert.Pre_routed_up.Facts] (m : (ℓ : Loc Cert.UpIdeal.nD Cert.UpIdeal.τ Cert.UpIdeal.sig) → Buf (Elt Ideal) ℓ) : Prop :=
  ∀ c : Dev Cert.UpIdeal.nD,
    (Cert.Pre_routed_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))) = (fun _ => 1#1)

def Pre_UpReferenceIdeal (m : (ℓ : Loc Cert.UpReferenceIdeal.nD Cert.UpReferenceIdeal.τ Cert.UpReferenceIdeal.sig) → Buf (Elt Ideal) ℓ) : Prop :=
  True

def Pre_UpReferenceIdeal_routed_up [hPre_routed_up : Cert.Pre_routed_up.Facts] (m : (ℓ : Loc Cert.UpReferenceIdeal.nD Cert.UpReferenceIdeal.τ Cert.UpReferenceIdeal.sig) → Buf (Elt Ideal) ℓ) : Prop :=
  ∀ c : Dev Cert.UpReferenceIdeal.nD,
    (Cert.Pre_routed_up.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4))) = (fun _ => 1#1)

def Pre_Down [hPre_routed_down : Cert.Pre_routed_down.Facts] (m : (ℓ : Loc Cert.Down.nD Cert.Down.τ Cert.Down.sig) → Buf (Elt Bits) ℓ) : Prop :=
  ∀ c : Dev Cert.Down.nD,
    (Cert.Pre_routed_down.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3))) = (fun _ => 1#1)

def Pre_DownIdeal [hPre_routed_down : Cert.Pre_routed_down.Facts] (m : (ℓ : Loc Cert.DownIdeal.nD Cert.DownIdeal.τ Cert.DownIdeal.sig) → Buf (Elt Ideal) ℓ) : Prop :=
  ∀ c : Dev Cert.DownIdeal.nD,
    (Cert.Pre_routed_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))) = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_routed_down [hPre_routed_down : Cert.Pre_routed_down.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_routed_down.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Prepare (m : (ℓ : Loc Cert.Prepare.nD Cert.Prepare.τ Cert.Prepare.sig) → Buf (Elt Bits) ℓ) : Prop :=
  True

def Pre_PrepareIdeal (m : (ℓ : Loc Cert.PrepareIdeal.nD Cert.PrepareIdeal.τ Cert.PrepareIdeal.sig) → Buf (Elt Ideal) ℓ) : Prop :=
  True

def Pre_PrepareReferenceIdeal (m : (ℓ : Loc Cert.PrepareReferenceIdeal.nD Cert.PrepareReferenceIdeal.τ Cert.PrepareReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Dense [hPre_one_expert : Cert.Pre_one_expert.Facts] (m : (ℓ : Loc Cert.Dense.nD Cert.Dense.τ Cert.Dense.sig) → Buf (Elt Bits) ℓ) : Prop :=
  ∀ c : Dev Cert.Dense.nD,
    (Cert.Pre_one_expert.fn (F := Bits) (m ((c.tc : Thread Cert.Dense.nD Cert.Dense.τ).loc Cert.Dense.main_arg0)) (m ((c.tc : Thread Cert.Dense.nD Cert.Dense.τ).loc Cert.Dense.main_arg1)) (m ((c.tc : Thread Cert.Dense.nD Cert.Dense.τ).loc Cert.Dense.main_arg2)) (m ((c.tc : Thread Cert.Dense.nD Cert.Dense.τ).loc Cert.Dense.main_arg3)) (m ((c.tc : Thread Cert.Dense.nD Cert.Dense.τ).loc Cert.Dense.main_arg4))) = (fun _ => 1#1)

def Pre_DenseIdeal [hPre_one_expert : Cert.Pre_one_expert.Facts] (m : (ℓ : Loc Cert.DenseIdeal.nD Cert.DenseIdeal.τ Cert.DenseIdeal.sig) → Buf (Elt Ideal) ℓ) : Prop :=
  ∀ c : Dev Cert.DenseIdeal.nD,
    (Cert.Pre_one_expert.fn (F := Ideal) (m ((c.tc : Thread Cert.DenseIdeal.nD Cert.DenseIdeal.τ).loc Cert.DenseIdeal.main_arg0)) (m ((c.tc : Thread Cert.DenseIdeal.nD Cert.DenseIdeal.τ).loc Cert.DenseIdeal.main_arg1)) (m ((c.tc : Thread Cert.DenseIdeal.nD Cert.DenseIdeal.τ).loc Cert.DenseIdeal.main_arg2)) (m ((c.tc : Thread Cert.DenseIdeal.nD Cert.DenseIdeal.τ).loc Cert.DenseIdeal.main_arg3)) (m ((c.tc : Thread Cert.DenseIdeal.nD Cert.DenseIdeal.τ).loc Cert.DenseIdeal.main_arg4))) = (fun _ => 1#1)

def Pre_DenseReferenceIdeal (m : (ℓ : Loc Cert.DenseReferenceIdeal.nD Cert.DenseReferenceIdeal.τ Cert.DenseReferenceIdeal.sig) → Buf (Elt Ideal) ℓ) : Prop :=
  True

def Pre_DenseReferenceIdeal_one_expert [hPre_one_expert : Cert.Pre_one_expert.Facts] (m : (ℓ : Loc Cert.DenseReferenceIdeal.nD Cert.DenseReferenceIdeal.τ Cert.DenseReferenceIdeal.sig) → Buf (Elt Ideal) ℓ) : Prop :=
  ∀ c : Dev Cert.DenseReferenceIdeal.nD,
    (Cert.Pre_one_expert.fn (F := Ideal) (m ((c.tc : Thread Cert.DenseReferenceIdeal.nD Cert.DenseReferenceIdeal.τ).loc Cert.DenseReferenceIdeal.main_arg0)) (m ((c.tc : Thread Cert.DenseReferenceIdeal.nD Cert.DenseReferenceIdeal.τ).loc Cert.DenseReferenceIdeal.main_arg1)) (m ((c.tc : Thread Cert.DenseReferenceIdeal.nD Cert.DenseReferenceIdeal.τ).loc Cert.DenseReferenceIdeal.main_arg2)) (m ((c.tc : Thread Cert.DenseReferenceIdeal.nD Cert.DenseReferenceIdeal.τ).loc Cert.DenseReferenceIdeal.main_arg3)) (m ((c.tc : Thread Cert.DenseReferenceIdeal.nD Cert.DenseReferenceIdeal.τ).loc Cert.DenseReferenceIdeal.main_arg4))) = (fun _ => 1#1)

def Pre_Out [hPre_one_weight : Cert.Pre_one_weight.Facts] (m : (ℓ : Loc Cert.Out.nD Cert.Out.τ Cert.Out.sig) → Buf (Elt Bits) ℓ) : Prop :=
  ∀ c : Dev Cert.Out.nD,
    (Cert.Pre_one_weight.fn (F := Bits) (m ((c.tc : Thread Cert.Out.nD Cert.Out.τ).loc Cert.Out.main_arg0)) (m ((c.tc : Thread Cert.Out.nD Cert.Out.τ).loc Cert.Out.main_arg1)) (m ((c.tc : Thread Cert.Out.nD Cert.Out.τ).loc Cert.Out.main_arg2)) (m ((c.tc : Thread Cert.Out.nD Cert.Out.τ).loc Cert.Out.main_arg3)) (m ((c.tc : Thread Cert.Out.nD Cert.Out.τ).loc Cert.Out.main_arg4)) (m ((c.tc : Thread Cert.Out.nD Cert.Out.τ).loc Cert.Out.main_arg5))) = (fun _ => 1#1)

def Pre_OutIdeal [hPre_one_weight : Cert.Pre_one_weight.Facts] (m : (ℓ : Loc Cert.OutIdeal.nD Cert.OutIdeal.τ Cert.OutIdeal.sig) → Buf (Elt Ideal) ℓ) : Prop :=
  ∀ c : Dev Cert.OutIdeal.nD,
    (Cert.Pre_one_weight.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5))) = (fun _ => 1#1)

def Pre_OutReferenceIdeal (m : (ℓ : Loc Cert.OutReferenceIdeal.nD Cert.OutReferenceIdeal.τ Cert.OutReferenceIdeal.sig) → Buf (Elt Ideal) ℓ) : Prop :=
  True

def Pre_OutReferenceIdeal_one_weight [hPre_one_weight : Cert.Pre_one_weight.Facts] (m : (ℓ : Loc Cert.OutReferenceIdeal.nD Cert.OutReferenceIdeal.τ Cert.OutReferenceIdeal.sig) → Buf (Elt Ideal) ℓ) : Prop :=
  ∀ c : Dev Cert.OutReferenceIdeal.nD,
    (Cert.Pre_one_weight.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5))) = (fun _ => 1#1)

def Pre_Low [hPre_one_weight_low : Cert.Pre_one_weight_low.Facts] (m : (ℓ : Loc Cert.Low.nD Cert.Low.τ Cert.Low.sig) → Buf (Elt Bits) ℓ) : Prop :=
  ∀ c : Dev Cert.Low.nD,
    (Cert.Pre_one_weight_low.fn (F := Bits) (m ((c.tc : Thread Cert.Low.nD Cert.Low.τ).loc Cert.Low.main_arg0)) (m ((c.tc : Thread Cert.Low.nD Cert.Low.τ).loc Cert.Low.main_arg1)) (m ((c.tc : Thread Cert.Low.nD Cert.Low.τ).loc Cert.Low.main_arg2)) (m ((c.tc : Thread Cert.Low.nD Cert.Low.τ).loc Cert.Low.main_arg3)) (m ((c.tc : Thread Cert.Low.nD Cert.Low.τ).loc Cert.Low.main_arg4)) (m ((c.tc : Thread Cert.Low.nD Cert.Low.τ).loc Cert.Low.main_arg5))) = (fun _ => 1#1)

def Pre_LowIdeal [hPre_one_weight_low : Cert.Pre_one_weight_low.Facts] (m : (ℓ : Loc Cert.LowIdeal.nD Cert.LowIdeal.τ Cert.LowIdeal.sig) → Buf (Elt Ideal) ℓ) : Prop :=
  ∀ c : Dev Cert.LowIdeal.nD,
    (Cert.Pre_one_weight_low.fn (F := Ideal) (m ((c.tc : Thread Cert.LowIdeal.nD Cert.LowIdeal.τ).loc Cert.LowIdeal.main_arg0)) (m ((c.tc : Thread Cert.LowIdeal.nD Cert.LowIdeal.τ).loc Cert.LowIdeal.main_arg1)) (m ((c.tc : Thread Cert.LowIdeal.nD Cert.LowIdeal.τ).loc Cert.LowIdeal.main_arg2)) (m ((c.tc : Thread Cert.LowIdeal.nD Cert.LowIdeal.τ).loc Cert.LowIdeal.main_arg3)) (m ((c.tc : Thread Cert.LowIdeal.nD Cert.LowIdeal.τ).loc Cert.LowIdeal.main_arg4)) (m ((c.tc : Thread Cert.LowIdeal.nD Cert.LowIdeal.τ).loc Cert.LowIdeal.main_arg5))) = (fun _ => 1#1)

def Pre_LowReferenceIdeal (m : (ℓ : Loc Cert.LowReferenceIdeal.nD Cert.LowReferenceIdeal.τ Cert.LowReferenceIdeal.sig) → Buf (Elt Ideal) ℓ) : Prop :=
  True

def Pre_LowReferenceIdeal_one_weight_low [hPre_one_weight_low : Cert.Pre_one_weight_low.Facts] (m : (ℓ : Loc Cert.LowReferenceIdeal.nD Cert.LowReferenceIdeal.τ Cert.LowReferenceIdeal.sig) → Buf (Elt Ideal) ℓ) : Prop :=
  ∀ c : Dev Cert.LowReferenceIdeal.nD,
    (Cert.Pre_one_weight_low.fn (F := Ideal) (m ((c.tc : Thread Cert.LowReferenceIdeal.nD Cert.LowReferenceIdeal.τ).loc Cert.LowReferenceIdeal.main_arg0)) (m ((c.tc : Thread Cert.LowReferenceIdeal.nD Cert.LowReferenceIdeal.τ).loc Cert.LowReferenceIdeal.main_arg1)) (m ((c.tc : Thread Cert.LowReferenceIdeal.nD Cert.LowReferenceIdeal.τ).loc Cert.LowReferenceIdeal.main_arg2)) (m ((c.tc : Thread Cert.LowReferenceIdeal.nD Cert.LowReferenceIdeal.τ).loc Cert.LowReferenceIdeal.main_arg3)) (m ((c.tc : Thread Cert.LowReferenceIdeal.nD Cert.LowReferenceIdeal.τ).loc Cert.LowReferenceIdeal.main_arg4)) (m ((c.tc : Thread Cert.LowReferenceIdeal.nD Cert.LowReferenceIdeal.τ).loc Cert.LowReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Up [hUp : Cert.Up.Facts] [hPre_routed_up : Cert.Pre_routed_up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] [hPre_routed_up : Cert.Pre_routed_up.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def quiescent_UpReferenceIdeal_pre_routed_up [hUpReferenceIdeal : Cert.UpReferenceIdeal.Facts] [hPre_routed_up : Cert.Pre_routed_up.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal_routed_up m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def quiescent_Down [hDown : Cert.Down.Facts] [hPre_routed_down : Cert.Pre_routed_down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] [hPre_routed_down : Cert.Pre_routed_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_DownReferenceIdeal_pre_routed_down [hDownReferenceIdeal : Cert.DownReferenceIdeal.Facts] [hPre_routed_down : Cert.Pre_routed_down.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_routed_down m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1))
      ∧ r.2.sem = fun _ => 0)

def quiescent_Prepare [hPrepare : Cert.Prepare.Facts] : Prop :=
  ∀ (m : (ℓ : Loc Cert.Prepare.nD Cert.Prepare.τ Cert.Prepare.sig) → Buf (Elt Bits) ℓ) (g : Dev Cert.Prepare.nD → PrngReg), Pre_Prepare m →
    θ_run (Cert.Prepare.defs (F := Bits)) (onTc (τ := Cert.Prepare.τ) (Cert.Prepare.main (F := Bits))) ⟨m, fun _ => 0, g⟩ (fun r => (∀ c : Dev Cert.Prepare.nD,
      r.2.mem ((c.tc : Thread Cert.Prepare.nD Cert.Prepare.τ).loc Cert.Prepare.main_arg0) = m ((c.tc : Thread Cert.Prepare.nD Cert.Prepare.τ).loc Cert.Prepare.main_arg0)
      ∧ r.2.mem ((c.tc : Thread Cert.Prepare.nD Cert.Prepare.τ).loc Cert.Prepare.main_arg1) = m ((c.tc : Thread Cert.Prepare.nD Cert.Prepare.τ).loc Cert.Prepare.main_arg1)
      ∧ r.2.mem ((c.tc : Thread Cert.Prepare.nD Cert.Prepare.τ).loc Cert.Prepare.main_arg2) = m ((c.tc : Thread Cert.Prepare.nD Cert.Prepare.τ).loc Cert.Prepare.main_arg2)
      ∧ r.2.mem ((c.tc : Thread Cert.Prepare.nD Cert.Prepare.τ).loc Cert.Prepare.main_arg3) = m ((c.tc : Thread Cert.Prepare.nD Cert.Prepare.τ).loc Cert.Prepare.main_arg3)
      ∧ r.2.mem ((c.tc : Thread Cert.Prepare.nD Cert.Prepare.τ).loc Cert.Prepare.main_arg4) = m ((c.tc : Thread Cert.Prepare.nD Cert.Prepare.τ).loc Cert.Prepare.main_arg4))
      ∧ r.2.sem = fun _ => 0)

def quiescent_PrepareIdeal [hPrepareIdeal : Cert.PrepareIdeal.Facts] : Prop :=
  ∀ (m : (ℓ : Loc Cert.PrepareIdeal.nD Cert.PrepareIdeal.τ Cert.PrepareIdeal.sig) → Buf (Elt Ideal) ℓ) (g : Dev Cert.PrepareIdeal.nD → PrngReg), Pre_PrepareIdeal m →
    θ_run (Cert.PrepareIdeal.defs (F := Ideal)) (onTc (τ := Cert.PrepareIdeal.τ) (Cert.PrepareIdeal.main (F := Ideal))) ⟨m, fun _ => 0, g⟩ (fun r => (∀ c : Dev Cert.PrepareIdeal.nD,
      r.2.mem ((c.tc : Thread Cert.PrepareIdeal.nD Cert.PrepareIdeal.τ).loc Cert.PrepareIdeal.main_arg0) = m ((c.tc : Thread Cert.PrepareIdeal.nD Cert.PrepareIdeal.τ).loc Cert.PrepareIdeal.main_arg0)
      ∧ r.2.mem ((c.tc : Thread Cert.PrepareIdeal.nD Cert.PrepareIdeal.τ).loc Cert.PrepareIdeal.main_arg1) = m ((c.tc : Thread Cert.PrepareIdeal.nD Cert.PrepareIdeal.τ).loc Cert.PrepareIdeal.main_arg1)
      ∧ r.2.mem ((c.tc : Thread Cert.PrepareIdeal.nD Cert.PrepareIdeal.τ).loc Cert.PrepareIdeal.main_arg2) = m ((c.tc : Thread Cert.PrepareIdeal.nD Cert.PrepareIdeal.τ).loc Cert.PrepareIdeal.main_arg2)
      ∧ r.2.mem ((c.tc : Thread Cert.PrepareIdeal.nD Cert.PrepareIdeal.τ).loc Cert.PrepareIdeal.main_arg3) = m ((c.tc : Thread Cert.PrepareIdeal.nD Cert.PrepareIdeal.τ).loc Cert.PrepareIdeal.main_arg3)
      ∧ r.2.mem ((c.tc : Thread Cert.PrepareIdeal.nD Cert.PrepareIdeal.τ).loc Cert.PrepareIdeal.main_arg4) = m ((c.tc : Thread Cert.PrepareIdeal.nD Cert.PrepareIdeal.τ).loc Cert.PrepareIdeal.main_arg4))
      ∧ r.2.sem = fun _ => 0)

def quiescent_PrepareReferenceIdeal [hPrepareReferenceIdeal : Cert.PrepareReferenceIdeal.Facts] : Prop :=
  ∀ (m : (ℓ : Loc Cert.PrepareReferenceIdeal.nD Cert.PrepareReferenceIdeal.τ Cert.PrepareReferenceIdeal.sig) → Buf (Elt Ideal) ℓ) (g : Dev Cert.PrepareReferenceIdeal.nD → PrngReg), Pre_PrepareReferenceIdeal m →
    θ_run (Cert.PrepareReferenceIdeal.defs (F := Ideal)) (onTc (τ := Cert.PrepareReferenceIdeal.τ) (Cert.PrepareReferenceIdeal.main (F := Ideal))) ⟨m, fun _ => 0, g⟩ (fun r => (∀ c : Dev Cert.PrepareReferenceIdeal.nD,
      r.2.mem ((c.tc : Thread Cert.PrepareReferenceIdeal.nD Cert.PrepareReferenceIdeal.τ).loc Cert.PrepareReferenceIdeal.main_arg0) = m ((c.tc : Thread Cert.PrepareReferenceIdeal.nD Cert.PrepareReferenceIdeal.τ).loc Cert.PrepareReferenceIdeal.main_arg0)
      ∧ r.2.mem ((c.tc : Thread Cert.PrepareReferenceIdeal.nD Cert.PrepareReferenceIdeal.τ).loc Cert.PrepareReferenceIdeal.main_arg1) = m ((c.tc : Thread Cert.PrepareReferenceIdeal.nD Cert.PrepareReferenceIdeal.τ).loc Cert.PrepareReferenceIdeal.main_arg1)
      ∧ r.2.mem ((c.tc : Thread Cert.PrepareReferenceIdeal.nD Cert.PrepareReferenceIdeal.τ).loc Cert.PrepareReferenceIdeal.main_arg2) = m ((c.tc : Thread Cert.PrepareReferenceIdeal.nD Cert.PrepareReferenceIdeal.τ).loc Cert.PrepareReferenceIdeal.main_arg2)
      ∧ r.2.mem ((c.tc : Thread Cert.PrepareReferenceIdeal.nD Cert.PrepareReferenceIdeal.τ).loc Cert.PrepareReferenceIdeal.main_arg3) = m ((c.tc : Thread Cert.PrepareReferenceIdeal.nD Cert.PrepareReferenceIdeal.τ).loc Cert.PrepareReferenceIdeal.main_arg3)
      ∧ r.2.mem ((c.tc : Thread Cert.PrepareReferenceIdeal.nD Cert.PrepareReferenceIdeal.τ).loc Cert.PrepareReferenceIdeal.main_arg4) = m ((c.tc : Thread Cert.PrepareReferenceIdeal.nD Cert.PrepareReferenceIdeal.τ).loc Cert.PrepareReferenceIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1))
      ∧ r.2.sem = fun _ => 0)

def quiescent_Dense [hDense : Cert.Dense.Facts] [hPre_one_expert : Cert.Pre_one_expert.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4))
      ∧ r.2.sem = fun _ => 0)

def quiescent_DenseIdeal [hDenseIdeal : Cert.DenseIdeal.Facts] [hPre_one_expert : Cert.Pre_one_expert.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4))
      ∧ r.2.sem = fun _ => 0)

def quiescent_DenseReferenceIdeal_pre_one_expert [hDenseReferenceIdeal : Cert.DenseReferenceIdeal.Facts] [hPre_one_expert : Cert.Pre_one_expert.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal_one_expert m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4))
      ∧ r.2.sem = fun _ => 0)

def quiescent_Out [hOut : Cert.Out.Facts] [hPre_one_weight : Cert.Pre_one_weight.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] [hPre_one_weight : Cert.Pre_one_weight.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
      ∧ r.2.sem = fun _ => 0)

def quiescent_OutReferenceIdeal_pre_one_weight [hOutReferenceIdeal : Cert.OutReferenceIdeal.Facts] [hPre_one_weight : Cert.Pre_one_weight.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal_one_weight m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
      ∧ r.2.sem = fun _ => 0)

def quiescent_Low [hLow : Cert.Low.Facts] [hPre_one_weight_low : Cert.Pre_one_weight_low.Facts] : Prop :=
  ∀ (m : (ℓ : Loc Cert.Low.nD Cert.Low.τ Cert.Low.sig) → Buf (Elt Bits) ℓ) (g : Dev Cert.Low.nD → PrngReg), Pre_Low m →
    θ_run (Cert.Low.defs (F := Bits)) (onTc (τ := Cert.Low.τ) (Cert.Low.main (F := Bits))) ⟨m, fun _ => 0, g⟩ (fun r => (∀ c : Dev Cert.Low.nD,
      r.2.mem ((c.tc : Thread Cert.Low.nD Cert.Low.τ).loc Cert.Low.main_arg0) = m ((c.tc : Thread Cert.Low.nD Cert.Low.τ).loc Cert.Low.main_arg0)
      ∧ r.2.mem ((c.tc : Thread Cert.Low.nD Cert.Low.τ).loc Cert.Low.main_arg1) = m ((c.tc : Thread Cert.Low.nD Cert.Low.τ).loc Cert.Low.main_arg1)
      ∧ r.2.mem ((c.tc : Thread Cert.Low.nD Cert.Low.τ).loc Cert.Low.main_arg2) = m ((c.tc : Thread Cert.Low.nD Cert.Low.τ).loc Cert.Low.main_arg2)
      ∧ r.2.mem ((c.tc : Thread Cert.Low.nD Cert.Low.τ).loc Cert.Low.main_arg3) = m ((c.tc : Thread Cert.Low.nD Cert.Low.τ).loc Cert.Low.main_arg3)
      ∧ r.2.mem ((c.tc : Thread Cert.Low.nD Cert.Low.τ).loc Cert.Low.main_arg4) = m ((c.tc : Thread Cert.Low.nD Cert.Low.τ).loc Cert.Low.main_arg4)
      ∧ r.2.mem ((c.tc : Thread Cert.Low.nD Cert.Low.τ).loc Cert.Low.main_arg5) = m ((c.tc : Thread Cert.Low.nD Cert.Low.τ).loc Cert.Low.main_arg5))
      ∧ r.2.sem = fun _ => 0)

def quiescent_LowIdeal [hLowIdeal : Cert.LowIdeal.Facts] [hPre_one_weight_low : Cert.Pre_one_weight_low.Facts] : Prop :=
  ∀ (m : (ℓ : Loc Cert.LowIdeal.nD Cert.LowIdeal.τ Cert.LowIdeal.sig) → Buf (Elt Ideal) ℓ) (g : Dev Cert.LowIdeal.nD → PrngReg), Pre_LowIdeal m →
    θ_run (Cert.LowIdeal.defs (F := Ideal)) (onTc (τ := Cert.LowIdeal.τ) (Cert.LowIdeal.main (F := Ideal))) ⟨m, fun _ => 0, g⟩ (fun r => (∀ c : Dev Cert.LowIdeal.nD,
      r.2.mem ((c.tc : Thread Cert.LowIdeal.nD Cert.LowIdeal.τ).loc Cert.LowIdeal.main_arg0) = m ((c.tc : Thread Cert.LowIdeal.nD Cert.LowIdeal.τ).loc Cert.LowIdeal.main_arg0)
      ∧ r.2.mem ((c.tc : Thread Cert.LowIdeal.nD Cert.LowIdeal.τ).loc Cert.LowIdeal.main_arg1) = m ((c.tc : Thread Cert.LowIdeal.nD Cert.LowIdeal.τ).loc Cert.LowIdeal.main_arg1)
      ∧ r.2.mem ((c.tc : Thread Cert.LowIdeal.nD Cert.LowIdeal.τ).loc Cert.LowIdeal.main_arg2) = m ((c.tc : Thread Cert.LowIdeal.nD Cert.LowIdeal.τ).loc Cert.LowIdeal.main_arg2)
      ∧ r.2.mem ((c.tc : Thread Cert.LowIdeal.nD Cert.LowIdeal.τ).loc Cert.LowIdeal.main_arg3) = m ((c.tc : Thread Cert.LowIdeal.nD Cert.LowIdeal.τ).loc Cert.LowIdeal.main_arg3)
      ∧ r.2.mem ((c.tc : Thread Cert.LowIdeal.nD Cert.LowIdeal.τ).loc Cert.LowIdeal.main_arg4) = m ((c.tc : Thread Cert.LowIdeal.nD Cert.LowIdeal.τ).loc Cert.LowIdeal.main_arg4)
      ∧ r.2.mem ((c.tc : Thread Cert.LowIdeal.nD Cert.LowIdeal.τ).loc Cert.LowIdeal.main_arg5) = m ((c.tc : Thread Cert.LowIdeal.nD Cert.LowIdeal.τ).loc Cert.LowIdeal.main_arg5))
      ∧ r.2.sem = fun _ => 0)

def quiescent_LowReferenceIdeal [hLowReferenceIdeal : Cert.LowReferenceIdeal.Facts] : Prop :=
  ∀ (m : (ℓ : Loc Cert.LowReferenceIdeal.nD Cert.LowReferenceIdeal.τ Cert.LowReferenceIdeal.sig) → Buf (Elt Ideal) ℓ) (g : Dev Cert.LowReferenceIdeal.nD → PrngReg), Pre_LowReferenceIdeal m →
    θ_run (Cert.LowReferenceIdeal.defs (F := Ideal)) (onTc (τ := Cert.LowReferenceIdeal.τ) (Cert.LowReferenceIdeal.main (F := Ideal))) ⟨m, fun _ => 0, g⟩ (fun r => (∀ c : Dev Cert.LowReferenceIdeal.nD,
      r.2.mem ((c.tc : Thread Cert.LowReferenceIdeal.nD Cert.LowReferenceIdeal.τ).loc Cert.LowReferenceIdeal.main_arg0) = m ((c.tc : Thread Cert.LowReferenceIdeal.nD Cert.LowReferenceIdeal.τ).loc Cert.LowReferenceIdeal.main_arg0)
      ∧ r.2.mem ((c.tc : Thread Cert.LowReferenceIdeal.nD Cert.LowReferenceIdeal.τ).loc Cert.LowReferenceIdeal.main_arg1) = m ((c.tc : Thread Cert.LowReferenceIdeal.nD Cert.LowReferenceIdeal.τ).loc Cert.LowReferenceIdeal.main_arg1)
      ∧ r.2.mem ((c.tc : Thread Cert.LowReferenceIdeal.nD Cert.LowReferenceIdeal.τ).loc Cert.LowReferenceIdeal.main_arg2) = m ((c.tc : Thread Cert.LowReferenceIdeal.nD Cert.LowReferenceIdeal.τ).loc Cert.LowReferenceIdeal.main_arg2)
      ∧ r.2.mem ((c.tc : Thread Cert.LowReferenceIdeal.nD Cert.LowReferenceIdeal.τ).loc Cert.LowReferenceIdeal.main_arg3) = m ((c.tc : Thread Cert.LowReferenceIdeal.nD Cert.LowReferenceIdeal.τ).loc Cert.LowReferenceIdeal.main_arg3)
      ∧ r.2.mem ((c.tc : Thread Cert.LowReferenceIdeal.nD Cert.LowReferenceIdeal.τ).loc Cert.LowReferenceIdeal.main_arg4) = m ((c.tc : Thread Cert.LowReferenceIdeal.nD Cert.LowReferenceIdeal.τ).loc Cert.LowReferenceIdeal.main_arg4)
      ∧ r.2.mem ((c.tc : Thread Cert.LowReferenceIdeal.nD Cert.LowReferenceIdeal.τ).loc Cert.LowReferenceIdeal.main_arg5) = m ((c.tc : Thread Cert.LowReferenceIdeal.nD Cert.LowReferenceIdeal.τ).loc Cert.LowReferenceIdeal.main_arg5))
      ∧ r.2.sem = fun _ => 0)

def quiescent_LowReferenceIdeal_pre_one_weight_low [hLowReferenceIdeal : Cert.LowReferenceIdeal.Facts] [hPre_one_weight_low : Cert.Pre_one_weight_low.Facts] : Prop :=
  ∀ (m : (ℓ : Loc Cert.LowReferenceIdeal.nD Cert.LowReferenceIdeal.τ Cert.LowReferenceIdeal.sig) → Buf (Elt Ideal) ℓ) (g : Dev Cert.LowReferenceIdeal.nD → PrngReg), Pre_LowReferenceIdeal_one_weight_low m →
    θ_run (Cert.LowReferenceIdeal.defs (F := Ideal)) (onTc (τ := Cert.LowReferenceIdeal.τ) (Cert.LowReferenceIdeal.main (F := Ideal))) ⟨m, fun _ => 0, g⟩ (fun r => (∀ c : Dev Cert.LowReferenceIdeal.nD,
      r.2.mem ((c.tc : Thread Cert.LowReferenceIdeal.nD Cert.LowReferenceIdeal.τ).loc Cert.LowReferenceIdeal.main_arg0) = m ((c.tc : Thread Cert.LowReferenceIdeal.nD Cert.LowReferenceIdeal.τ).loc Cert.LowReferenceIdeal.main_arg0)
      ∧ r.2.mem ((c.tc : Thread Cert.LowReferenceIdeal.nD Cert.LowReferenceIdeal.τ).loc Cert.LowReferenceIdeal.main_arg1) = m ((c.tc : Thread Cert.LowReferenceIdeal.nD Cert.LowReferenceIdeal.τ).loc Cert.LowReferenceIdeal.main_arg1)
      ∧ r.2.mem ((c.tc : Thread Cert.LowReferenceIdeal.nD Cert.LowReferenceIdeal.τ).loc Cert.LowReferenceIdeal.main_arg2) = m ((c.tc : Thread Cert.LowReferenceIdeal.nD Cert.LowReferenceIdeal.τ).loc Cert.LowReferenceIdeal.main_arg2)
      ∧ r.2.mem ((c.tc : Thread Cert.LowReferenceIdeal.nD Cert.LowReferenceIdeal.τ).loc Cert.LowReferenceIdeal.main_arg3) = m ((c.tc : Thread Cert.LowReferenceIdeal.nD Cert.LowReferenceIdeal.τ).loc Cert.LowReferenceIdeal.main_arg3)
      ∧ r.2.mem ((c.tc : Thread Cert.LowReferenceIdeal.nD Cert.LowReferenceIdeal.τ).loc Cert.LowReferenceIdeal.main_arg4) = m ((c.tc : Thread Cert.LowReferenceIdeal.nD Cert.LowReferenceIdeal.τ).loc Cert.LowReferenceIdeal.main_arg4)
      ∧ r.2.mem ((c.tc : Thread Cert.LowReferenceIdeal.nD Cert.LowReferenceIdeal.τ).loc Cert.LowReferenceIdeal.main_arg5) = m ((c.tc : Thread Cert.LowReferenceIdeal.nD Cert.LowReferenceIdeal.τ).loc Cert.LowReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Up_UpIdeal : Prop :=
  True

def algebraic_UpIdeal_UpReferenceIdeal [hUpIdeal : Cert.UpIdeal.Facts] [hUpReferenceIdeal : Cert.UpReferenceIdeal.Facts] [hPre_routed_up : Cert.Pre_routed_up.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)
      ∧ m' ((c.tc : Thread Cert.UpReferenceIdeal.nD Cert.UpReferenceIdeal.τ).loc Cert.UpReferenceIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v8) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4))

def preserves_Down_DownIdeal : Prop :=
  True

def algebraic_DownIdeal_DownReferenceIdeal [hDownIdeal : Cert.DownIdeal.Facts] [hDownReferenceIdeal : Cert.DownReferenceIdeal.Facts] [hPre_routed_down : Cert.Pre_routed_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v4) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v12) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v1)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v1) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v1) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1))

def preserves_Prepare_PrepareIdeal : Prop :=
  True

def algebraic_PrepareIdeal_PrepareReferenceIdeal [hPrepareIdeal : Cert.PrepareIdeal.Facts] [hPrepareReferenceIdeal : Cert.PrepareReferenceIdeal.Facts] : Prop :=
  ∀ (m : (ℓ : Loc Cert.PrepareIdeal.nD Cert.PrepareIdeal.τ Cert.PrepareIdeal.sig) → Buf (Elt Ideal) ℓ) (g : Dev Cert.PrepareIdeal.nD → PrngReg)
    (m' : (ℓ : Loc Cert.PrepareReferenceIdeal.nD Cert.PrepareReferenceIdeal.τ Cert.PrepareReferenceIdeal.sig) → Buf (Elt Ideal) ℓ) (g' : Dev Cert.PrepareReferenceIdeal.nD → PrngReg), Pre_PrepareIdeal m →
    (∀ c : Dev Cert.PrepareIdeal.nD,
      m' ((c.tc : Thread Cert.PrepareReferenceIdeal.nD Cert.PrepareReferenceIdeal.τ).loc Cert.PrepareReferenceIdeal.main_arg0) = m ((c.tc : Thread Cert.PrepareIdeal.nD Cert.PrepareIdeal.τ).loc Cert.PrepareIdeal.main_arg0)
      ∧ m' ((c.tc : Thread Cert.PrepareReferenceIdeal.nD Cert.PrepareReferenceIdeal.τ).loc Cert.PrepareReferenceIdeal.main_arg1) = m ((c.tc : Thread Cert.PrepareIdeal.nD Cert.PrepareIdeal.τ).loc Cert.PrepareIdeal.main_arg1)
      ∧ m' ((c.tc : Thread Cert.PrepareReferenceIdeal.nD Cert.PrepareReferenceIdeal.τ).loc Cert.PrepareReferenceIdeal.main_arg2) = m ((c.tc : Thread Cert.PrepareIdeal.nD Cert.PrepareIdeal.τ).loc Cert.PrepareIdeal.main_arg2)
      ∧ m' ((c.tc : Thread Cert.PrepareReferenceIdeal.nD Cert.PrepareReferenceIdeal.τ).loc Cert.PrepareReferenceIdeal.main_arg3) = m ((c.tc : Thread Cert.PrepareIdeal.nD Cert.PrepareIdeal.τ).loc Cert.PrepareIdeal.main_arg3)
      ∧ m' ((c.tc : Thread Cert.PrepareReferenceIdeal.nD Cert.PrepareReferenceIdeal.τ).loc Cert.PrepareReferenceIdeal.main_arg4) = m ((c.tc : Thread Cert.PrepareIdeal.nD Cert.PrepareIdeal.τ).loc Cert.PrepareIdeal.main_arg4)) →
    ∃ (v0 : (c : Dev Cert.PrepareIdeal.nD) → Buf (Elt Ideal) ((c.tc : Thread Cert.PrepareIdeal.nD Cert.PrepareIdeal.τ).loc Cert.PrepareIdeal.main_v2_0)) (v1 : (c : Dev Cert.PrepareIdeal.nD) → Buf (Elt Ideal) ((c.tc : Thread Cert.PrepareIdeal.nD Cert.PrepareIdeal.τ).loc Cert.PrepareIdeal.main_v2_1)) (v2 : (c : Dev Cert.PrepareIdeal.nD) → Buf (Elt Ideal) ((c.tc : Thread Cert.PrepareIdeal.nD Cert.PrepareIdeal.τ).loc Cert.PrepareIdeal.main_v2_2)) (v3 : (c : Dev Cert.PrepareIdeal.nD) → Buf (Elt Ideal) ((c.tc : Thread Cert.PrepareIdeal.nD Cert.PrepareIdeal.τ).loc Cert.PrepareIdeal.main_v2_3)),
      θ_run (Cert.PrepareIdeal.defs (F := Ideal)) (onTc (τ := Cert.PrepareIdeal.τ) (Cert.PrepareIdeal.main (F := Ideal))) ⟨m, fun _ => 0, g⟩ (fun r => ∀ c : Dev Cert.PrepareIdeal.nD,
          r.2.mem ((c.tc : Thread Cert.PrepareIdeal.nD Cert.PrepareIdeal.τ).loc Cert.PrepareIdeal.main_v2_0) = v0 c
          ∧ r.2.mem ((c.tc : Thread Cert.PrepareIdeal.nD Cert.PrepareIdeal.τ).loc Cert.PrepareIdeal.main_v2_1) = v1 c
          ∧ r.2.mem ((c.tc : Thread Cert.PrepareIdeal.nD Cert.PrepareIdeal.τ).loc Cert.PrepareIdeal.main_v2_2) = v2 c
          ∧ r.2.mem ((c.tc : Thread Cert.PrepareIdeal.nD Cert.PrepareIdeal.τ).loc Cert.PrepareIdeal.main_v2_3) = v3 c
          ∧ r.2.mem ((c.tc : Thread Cert.PrepareIdeal.nD Cert.PrepareIdeal.τ).loc Cert.PrepareIdeal.main_arg0) = m ((c.tc : Thread Cert.PrepareIdeal.nD Cert.PrepareIdeal.τ).loc Cert.PrepareIdeal.main_arg0)
          ∧ r.2.mem ((c.tc : Thread Cert.PrepareIdeal.nD Cert.PrepareIdeal.τ).loc Cert.PrepareIdeal.main_arg1) = m ((c.tc : Thread Cert.PrepareIdeal.nD Cert.PrepareIdeal.τ).loc Cert.PrepareIdeal.main_arg1)
          ∧ r.2.mem ((c.tc : Thread Cert.PrepareIdeal.nD Cert.PrepareIdeal.τ).loc Cert.PrepareIdeal.main_arg2) = m ((c.tc : Thread Cert.PrepareIdeal.nD Cert.PrepareIdeal.τ).loc Cert.PrepareIdeal.main_arg2)
          ∧ r.2.mem ((c.tc : Thread Cert.PrepareIdeal.nD Cert.PrepareIdeal.τ).loc Cert.PrepareIdeal.main_arg3) = m ((c.tc : Thread Cert.PrepareIdeal.nD Cert.PrepareIdeal.τ).loc Cert.PrepareIdeal.main_arg3)
          ∧ r.2.mem ((c.tc : Thread Cert.PrepareIdeal.nD Cert.PrepareIdeal.τ).loc Cert.PrepareIdeal.main_arg4) = m ((c.tc : Thread Cert.PrepareIdeal.nD Cert.PrepareIdeal.τ).loc Cert.PrepareIdeal.main_arg4))
      ∧ θ_run (Cert.PrepareReferenceIdeal.defs (F := Ideal)) (onTc (τ := Cert.PrepareReferenceIdeal.τ) (Cert.PrepareReferenceIdeal.main (F := Ideal))) ⟨m', fun _ => 0, g'⟩ (fun r => ∀ c : Dev Cert.PrepareReferenceIdeal.nD,
          r.2.mem ((c.tc : Thread Cert.PrepareReferenceIdeal.nD Cert.PrepareReferenceIdeal.τ).loc Cert.PrepareReferenceIdeal.main_v75) = v0 c
          ∧ r.2.mem ((c.tc : Thread Cert.PrepareReferenceIdeal.nD Cert.PrepareReferenceIdeal.τ).loc Cert.PrepareReferenceIdeal.main_v76) = v1 c
          ∧ r.2.mem ((c.tc : Thread Cert.PrepareReferenceIdeal.nD Cert.PrepareReferenceIdeal.τ).loc Cert.PrepareReferenceIdeal.main_v77) = v2 c
          ∧ r.2.mem ((c.tc : Thread Cert.PrepareReferenceIdeal.nD Cert.PrepareReferenceIdeal.τ).loc Cert.PrepareReferenceIdeal.main_v73) = v3 c
          ∧ r.2.mem ((c.tc : Thread Cert.PrepareReferenceIdeal.nD Cert.PrepareReferenceIdeal.τ).loc Cert.PrepareReferenceIdeal.main_arg0) = m' ((c.tc : Thread Cert.PrepareReferenceIdeal.nD Cert.PrepareReferenceIdeal.τ).loc Cert.PrepareReferenceIdeal.main_arg0)
          ∧ r.2.mem ((c.tc : Thread Cert.PrepareReferenceIdeal.nD Cert.PrepareReferenceIdeal.τ).loc Cert.PrepareReferenceIdeal.main_arg1) = m' ((c.tc : Thread Cert.PrepareReferenceIdeal.nD Cert.PrepareReferenceIdeal.τ).loc Cert.PrepareReferenceIdeal.main_arg1)
          ∧ r.2.mem ((c.tc : Thread Cert.PrepareReferenceIdeal.nD Cert.PrepareReferenceIdeal.τ).loc Cert.PrepareReferenceIdeal.main_arg2) = m' ((c.tc : Thread Cert.PrepareReferenceIdeal.nD Cert.PrepareReferenceIdeal.τ).loc Cert.PrepareReferenceIdeal.main_arg2)
          ∧ r.2.mem ((c.tc : Thread Cert.PrepareReferenceIdeal.nD Cert.PrepareReferenceIdeal.τ).loc Cert.PrepareReferenceIdeal.main_arg3) = m' ((c.tc : Thread Cert.PrepareReferenceIdeal.nD Cert.PrepareReferenceIdeal.τ).loc Cert.PrepareReferenceIdeal.main_arg3)
          ∧ r.2.mem ((c.tc : Thread Cert.PrepareReferenceIdeal.nD Cert.PrepareReferenceIdeal.τ).loc Cert.PrepareReferenceIdeal.main_arg4) = m' ((c.tc : Thread Cert.PrepareReferenceIdeal.nD Cert.PrepareReferenceIdeal.τ).loc Cert.PrepareReferenceIdeal.main_arg4))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v2) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1))

def preserves_Dense_DenseIdeal : Prop :=
  True

def algebraic_DenseIdeal_DenseReferenceIdeal [hDenseIdeal : Cert.DenseIdeal.Facts] [hDenseReferenceIdeal : Cert.DenseReferenceIdeal.Facts] [hPre_one_expert : Cert.Pre_one_expert.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)) →
    ∃ (v0 : (c : Dev Cert.DenseIdeal.nD) → Buf (Elt Ideal) ((c.tc : Thread Cert.DenseIdeal.nD Cert.DenseIdeal.τ).loc Cert.DenseIdeal.main_v0)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v0) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v9) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4))

def preserves_Out_OutIdeal : Prop :=
  True

def algebraic_OutIdeal_OutReferenceIdeal [hOutIdeal : Cert.OutIdeal.Facts] [hOutReferenceIdeal : Cert.OutReferenceIdeal.Facts] [hPre_one_weight : Cert.Pre_one_weight.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v16) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5))

def preserves_Low_LowIdeal : Prop :=
  True

def algebraic_LowIdeal_LowReferenceIdeal [hLowIdeal : Cert.LowIdeal.Facts] [hLowReferenceIdeal : Cert.LowReferenceIdeal.Facts] [hPre_one_weight_low : Cert.Pre_one_weight_low.Facts] : Prop :=
  ∀ (m : (ℓ : Loc Cert.LowIdeal.nD Cert.LowIdeal.τ Cert.LowIdeal.sig) → Buf (Elt Ideal) ℓ) (g : Dev Cert.LowIdeal.nD → PrngReg)
    (m' : (ℓ : Loc Cert.LowReferenceIdeal.nD Cert.LowReferenceIdeal.τ Cert.LowReferenceIdeal.sig) → Buf (Elt Ideal) ℓ) (g' : Dev Cert.LowReferenceIdeal.nD → PrngReg), Pre_LowIdeal m →
    (∀ c : Dev Cert.LowIdeal.nD,
      m' ((c.tc : Thread Cert.LowReferenceIdeal.nD Cert.LowReferenceIdeal.τ).loc Cert.LowReferenceIdeal.main_arg0) = m ((c.tc : Thread Cert.LowIdeal.nD Cert.LowIdeal.τ).loc Cert.LowIdeal.main_arg0)
      ∧ m' ((c.tc : Thread Cert.LowReferenceIdeal.nD Cert.LowReferenceIdeal.τ).loc Cert.LowReferenceIdeal.main_arg1) = m ((c.tc : Thread Cert.LowIdeal.nD Cert.LowIdeal.τ).loc Cert.LowIdeal.main_arg1)
      ∧ m' ((c.tc : Thread Cert.LowReferenceIdeal.nD Cert.LowReferenceIdeal.τ).loc Cert.LowReferenceIdeal.main_arg2) = m ((c.tc : Thread Cert.LowIdeal.nD Cert.LowIdeal.τ).loc Cert.LowIdeal.main_arg2)
      ∧ m' ((c.tc : Thread Cert.LowReferenceIdeal.nD Cert.LowReferenceIdeal.τ).loc Cert.LowReferenceIdeal.main_arg3) = m ((c.tc : Thread Cert.LowIdeal.nD Cert.LowIdeal.τ).loc Cert.LowIdeal.main_arg3)
      ∧ m' ((c.tc : Thread Cert.LowReferenceIdeal.nD Cert.LowReferenceIdeal.τ).loc Cert.LowReferenceIdeal.main_arg4) = m ((c.tc : Thread Cert.LowIdeal.nD Cert.LowIdeal.τ).loc Cert.LowIdeal.main_arg4)
      ∧ m' ((c.tc : Thread Cert.LowReferenceIdeal.nD Cert.LowReferenceIdeal.τ).loc Cert.LowReferenceIdeal.main_arg5) = m ((c.tc : Thread Cert.LowIdeal.nD Cert.LowIdeal.τ).loc Cert.LowIdeal.main_arg5)) →
    ∃ (v0 : (c : Dev Cert.LowIdeal.nD) → Buf (Elt Ideal) ((c.tc : Thread Cert.LowIdeal.nD Cert.LowIdeal.τ).loc Cert.LowIdeal.main_v0)),
      θ_run (Cert.LowIdeal.defs (F := Ideal)) (onTc (τ := Cert.LowIdeal.τ) (Cert.LowIdeal.main (F := Ideal))) ⟨m, fun _ => 0, g⟩ (fun r => ∀ c : Dev Cert.LowIdeal.nD,
          r.2.mem ((c.tc : Thread Cert.LowIdeal.nD Cert.LowIdeal.τ).loc Cert.LowIdeal.main_v0) = v0 c
          ∧ r.2.mem ((c.tc : Thread Cert.LowIdeal.nD Cert.LowIdeal.τ).loc Cert.LowIdeal.main_arg0) = m ((c.tc : Thread Cert.LowIdeal.nD Cert.LowIdeal.τ).loc Cert.LowIdeal.main_arg0)
          ∧ r.2.mem ((c.tc : Thread Cert.LowIdeal.nD Cert.LowIdeal.τ).loc Cert.LowIdeal.main_arg1) = m ((c.tc : Thread Cert.LowIdeal.nD Cert.LowIdeal.τ).loc Cert.LowIdeal.main_arg1)
          ∧ r.2.mem ((c.tc : Thread Cert.LowIdeal.nD Cert.LowIdeal.τ).loc Cert.LowIdeal.main_arg2) = m ((c.tc : Thread Cert.LowIdeal.nD Cert.LowIdeal.τ).loc Cert.LowIdeal.main_arg2)
          ∧ r.2.mem ((c.tc : Thread Cert.LowIdeal.nD Cert.LowIdeal.τ).loc Cert.LowIdeal.main_arg3) = m ((c.tc : Thread Cert.LowIdeal.nD Cert.LowIdeal.τ).loc Cert.LowIdeal.main_arg3)
          ∧ r.2.mem ((c.tc : Thread Cert.LowIdeal.nD Cert.LowIdeal.τ).loc Cert.LowIdeal.main_arg4) = m ((c.tc : Thread Cert.LowIdeal.nD Cert.LowIdeal.τ).loc Cert.LowIdeal.main_arg4)
          ∧ r.2.mem ((c.tc : Thread Cert.LowIdeal.nD Cert.LowIdeal.τ).loc Cert.LowIdeal.main_arg5) = m ((c.tc : Thread Cert.LowIdeal.nD Cert.LowIdeal.τ).loc Cert.LowIdeal.main_arg5))
      ∧ θ_run (Cert.LowReferenceIdeal.defs (F := Ideal)) (onTc (τ := Cert.LowReferenceIdeal.τ) (Cert.LowReferenceIdeal.main (F := Ideal))) ⟨m', fun _ => 0, g'⟩ (fun r => ∀ c : Dev Cert.LowReferenceIdeal.nD,
          r.2.mem ((c.tc : Thread Cert.LowReferenceIdeal.nD Cert.LowReferenceIdeal.τ).loc Cert.LowReferenceIdeal.main_v16) = v0 c
          ∧ r.2.mem ((c.tc : Thread Cert.LowReferenceIdeal.nD Cert.LowReferenceIdeal.τ).loc Cert.LowReferenceIdeal.main_arg0) = m' ((c.tc : Thread Cert.LowReferenceIdeal.nD Cert.LowReferenceIdeal.τ).loc Cert.LowReferenceIdeal.main_arg0)
          ∧ r.2.mem ((c.tc : Thread Cert.LowReferenceIdeal.nD Cert.LowReferenceIdeal.τ).loc Cert.LowReferenceIdeal.main_arg1) = m' ((c.tc : Thread Cert.LowReferenceIdeal.nD Cert.LowReferenceIdeal.τ).loc Cert.LowReferenceIdeal.main_arg1)
          ∧ r.2.mem ((c.tc : Thread Cert.LowReferenceIdeal.nD Cert.LowReferenceIdeal.τ).loc Cert.LowReferenceIdeal.main_arg2) = m' ((c.tc : Thread Cert.LowReferenceIdeal.nD Cert.LowReferenceIdeal.τ).loc Cert.LowReferenceIdeal.main_arg2)
          ∧ r.2.mem ((c.tc : Thread Cert.LowReferenceIdeal.nD Cert.LowReferenceIdeal.τ).loc Cert.LowReferenceIdeal.main_arg3) = m' ((c.tc : Thread Cert.LowReferenceIdeal.nD Cert.LowReferenceIdeal.τ).loc Cert.LowReferenceIdeal.main_arg3)
          ∧ r.2.mem ((c.tc : Thread Cert.LowReferenceIdeal.nD Cert.LowReferenceIdeal.τ).loc Cert.LowReferenceIdeal.main_arg4) = m' ((c.tc : Thread Cert.LowReferenceIdeal.nD Cert.LowReferenceIdeal.τ).loc Cert.LowReferenceIdeal.main_arg4)
          ∧ r.2.mem ((c.tc : Thread Cert.LowReferenceIdeal.nD Cert.LowReferenceIdeal.τ).loc Cert.LowReferenceIdeal.main_arg5) = m' ((c.tc : Thread Cert.LowReferenceIdeal.nD Cert.LowReferenceIdeal.τ).loc Cert.LowReferenceIdeal.main_arg5))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hNorm : Cert.Norm.Facts) (hNormIdeal : Cert.NormIdeal.Facts) (hNormReferenceIdeal : Cert.NormReferenceIdeal.Facts) (hProject : Cert.Project.Facts) (hProjectIdeal : Cert.ProjectIdeal.Facts) (hProjectReferenceIdeal : Cert.ProjectReferenceIdeal.Facts) (hPrepare : Cert.Prepare.Facts) (hPrepareIdeal : Cert.PrepareIdeal.Facts) (hPrepareReferenceIdeal : Cert.PrepareReferenceIdeal.Facts) (hMix : Cert.Mix.Facts) (hMixIdeal : Cert.MixIdeal.Facts) (hMixReferenceIdeal : Cert.MixReferenceIdeal.Facts) (hDense : Cert.Dense.Facts) (hDenseIdeal : Cert.DenseIdeal.Facts) (hDenseReferenceIdeal : Cert.DenseReferenceIdeal.Facts) (hOut : Cert.Out.Facts) (hOutIdeal : Cert.OutIdeal.Facts) (hOutReferenceIdeal : Cert.OutReferenceIdeal.Facts) (hLow : Cert.Low.Facts) (hLowIdeal : Cert.LowIdeal.Facts) (hLowReferenceIdeal : Cert.LowReferenceIdeal.Facts) (hPre_finite : Cert.Pre_finite.Facts) (hPre_routed_up : Cert.Pre_routed_up.Facts) (hPre_routed_down : Cert.Pre_routed_down.Facts) (hPre_one_expert : Cert.Pre_one_expert.Facts) (hPre_one_weight : Cert.Pre_one_weight.Facts) (hPre_one_weight_low : Cert.Pre_one_weight_low.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp) (hPre_routed_up := hPre_routed_up)
    ∧ quiescent_UpIdeal (hUpIdeal := hUpIdeal) (hPre_routed_up := hPre_routed_up)
    ∧ quiescent_UpReferenceIdeal (hUpReferenceIdeal := hUpReferenceIdeal)
    ∧ quiescent_UpReferenceIdeal_pre_routed_up (hUpReferenceIdeal := hUpReferenceIdeal) (hPre_routed_up := hPre_routed_up)
    ∧ quiescent_Down (hDown := hDown) (hPre_routed_down := hPre_routed_down)
    ∧ quiescent_DownIdeal (hDownIdeal := hDownIdeal) (hPre_routed_down := hPre_routed_down)
    ∧ quiescent_DownReferenceIdeal (hDownReferenceIdeal := hDownReferenceIdeal)
    ∧ quiescent_DownReferenceIdeal_pre_routed_down (hDownReferenceIdeal := hDownReferenceIdeal) (hPre_routed_down := hPre_routed_down)
    ∧ quiescent_Norm (hNorm := hNorm)
    ∧ quiescent_NormIdeal (hNormIdeal := hNormIdeal)
    ∧ quiescent_NormReferenceIdeal (hNormReferenceIdeal := hNormReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_Prepare (hPrepare := hPrepare)
    ∧ quiescent_PrepareIdeal (hPrepareIdeal := hPrepareIdeal)
    ∧ quiescent_PrepareReferenceIdeal (hPrepareReferenceIdeal := hPrepareReferenceIdeal)
    ∧ quiescent_Mix (hMix := hMix)
    ∧ quiescent_MixIdeal (hMixIdeal := hMixIdeal)
    ∧ quiescent_MixReferenceIdeal (hMixReferenceIdeal := hMixReferenceIdeal)
    ∧ quiescent_Dense (hDense := hDense) (hPre_one_expert := hPre_one_expert)
    ∧ quiescent_DenseIdeal (hDenseIdeal := hDenseIdeal) (hPre_one_expert := hPre_one_expert)
    ∧ quiescent_DenseReferenceIdeal (hDenseReferenceIdeal := hDenseReferenceIdeal)
    ∧ quiescent_DenseReferenceIdeal_pre_one_expert (hDenseReferenceIdeal := hDenseReferenceIdeal) (hPre_one_expert := hPre_one_expert)
    ∧ quiescent_Out (hOut := hOut) (hPre_one_weight := hPre_one_weight)
    ∧ quiescent_OutIdeal (hOutIdeal := hOutIdeal) (hPre_one_weight := hPre_one_weight)
    ∧ quiescent_OutReferenceIdeal (hOutReferenceIdeal := hOutReferenceIdeal)
    ∧ quiescent_OutReferenceIdeal_pre_one_weight (hOutReferenceIdeal := hOutReferenceIdeal) (hPre_one_weight := hPre_one_weight)
    ∧ quiescent_Low (hLow := hLow) (hPre_one_weight_low := hPre_one_weight_low)
    ∧ quiescent_LowIdeal (hLowIdeal := hLowIdeal) (hPre_one_weight_low := hPre_one_weight_low)
    ∧ quiescent_LowReferenceIdeal (hLowReferenceIdeal := hLowReferenceIdeal)
    ∧ quiescent_LowReferenceIdeal_pre_one_weight_low (hLowReferenceIdeal := hLowReferenceIdeal) (hPre_one_weight_low := hPre_one_weight_low)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpReferenceIdeal (hUpIdeal := hUpIdeal) (hUpReferenceIdeal := hUpReferenceIdeal) (hPre_routed_up := hPre_routed_up)
    ∧ preserves_Down_DownIdeal
    ∧ algebraic_DownIdeal_DownReferenceIdeal (hDownIdeal := hDownIdeal) (hDownReferenceIdeal := hDownReferenceIdeal) (hPre_routed_down := hPre_routed_down)
    ∧ preserves_Norm_NormIdeal
    ∧ algebraic_NormIdeal_NormReferenceIdeal (hNormIdeal := hNormIdeal) (hNormReferenceIdeal := hNormReferenceIdeal)
    ∧ preserves_Project_ProjectIdeal
    ∧ algebraic_ProjectIdeal_ProjectReferenceIdeal (hProjectIdeal := hProjectIdeal) (hProjectReferenceIdeal := hProjectReferenceIdeal)
    ∧ preserves_Prepare_PrepareIdeal
    ∧ algebraic_PrepareIdeal_PrepareReferenceIdeal (hPrepareIdeal := hPrepareIdeal) (hPrepareReferenceIdeal := hPrepareReferenceIdeal)
    ∧ preserves_Mix_MixIdeal
    ∧ algebraic_MixIdeal_MixReferenceIdeal (hMixIdeal := hMixIdeal) (hMixReferenceIdeal := hMixReferenceIdeal)
    ∧ preserves_Dense_DenseIdeal
    ∧ algebraic_DenseIdeal_DenseReferenceIdeal (hDenseIdeal := hDenseIdeal) (hDenseReferenceIdeal := hDenseReferenceIdeal) (hPre_one_expert := hPre_one_expert)
    ∧ preserves_Out_OutIdeal
    ∧ algebraic_OutIdeal_OutReferenceIdeal (hOutIdeal := hOutIdeal) (hOutReferenceIdeal := hOutReferenceIdeal) (hPre_one_weight := hPre_one_weight)
    ∧ preserves_Low_LowIdeal
    ∧ algebraic_LowIdeal_LowReferenceIdeal (hLowIdeal := hLowIdeal) (hLowReferenceIdeal := hLowReferenceIdeal) (hPre_one_weight_low := hPre_one_weight_low)
-- ==== Pre_finite.lean ====
abbrev S24576x4096 : Shape := ⟨2, ![24576, 4096]⟩
abbrev S24576x512 : Shape := ⟨2, ![24576, 512]⟩
abbrev S4096x512 : Shape := ⟨2, ![4096, 512]⟩
abbrev S_ : Shape := ⟨0, ![]⟩

class Facts : Prop where
  bitsLt_bf16_f32 : FTy.bits .bf16 < FTy.bits .f32
  bcast_S_S24576x4096 : S_.BroadcastsInDim S24576x4096 (![] : Fin 0 → Fin S24576x4096.rank)
  reducesTo_S24576x4096_S_d0_1 : S24576x4096.ReducesTo [0, 1] S_
  h_S_ : 0 < S_.numel
  bcast_S_S24576x512 : S_.BroadcastsInDim S24576x512 (![] : Fin 0 → Fin S24576x512.rank)
  reducesTo_S24576x512_S_d0_1 : S24576x512.ReducesTo [0, 1] S_
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S24576x4096 .bf16) (main_arg1 : FVec F S24576x512 .bf16) (main_arg2 : FVec F S24576x512 .bf16) (main_arg3 : FVec F S4096x512 .bf16) (main_arg4 : FVec F S4096x512 .bf16) : IVec S_ 1 :=
  let main_v0 : FVec F S24576x4096 .f32 := (extf .f32 · bitsLt_bf16_f32) main_arg0
  let main_v1 : FVec F S24576x4096 .f32 := Host.absf main_v0
  let main_cst : FVec F S_ .f32 := constant S_ .f32 0x7F800000#32
  let main_v2 : FVec F S24576x4096 .f32 := broadcastInDim S24576x4096 ![] bcast_S_S24576x4096 main_cst
  let main_v3 : IVec S24576x4096 1 := cmpf .olt main_v1 main_v2
  let main_c : IVec S_ 1 := constantI S_ 1 1#1
  let main_v4 : IVec S_ 1 := (fun x v => Host.reduce IntOp.andi x v reducesTo_S24576x4096_S_d0_1 h_S_) main_v3 main_c
  let main_v5 : FVec F S24576x512 .f32 := (extf .f32 · bitsLt_bf16_f32) main_arg1
  let main_v6 : FVec F S24576x512 .f32 := Host.absf main_v5
  let main_cst_0 : FVec F S_ .f32 := constant S_ .f32 0x7F800000#32
  let main_v7 : FVec F S24576x512 .f32 := broadcastInDim S24576x512 ![] bcast_S_S24576x512 main_cst_0
  let main_v8 : IVec S24576x512 1 := cmpf .olt main_v6 main_v7
  let main_c_1 : IVec S_ 1 := constantI S_ 1 1#1
  let main_v9 : IVec S_ 1 := (fun x v => Host.reduce IntOp.andi x v reducesTo_S24576x512_S_d0_1 h_S_) main_v8 main_c_1
  let main_v10 : IVec S_ 1 := andi main_v4 main_v9
  let main_v11 : FVec F S4096x512 .f32 := (extf .f32 · bitsLt_bf16_f32) main_arg3
  let main_v12 : FVec F S4096x512 .f32 := Host.absf main_v11
  let main_cst_2 : FVec F S_ .f32 := constant S_ .f32 0x7F800000#32
  let main_v13 : FVec F S4096x512 .f32 := broadcastInDim S4096x512 ![] bcast_S_S4096x512 main_cst_2
  let main_v14 : IVec S4096x512 1 := cmpf .olt main_v12 main_v13
  let main_c_3 : IVec S_ 1 := constantI S_ 1 1#1
  let main_v15 : IVec S_ 1 := (fun x v => Host.reduce IntOp.andi x v reducesTo_S4096x512_S_d0_1 h_S_) main_v14 main_c_3
  let main_v16 : IVec S_ 1 := andi main_v10 main_v15
  main_v16
-- ==== Pre_one_expert.lean ====
abbrev S24 : Shape := ⟨1, ![24]⟩
abbrev S1 : Shape := ⟨1, ![1]⟩
abbrev S24576x2048 : Shape := ⟨2, ![24576, 2048]⟩
abbrev S1x2048x5632 : Shape := ⟨3, ![1, 2048, 5632]⟩
abbrev S_ : Shape := ⟨0, ![]⟩

class Facts : Prop where
  bcast_S_S24 : S_.BroadcastsInDim S24 (![] : Fin 0 → Fin S24.rank)
  reducesTo_S24_S_d0 : S24.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S24 32) (main_arg1 : IVec S1 32) (main_arg2 : FVec F S24576x2048 .bf16) (main_arg3 : FVec F S1x2048x5632 .bf16) (main_arg4 : FVec F S1x2048x5632 .bf16) : IVec S_ 1 :=
  let main_c : IVec S_ 32 := constantI S_ 32 0#32
  let main_v0 : IVec S24 32 := broadcastInDim S24 ![] bcast_S_S24 main_c
  let main_v1 : IVec S24 1 := cmpi .eq main_arg0 main_v0
  let main_c_0 : IVec S_ 1 := constantI S_ 1 1#1
  let main_v2 : IVec S_ 1 := (fun x v => Host.reduce IntOp.andi x v reducesTo_S24_S_d0 h_S_) main_v1 main_c_0
  let main_c_1 : IVec S_ 32 := constantI S_ 32 24#32
  let main_v3 : IVec S1 32 := broadcastInDim S1 ![] bcast_S_S1 main_c_1
  let main_v4 : IVec S1 1 := cmpi .eq main_arg1 main_v3
  let main_c_2 : IVec S_ 1 := constantI S_ 1 1#1
  let main_v5 : IVec S_ 1 := (fun x v => Host.reduce IntOp.andi x v reducesTo_S1_S_d0 h_S_) main_v4 main_c_2
  let main_v6 : IVec S_ 1 := andi main_v2 main_v5
  main_v6
-- ==== Pre_one_weight.lean ====
abbrev S48 : Shape := ⟨1, ![48]⟩
abbrev S1 : Shape := ⟨1, ![1]⟩
abbrev S24576x4096 : Shape := ⟨2, ![24576, 4096]⟩
abbrev S1x4096x2048 : Shape := ⟨3, ![1, 4096, 2048]⟩
abbrev S24576x2048 : Shape := ⟨2, ![24576, 2048]⟩
abbrev S96x1x2048 : Shape := ⟨3, ![96, 1, 2048]⟩
abbrev S_ : Shape := ⟨0, ![]⟩

class Facts : Prop where
  bcast_S_S48 : S_.BroadcastsInDim S48 (![] : Fin 0 → Fin S48.rank)
  reducesTo_S48_S_d0 : S48.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S48 32) (main_arg1 : IVec S1 32) (main_arg2 : FVec F S24576x4096 .bf16) (main_arg3 : FVec F S1x4096x2048 .bf16) (main_arg4 : FVec F S24576x2048 .f32) (main_arg5 : FVec F S96x1x2048 .f32) : IVec S_ 1 :=
  let main_c : IVec S_ 32 := constantI S_ 32 0#32
  let main_v0 : IVec S48 32 := broadcastInDim S48 ![] bcast_S_S48 main_c
  let main_v1 : IVec S48 1 := cmpi .eq main_arg0 main_v0
  let main_c_0 : IVec S_ 1 := constantI S_ 1 1#1
  let main_v2 : IVec S_ 1 := (fun x v => Host.reduce IntOp.andi x v reducesTo_S48_S_d0 h_S_) main_v1 main_c_0
  let main_c_1 : IVec S_ 32 := constantI S_ 32 48#32
  let main_v3 : IVec S1 32 := broadcastInDim S1 ![] bcast_S_S1 main_c_1
  let main_v4 : IVec S1 1 := cmpi .eq main_arg1 main_v3
  let main_c_2 : IVec S_ 1 := constantI S_ 1 1#1
  let main_v5 : IVec S_ 1 := (fun x v => Host.reduce IntOp.andi x v reducesTo_S1_S_d0 h_S_) main_v4 main_c_2
  let main_v6 : IVec S_ 1 := andi main_v2 main_v5
  main_v6
-- ==== Pre_one_weight_low.lean ====
abbrev S48 : Shape := ⟨1, ![48]⟩
abbrev S1 : Shape := ⟨1, ![1]⟩
abbrev S24576x5632 : Shape := ⟨2, ![24576, 5632]⟩
abbrev S1x5632x2048 : Shape := ⟨3, ![1, 5632, 2048]⟩
abbrev S24576x2048 : Shape := ⟨2, ![24576, 2048]⟩
abbrev S96x1x2048 : Shape := ⟨3, ![96, 1, 2048]⟩
abbrev S_ : Shape := ⟨0, ![]⟩

class Facts : Prop where
  bcast_S_S48 : S_.BroadcastsInDim S48 (![] : Fin 0 → Fin S48.rank)
  reducesTo_S48_S_d0 : S48.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S48 32) (main_arg1 : IVec S1 32) (main_arg2 : FVec F S24576x5632 .bf16) (main_arg3 : FVec F S1x5632x2048 .bf16) (main_arg4 : FVec F S24576x2048 .f32) (main_arg5 : FVec F S96x1x2048 .f32) : IVec S_ 1 :=
  let main_c : IVec S_ 32 := constantI S_ 32 0#32
  let main_v0 : IVec S48 32 := broadcastInDim S48 ![] bcast_S_S48 main_c
  let main_v1 : IVec S48 1 := cmpi .eq main_arg0 main_v0
  let main_c_0 : IVec S_ 1 := constantI S_ 1 1#1
  let main_v2 : IVec S_ 1 := (fun x v => Host.reduce IntOp.andi x v reducesTo_S48_S_d0 h_S_) main_v1 main_c_0
  let main_c_1 : IVec S_ 32 := constantI S_ 32 48#32
  let main_v3 : IVec S1 32 := broadcastInDim S1 ![] bcast_S_S1 main_c_1
  let main_v4 : IVec S1 1 := cmpi .eq main_arg1 main_v3
  let main_c_2 : IVec S_ 1 := constantI S_ 1 1#1
  let main_v5 : IVec S_ 1 := (fun x v => Host.reduce IntOp.andi x v reducesTo_S1_S_d0 h_S_) main_v4 main_c_2
  let main_v6 : IVec S_ 1 := andi main_v2 main_v5
  main_v6
-- ==== Pre_routed_down.lean ====
abbrev S384 : Shape := ⟨1, ![384]⟩
abbrev S1 : Shape := ⟨1, ![1]⟩
abbrev S196608x7168 : Shape := ⟨2, ![196608, 7168]⟩
abbrev S8x7168x2048 : Shape := ⟨3, ![8, 7168, 2048]⟩
abbrev S8x48 : Shape := ⟨2, ![8, 48]⟩
abbrev S_ : Shape := ⟨0, ![]⟩

class Facts : Prop where
  shapeCasts_S8x48_S384 : S8x48.ShapeCasts S384
  reducesTo_S384_S_d0 : S384.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S384 32) (main_arg1 : IVec S1 32) (main_arg2 : FVec F S196608x7168 .bf16) (main_arg3 : FVec F S8x7168x2048 .bf16) : IVec S_ 1 :=
  let main_v0 : IVec S8x48 32 := iotaInDim S8x48 32 0
  let main_v1 : IVec S384 32 := shapeCast S384 main_v0 shapeCasts_S8x48_S384
  let main_v2 : IVec S384 1 := cmpi .eq main_arg0 main_v1
  let main_c : IVec S_ 1 := constantI S_ 1 1#1
  let main_v3 : IVec S_ 1 := (fun x v => Host.reduce IntOp.andi x v reducesTo_S384_S_d0 h_S_) main_v2 main_c
  let main_c_0 : IVec S_ 32 := constantI S_ 32 384#32
  let main_v4 : IVec S1 32 := broadcastInDim S1 ![] bcast_S_S1 main_c_0
  let main_v5 : IVec S1 1 := cmpi .eq main_arg1 main_v4
  let main_c_1 : IVec S_ 1 := constantI S_ 1 1#1
  let main_v6 : IVec S_ 1 := (fun x v => Host.reduce IntOp.andi x v reducesTo_S1_S_d0 h_S_) main_v5 main_c_1
  let main_v7 : IVec S_ 1 := andi main_v3 main_v6
  main_v7
-- ==== Pre_routed_up.lean ====
abbrev S384 : Shape := ⟨1, ![384]⟩
abbrev S1 : Shape := ⟨1, ![1]⟩
abbrev S196608x2048 : Shape := ⟨2, ![196608, 2048]⟩
abbrev S8x2048x7168 : Shape := ⟨3, ![8, 2048, 7168]⟩
abbrev S8x48 : Shape := ⟨2, ![8, 48]⟩
abbrev S_ : Shape := ⟨0, ![]⟩

class Facts : Prop where
  shapeCasts_S8x48_S384 : S8x48.ShapeCasts S384
  reducesTo_S384_S_d0 : S384.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S384 32) (main_arg1 : IVec S1 32) (main_arg2 : FVec F S196608x2048 .f32) (main_arg3 : FVec F S8x2048x7168 .bf16) (main_arg4 : FVec F S8x2048x7168 .bf16) : IVec S_ 1 :=
  let main_v0 : IVec S8x48 32 := iotaInDim S8x48 32 0
  let main_v1 : IVec S384 32 := shapeCast S384 main_v0 shapeCasts_S8x48_S384
  let main_v2 : IVec S384 1 := cmpi .eq main_arg0 main_v1
  let main_c : IVec S_ 1 := constantI S_ 1 1#1
  let main_v3 : IVec S_ 1 := (fun x v => Host.reduce IntOp.andi x v reducesTo_S384_S_d0 h_S_) main_v2 main_c
  let main_c_0 : IVec S_ 32 := constantI S_ 32 384#32
  let main_v4 : IVec S1 32 := broadcastInDim S1 ![] bcast_S_S1 main_c_0
  let main_v5 : IVec S1 1 := cmpi .eq main_arg1 main_v4
  let main_c_1 : IVec S_ 1 := constantI S_ 1 1#1
  let main_v6 : IVec S_ 1 := (fun x v => Host.reduce IntOp.andi x v reducesTo_S1_S_d0 h_S_) main_v5 main_c_1
  let main_v7 : IVec S_ 1 := andi main_v3 main_v6
  main_v7
-- ==== Kernel.lean ====
abbrev S24576x4096 : Shape := ⟨2, ![24576, 4096]⟩
abbrev S24576x512 : Shape := ⟨2, ![24576, 512]⟩
abbrev S4096x512 : Shape := ⟨2, ![4096, 512]⟩
abbrev S16384x4096 : Shape := ⟨2, ![16384, 4096]⟩
abbrev S256x2048 : Shape := ⟨2, ![256, 2048]⟩
abbrev S512x256 : Shape := ⟨2, ![512, 256]⟩
abbrev S2048x256 : Shape := ⟨2, ![2048, 256]⟩
abbrev S256x256 : Shape := ⟨2, ![256, 256]⟩
abbrev S256x512 : Shape := ⟨2, ![256, 512]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S24576x4096, .bf16⟩
  | .hbm, ⟨1, _⟩ => ⟨S24576x512, .bf16⟩
  | .hbm, ⟨2, _⟩ => ⟨S24576x512, .bf16⟩
  | .hbm, ⟨3, _⟩ => ⟨S4096x512, .bf16⟩
  | .hbm, ⟨4, _⟩ => ⟨S4096x512, .bf16⟩
  | .hbm, ⟨5, _⟩ => ⟨S16384x4096, .bf16⟩
  | .local _ .vmem, ⟨0, _⟩ => ⟨S256x2048, .bf16⟩
  | .local _ .vmem, ⟨1, _⟩ => ⟨S256x2048, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S256x2048, .bf16⟩
  | .local _ .vmem, ⟨11, _⟩ => ⟨S256x2048, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c32_i32 : BitVec 32 := 32#32
  let v1 : BitVec 32 := Scalar.addi c32_i32 v0
  let v2 : BitVec 32 := Scalar.addi v1 arg2
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S24576x4096 : Shape := ⟨2, ![24576, 4096]⟩
abbrev S24576x512 : Shape := ⟨2, ![24576, 512]⟩
abbrev S4096x512 : Shape := ⟨2, ![4096, 512]⟩
abbrev S16384x4096 : Shape := ⟨2, ![16384, 4096]⟩
abbrev S8x2048x2x8x256 : Shape := ⟨5, ![8, 2048, 2, 8, 256]⟩
abbrev S8x512x2x256 : Shape := ⟨4, ![8, 512, 2, 256]⟩
abbrev S16384x512 : Shape := ⟨2, ![16384, 512]⟩
abbrev S8x2048x2x256 : Shape := ⟨4, ![8, 2048, 2, 256]⟩
abbrev S8x2560x2x256 : Shape := ⟨4, ![8, 2560, 2, 256]⟩
abbrev S8x2x2560x2048x8 : Shape := ⟨5, ![8, 2, 2560, 2048, 8]⟩
abbrev S8x2x8x2048x2560 : Shape := ⟨5, ![8, 2, 8, 2048, 2560]⟩
abbrev S_ : Shape := ⟨0, ![]⟩
abbrev S8x2x8x2048 : Shape := ⟨4, ![8, 2, 8, 2048]⟩
abbrev S8x2x8x2048x1 : Shape := ⟨5, ![8, 2, 8, 2048, 1]⟩
abbrev S8x2x256x8x2048 : Shape := ⟨5, ![8, 2, 256, 8, 2048]⟩

abbrev nBuf : Space → Nat
  | .hbm => 40
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S24576x512, .bf16⟩
  | .hbm, ⟨2, _⟩ => ⟨S24576x512, .bf16⟩
  | .hbm, ⟨3, _⟩ => ⟨S4096x512, .bf16⟩
  | .hbm, ⟨4, _⟩ => ⟨S4096x512, .bf16⟩
  | .hbm, ⟨5, _⟩ => ⟨S24576x4096, .f32⟩
  | .hbm, ⟨6, _⟩ => ⟨S24576x512, .f32⟩
  | .hbm, ⟨7, _⟩ => ⟨S24576x512, .f32⟩
  | .hbm, ⟨8, _⟩ => ⟨S4096x512, .f32⟩
  | .hbm, ⟨9, _⟩ => ⟨S4096x512, .f32⟩
  | .hbm, ⟨10, _⟩ => ⟨S16384x4096, .f32⟩
  | .hbm, ⟨11, _⟩ => ⟨S8x2048x2x8x256, .f32⟩
  | .hbm, ⟨12, _⟩ => ⟨S8x512x2x256, .f32⟩
  | .hbm, ⟨13, _⟩ => ⟨S16384x512, .f32⟩
  | .hbm, ⟨14, _⟩ => ⟨S8x2048x2x256, .f32⟩
  | .hbm, ⟨15, _⟩ => ⟨S8x2560x2x256, .f32⟩
  | .hbm, ⟨16, _⟩ => ⟨S8x512x2x256, .f32⟩
  | .hbm, ⟨17, _⟩ => ⟨S16384x512, .f32⟩
  | .hbm, ⟨18, _⟩ => ⟨S8x2048x2x256, .f32⟩
  | .hbm, ⟨19, _⟩ => ⟨S8x2560x2x256, .f32⟩
  | .hbm, ⟨20, _⟩ => ⟨S8x2x2560x2048x8, .f32⟩
  | .hbm, ⟨21, _⟩ => ⟨S8x2x8x2048x2560, .f32⟩
  | .hbm, ⟨22, _⟩ => ⟨S_, .f32⟩
  | .hbm, ⟨23, _⟩ => ⟨S8x2x8x2048, .f32⟩
  | .hbm, ⟨24, _⟩ => ⟨S_, .f32⟩
  | .hbm, ⟨25, _⟩ => ⟨S8x2x8x2048, .f32⟩
  | .hbm, ⟨26, _⟩ => ⟨S8x2x8x2048, .f32⟩
  | .hbm, ⟨27, _⟩ => ⟨S8x2x8x2048x1, .f32⟩
  | .hbm, ⟨28, _⟩ => ⟨S8x2x8x2048x2560, .f32⟩
  | .hbm, ⟨29, _⟩ => ⟨S8x2x8x2048x2560, .f32⟩
  | .hbm, ⟨30, _⟩ => ⟨S8x2x8x2048x2560, .f32⟩
  | .hbm, ⟨31, _⟩ => ⟨S_, .f32⟩
  | .hbm, ⟨32, _⟩ => ⟨S8x2x8x2048, .f32⟩
  | .hbm, ⟨33, _⟩ => ⟨S8x2x8x2048x1, .f32⟩
  | .hbm, ⟨34, _⟩ => ⟨S8x2x8x2048x2560, .f32⟩
  | .hbm, ⟨35, _⟩ => ⟨S8x2x8x2048x2560, .f32⟩
  | .hbm, ⟨36, _⟩ => ⟨S8x2x256x8x2048, .f32⟩
  | .hbm, ⟨37, _⟩ => ⟨S8x2048x2x8x256, .f32⟩
  | .hbm, ⟨38, _⟩ => ⟨S16384x4096, .f32⟩
  | .hbm, ⟨39, _⟩ => ⟨S16384x4096, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Up.lean ====
abbrev S384 : Shape := ⟨1, ![384]⟩
abbrev S1 : Shape := ⟨1, ![1]⟩
abbrev S196608x2048 : Shape := ⟨2, ![196608, 2048]⟩
abbrev S8x2048x7168 : Shape := ⟨3, ![8, 2048, 7168]⟩
abbrev S196608x7168 : Shape := ⟨2, ![196608, 7168]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 4
  | .vmem => 8
  | .smem => 2
  | _ => 0

abbrev bufTy : (tb : Table) → Fin (tcTables nBuf tb) → BufTy
  | .hbm, ⟨0, _⟩ => ⟨S196608x2048, .f32⟩
  | .hbm, ⟨1, _⟩ => ⟨S8x2048x7168, .bf16⟩
  | .hbm, ⟨2, _⟩ => ⟨S8x2048x7168, .bf16⟩
  | .hbm, ⟨3, _⟩ => ⟨S196608x7168, .bf16⟩
  | .local _ .vmem, ⟨0, _⟩ => ⟨S512x2048, .f32⟩
  | .local _ .vmem, ⟨1, _⟩ => ⟨S512x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S512x1024, .bf16⟩
  | .local _ .vmem, ⟨7, _⟩ => ⟨S512x1024, .bf16⟩
  | .local _ .smem, ⟨0, _⟩ => ⟨S384, .i32⟩
  | .local _ .smem, ⟨1, _⟩ => ⟨S1, .i32⟩
  | _, _ => ⟨S196608x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![384, 7], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S384.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S384) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S384.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S384) ![v0.toNat] S1.size (k0_off1_inb i)) numel1_S1
  let c0_i32 : BitVec 32 := 0#32
  let c0_i32_0 : BitVec 32 := 0#32
  ![v1.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpReferenceIdeal.lean ====
abbrev S384 : Shape := ⟨1, ![384]⟩
abbrev S1 : Shape := ⟨1, ![1]⟩
abbrev S196608x2048 : Shape := ⟨2, ![196608, 2048]⟩
abbrev S8x2048x7168 : Shape := ⟨3, ![8, 2048, 7168]⟩
abbrev S8x24576x2048 : Shape := ⟨3, ![8, 24576, 2048]⟩
abbrev S8x24576x7168 : Shape := ⟨3, ![8, 24576, 7168]⟩
abbrev S_ : Shape := ⟨0, ![]⟩
abbrev S196608x7168 : Shape := ⟨2, ![196608, 7168]⟩

abbrev nBuf : Space → Nat
  | .hbm => 22
  | .vmem => 0
  | .smem => 0
  | _ => 0

abbrev bufTy : (tb : Table) → Fin (tcTables nBuf tb) → BufTy
  | .hbm, ⟨0, _⟩ => ⟨S384, .i32⟩
  | .hbm, ⟨1, _⟩ => ⟨S1, .i32⟩
  | .hbm, ⟨2, _⟩ => ⟨S196608x2048, .f32⟩
  | .hbm, ⟨3, _⟩ => ⟨S8x2048x7168, .bf16⟩
  | .hbm, ⟨4, _⟩ => ⟨S8x2048x7168, .bf16⟩
  | .hbm, ⟨5, _⟩ => ⟨S8x24576x2048, .f32⟩
  | .hbm, ⟨6, _⟩ => ⟨S8x2048x7168, .f32⟩
  | .hbm, ⟨7, _⟩ => ⟨S8x24576x7168, .f32⟩
  | .hbm, ⟨8, _⟩ => ⟨S8x2048x7168, .f32⟩
  | .hbm, ⟨9, _⟩ => ⟨S8x24576x7168, .f32⟩
  | .hbm, ⟨10, _⟩ => ⟨S8x24576x7168, .f32⟩
  | .hbm, ⟨11, _⟩ => ⟨S8x24576x7168, .f32⟩
  | .hbm, ⟨12, _⟩ => ⟨S_, .f32⟩
  | .hbm, ⟨13, _⟩ => ⟨S8x24576x7168, .f32⟩
  | .hbm, ⟨14, _⟩ => ⟨S8x24576x7168, .f32⟩
  | .hbm, ⟨15, _⟩ => ⟨S_, .f32⟩
  | .hbm, ⟨16, _⟩ => ⟨S8x24576x7168, .f32⟩
  | .hbm, ⟨17, _⟩ => ⟨S8x24576x7168, .f32⟩
  | .hbm, ⟨18, _⟩ => ⟨S8x24576x7168, .f32⟩
  | .hbm, ⟨19, _⟩ => ⟨S8x24576x7168, .f32⟩
  | .hbm, ⟨20, _⟩ => ⟨S196608x7168, .f32⟩
  | .hbm, ⟨21, _⟩ => ⟨S196608x7168, .bf16⟩
  | _, _ => ⟨S384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Down.lean ====
abbrev S384 : Shape := ⟨1, ![384]⟩
abbrev S1 : Shape := ⟨1, ![1]⟩
abbrev S196608x7168 : Shape := ⟨2, ![196608, 7168]⟩
abbrev S8x7168x2048 : Shape := ⟨3, ![8, 7168, 2048]⟩
abbrev S196608x2048 : Shape := ⟨2, ![196608, 2048]⟩
abbrev S512x3584 : Shape := ⟨2, ![512, 3584]⟩
abbrev S1x3584x1024 : Shape := ⟨3, ![1, 3584, 1024]⟩
abbrev S512x1024 : Shape := ⟨2, ![512, 1024]⟩
abbrev S3584x1024 : Shape := ⟨2, ![3584, 1024]⟩

abbrev nBuf : Space → Nat
  | .hbm => 3
  | .vmem => 6
  | .smem => 2
  | _ => 0

abbrev bufTy : (tb : Table) → Fin (tcTables nBuf tb) → BufTy
  | .hbm, ⟨0, _⟩ => ⟨S196608x7168, .bf16⟩
  | .hbm, ⟨1, _⟩ => ⟨S8x7168x2048, .bf16⟩
  | .hbm, ⟨2, _⟩ => ⟨S196608x2048, .f32⟩
  | .local _ .vmem, ⟨0, _⟩ => ⟨S512x3584, .bf16⟩
  | .local _ .vmem, ⟨1, _⟩ => ⟨S512x3584, .bf16⟩
  | .local _ .vmem, ⟨2, _⟩ => ⟨S1x3584x1024, .bf16⟩
  | .local _ .vmem, ⟨3, _⟩ => ⟨S1x3584x1024, .bf16⟩
  | .local _ .vmem, ⟨4, _⟩ => ⟨S512x1024, .f32⟩
  | .local _ .vmem, ⟨5, _⟩ => ⟨S512x1024, .f32⟩
  | .local _ .smem, ⟨0, _⟩ => ⟨S384, .i32⟩
  | .local _ .smem, ⟨1, _⟩ => ⟨S1, .i32⟩
  | _, _ => ⟨S196608x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![384, 2, 2], ![false, false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) : BitVec 1 :=
  let arg2 : BitVec 32 := BitVec.ofNat 32 (i 2).val
  let c0_i32_7 : BitVec 32 := 0#32
  let v12 : BitVec 1 := Scalar.cmpi .eq arg2 c0_i32_7
  let v13 : BitVec 32 := Scalar.extui v12
  let c0_i32_8 : BitVec 32 := 0#32
  let v14 : BitVec 1 := Scalar.cmpi .ne v13 c0_i32_8
  v14

def k0_cond3 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_9 : BitVec 32 := 0#32
  let v17 : BitVec 1 := Scalar.cmpi .ne v16 c0_i32_9
  v17

def k0_cond4 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  ![v2.toNat, arg2.toNat]

def cc0_transform_1 (k0_off1_inb : ∀ i : grid0.Coords, ∀ a, (k0_off1 i) a + S1.size a ≤ S384.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S384) ![v0.toNat] S1.size (k0_off1_inb i)) numel1_S1
  let c0_i32 : BitVec 32 := 0#32
  ![v1.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x3584x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S384 : Shape := ⟨1, ![384]⟩
abbrev S1 : Shape := ⟨1, ![1]⟩
abbrev S196608x7168 : Shape := ⟨2, ![196608, 7168]⟩
abbrev S8x7168x2048 : Shape := ⟨3, ![8, 7168, 2048]⟩
abbrev S8x24576x7168 : Shape := ⟨3, ![8, 24576, 7168]⟩
abbrev S8x24576x2048 : Shape := ⟨3, ![8, 24576, 2048]⟩
abbrev S196608x2048 : Shape := ⟨2, ![196608, 2048]⟩

abbrev nBuf : Space → Nat
  | .hbm => 9
  | .vmem => 0
  | .smem => 0
  | _ => 0

abbrev bufTy : (tb : Table) → Fin (tcTables nBuf tb) → BufTy
  | .hbm, ⟨0, _⟩ => ⟨S384, .i32⟩
  | .hbm, ⟨1, _⟩ => ⟨S1, .i32⟩
  | .hbm, ⟨2, _⟩ => ⟨S196608x7168, .bf16⟩
  | .hbm, ⟨3, _⟩ => ⟨S8x7168x2048, .bf16⟩
  | .hbm, ⟨4, _⟩ => ⟨S196608x7168, .f32⟩
  | .hbm, ⟨5, _⟩ => ⟨S8x24576x7168, .f32⟩
  | .hbm, ⟨6, _⟩ => ⟨S8x7168x2048, .f32⟩
  | .hbm, ⟨7, _⟩ => ⟨S8x24576x2048, .f32⟩
  | .hbm, ⟨8, _⟩ => ⟨S196608x2048, .f32⟩
  | _, _ => ⟨S384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Norm.lean ====
abbrev S24576x2048 : Shape := ⟨2, ![24576, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S1x2048, .f32⟩
  | .hbm, ⟨3, _⟩ => ⟨S24576x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S24576x2048 : Shape := ⟨2, ![24576, 2048]⟩
abbrev S2048 : Shape := ⟨1, ![2048]⟩
abbrev S_ : Shape := ⟨0, ![]⟩
abbrev S24576 : Shape := ⟨1, ![24576]⟩
abbrev S24576x1 : Shape := ⟨2, ![24576, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S24576x2048, .f32⟩
  | .hbm, ⟨3, _⟩ => ⟨S_, .f32⟩
  | .hbm, ⟨4, _⟩ => ⟨S24576, .f32⟩
  | .hbm, ⟨5, _⟩ => ⟨S24576x1, .f32⟩
  | .hbm, ⟨6, _⟩ => ⟨S_, .f32⟩
  | .hbm, ⟨7, _⟩ => ⟨S24576x1, .f32⟩
  | .hbm, ⟨8, _⟩ => ⟨S24576x1, .f32⟩
  | .hbm, ⟨9, _⟩ => ⟨S_, .f32⟩
  | .hbm, ⟨10, _⟩ => ⟨S24576x1, .f32⟩
  | .hbm, ⟨11, _⟩ => ⟨S24576x1, .f32⟩
  | .hbm, ⟨12, _⟩ => ⟨S24576x1, .f32⟩
  | .hbm, ⟨13, _⟩ => ⟨S24576x2048, .f32⟩
  | .hbm, ⟨14, _⟩ => ⟨S24576x2048, .f32⟩
  | .hbm, ⟨15, _⟩ => ⟨S1x2048, .f32⟩
  | .hbm, ⟨16, _⟩ => ⟨S24576x2048, .f32⟩
  | .hbm, ⟨17, _⟩ => ⟨S24576x2048, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Project.lean ====
abbrev S24576x2048 : Shape := ⟨2, ![24576, 2048]⟩
abbrev S2048x5120 : Shape := ⟨2, ![2048, 5120]⟩
abbrev S24576x5120 : Shape := ⟨2, ![24576, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S24576x2048, .bf16⟩
  | .hbm, ⟨1, _⟩ => ⟨S2048x5120, .f32⟩
  | .hbm, ⟨2, _⟩ => ⟨S2048x5120, .bf16⟩
  | .hbm, ⟨3, _⟩ => ⟨S24576x5120, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectReferenceIdeal.lean ====
abbrev S24576x2048 : Shape := ⟨2, ![24576, 2048]⟩
abbrev S2048x5120 : Shape := ⟨2, ![2048, 5120]⟩
abbrev S24576x5120 : Shape := ⟨2, ![24576, 5120]⟩

abbrev nBuf : Space → Nat
  | .hbm => 4
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2048x5120, .f32⟩
  | .hbm, ⟨2, _⟩ => ⟨S24576x2048, .f32⟩
  | .hbm, ⟨3, _⟩ => ⟨S24576x5120, .f32⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Prepare.lean ====
abbrev S24576x5120 : Shape := ⟨2, ![24576, 5120]⟩
abbrev S2048x128 : Shape := ⟨2, ![2048, 128]⟩
abbrev S256 : Shape := ⟨1, ![256]⟩
abbrev S1x256 : Shape := ⟨2, ![1, 256]⟩
abbrev S24576x4096 : Shape := ⟨2, ![24576, 4096]⟩
abbrev S24576x512 : Shape := ⟨2, ![24576, 512]⟩
abbrev S256x5120 : Shape := ⟨2, ![256, 5120]⟩
abbrev S256x128 : Shape := ⟨2, ![256, 128]⟩
abbrev S256x4096 : Shape := ⟨2, ![256, 4096]⟩
abbrev S256x512 : Shape := ⟨2, ![256, 512]⟩
abbrev S256x256 : Shape := ⟨2, ![256, 256]⟩
abbrev S256x1 : Shape := ⟨2, ![256, 1]⟩

abbrev nBuf : Space → Nat
  | .hbm => 11
  | .vmem => 16
  | .smem => 0
  | _ => 0

abbrev bufTy : (tb : Table) → Fin (tcTables nBuf tb) → BufTy
  | .hbm, ⟨0, _⟩ => ⟨S24576x5120, .f32⟩
  | .hbm, ⟨1, _⟩ => ⟨S2048x128, .f32⟩
  | .hbm, ⟨2, _⟩ => ⟨S2048x128, .f32⟩
  | .hbm, ⟨3, _⟩ => ⟨S256, .f32⟩
  | .hbm, ⟨4, _⟩ => ⟨S256, .f32⟩
  | .hbm, ⟨5, _⟩ => ⟨S1x256, .f32⟩
  | .hbm, ⟨6, _⟩ => ⟨S1x256, .f32⟩
  | .hbm, ⟨7, _⟩ => ⟨S24576x4096, .bf16⟩
  | .hbm, ⟨8, _⟩ => ⟨S24576x512, .bf16⟩
  | .hbm, ⟨9, _⟩ => ⟨S24576x512, .bf16⟩
  | .hbm, ⟨10, _⟩ => ⟨S24576x512, .f32⟩
  | .local _ .vmem, ⟨0, _⟩ => ⟨S256x5120, .f32⟩
  | .local _ .vmem, ⟨1, _⟩ => ⟨S256x5120, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x256, .f32⟩
  | .local _ .vmem, ⟨7, _⟩ => ⟨S1x256, .f32⟩
  | .local _ .vmem, ⟨8, _⟩ => ⟨S256x4096, .bf16⟩
  | .local _ .vmem, ⟨9, _⟩ => ⟨S256x4096, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .f32⟩
  | .local _ .vmem, ⟨15, _⟩ => ⟨S256x512, .f32⟩
  | _, _ => ⟨S24576x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .sge v0 c8192_i32
  let c8192_i32_0 : BitVec 32 := 8192#32
  let v2 : BitVec 32 := Scalar.subi v0 c8192_i32_0
  let c2048_i32 : BitVec 32 := 2048#32
  let c0_i32 : BitVec 32 := 0#32
  let v3 : BitVec 1 := Scalar.cmpi .eq c2048_i32 c0_i32
  let c1_i32 : BitVec 32 := 1#32
  let v4 : BitVec 32 := Scalar.select v3 c1_i32 c2048_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c256_i32_4 : BitVec 32 := 256#32
  let v13 : BitVec 32 := Scalar.divsi v12 c256_i32_4
  let c0_i32_5 : BitVec 32 := 0#32
  let v14 : BitVec 1 := Scalar.cmpi .sgt v12 c0_i32_5
  let v15 : BitVec 32 := Scalar.extui v14
  let c0_i32_6 : BitVec 32 := 0#32
  let v16 : BitVec 1 := Scalar.cmpi .slt v12 c0_i32_6
  let v17 : BitVec 32 := Scalar.extui v16
  let v18 : BitVec 32 := Scalar.subi v15 v17
  let c0_i32_7 : BitVec 32 := 0#32
  let v19 : BitVec 1 := Scalar.cmpi .sgt c256_i32_4 c0_i32_7
  let v20 : BitVec 32 := Scalar.extui v19
  let c0_i32_8 : BitVec 32 := 0#32
  let v21 : BitVec 1 := Scalar.cmpi .slt c256_i32_4 c0_i32_8
  let v22 : BitVec 32 := Scalar.extui v21
  let v23 : BitVec 32 := Scalar.subi v20 v22
  let v24 : BitVec 1 := Scalar.cmpi .ne v18 v23
  let v25 : BitVec 32 := Scalar.remsi v12 c256_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c0_i32_11 : BitVec 32 := 0#32
  let v30 : BitVec 32 := Scalar.select v1 v29 c0_i32_11
  let c0_i32_12 : BitVec 32 := 0#32
  let c0_i32_13 : BitVec 32 := 0#32
  ![v30.toNat, c0_i32_12.toNat]

def cc0_transform_2 (i : grid0.Coords) : Fin 2 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .sge v0 c8192_i32
  let c8192_i32_0 : BitVec 32 := 8192#32
  let v2 : BitVec 32 := Scalar.subi v0 c8192_i32_0
  let c2048_i32 : BitVec 32 := 2048#32
  let c0_i32 : BitVec 32 := 0#32
  let v3 : BitVec 1 := Scalar.cmpi .eq c2048_i32 c0_i32
  let c1_i32 : BitVec 32 := 1#32
  let v4 : BitVec 32 := Scalar.select v3 c1_i32 c2048_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c256_i32_4 : BitVec 32 := 256#32
  let v13 : BitVec 32 := Scalar.divsi v12 c256_i32_4
  let c0_i32_5 : BitVec 32 := 0#32
  let v14 : BitVec 1 := Scalar.cmpi .sgt v12 c0_i32_5
  let v15 : BitVec 32 := Scalar.extui v14
  let c0_i32_6 : BitVec 32 := 0#32
  let v16 : BitVec 1 := Scalar.cmpi .slt v12 c0_i32_6
  let v17 : BitVec 32 := Scalar.extui v16
  let v18 : BitVec 32 := Scalar.subi v15 v17
  let c0_i32_7 : BitVec 32 := 0#32
  let v19 : BitVec 1 := Scalar.cmpi .sgt c256_i32_4 c0_i32_7
  let v20 : BitVec 32 := Scalar.extui v19
  let c0_i32_8 : BitVec 32 := 0#32
  let v21 : BitVec 1 := Scalar.cmpi .slt c256_i32_4 c0_i32_8
  let v22 : BitVec 32 := Scalar.extui v21
  let v23 : BitVec 32 := Scalar.subi v20 v22
  let v24 : BitVec 1 := Scalar.cmpi .ne v18 v23
  let v25 : BitVec 32 := Scalar.remsi v12 c256_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c0_i32_11 : BitVec 32 := 0#32
  let v30 : BitVec 32 := Scalar.select v1 v29 c0_i32_11
  let c0_i32_12 : BitVec 32 := 0#32
  let c0_i32_13 : BitVec 32 := 0#32
  ![v30.toNat, c0_i32_12.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PrepareReferenceIdeal.lean ====
abbrev S24576x5120 : Shape := ⟨2, ![24576, 5120]⟩
abbrev S2048x128 : Shape := ⟨2, ![2048, 128]⟩
abbrev S256 : Shape := ⟨1, ![256]⟩
abbrev S24576x4096 : Shape := ⟨2, ![24576, 4096]⟩
abbrev S24576x16x256 : Shape := ⟨3, ![24576, 16, 256]⟩
abbrev S_ : Shape := ⟨0, ![]⟩
abbrev S24576x16 : Shape := ⟨2, ![24576, 16]⟩
abbrev S24576x16x1 : Shape := ⟨3, ![24576, 16, 1]⟩
abbrev S1x1x256 : Shape := ⟨3, ![1, 1, 256]⟩
abbrev S16384x16x256 : Shape := ⟨3, ![16384, 16, 256]⟩
abbrev S8x2048x16x256 : Shape := ⟨4, ![8, 2048, 16, 256]⟩
abbrev S8x2048x16x128 : Shape := ⟨4, ![8, 2048, 16, 128]⟩
abbrev S1x2048x1x128 : Shape := ⟨4, ![1, 2048, 1, 128]⟩
abbrev S8192x16x256 : Shape := ⟨3, ![8192, 16, 256]⟩
abbrev S24576x512 : Shape := ⟨2, ![24576, 512]⟩
abbrev S24576x2x256 : Shape := ⟨3, ![24576, 2, 256]⟩
abbrev S24576x2 : Shape := ⟨2, ![24576, 2]⟩
abbrev S24576x2x1 : Shape := ⟨3, ![24576, 2, 1]⟩
abbrev S16384x2x256 : Shape := ⟨3, ![16384, 2, 256]⟩
abbrev S8x2048x2x256 : Shape := ⟨4, ![8, 2048, 2, 256]⟩
abbrev S8x2048x2x128 : Shape := ⟨4, ![8, 2048, 2, 128]⟩
abbrev S8192x2x256 : Shape := ⟨3, ![8192, 2, 256]⟩

abbrev nBuf : Space → Nat
  | .hbm => 90
  | .vmem => 0
  | .smem => 0
  | _ => 0

abbrev bufTy : (tb : Table) → Fin (tcTables nBuf tb) → BufTy
  | .hbm, ⟨0, _⟩ => ⟨S24576x5120, .f32⟩
  | .hbm, ⟨1, _⟩ => ⟨S2048x128, .f32⟩
  | .hbm, ⟨2, _⟩ => ⟨S2048x128, .f32⟩
  | .hbm, ⟨3, _⟩ => ⟨S256, .f32⟩
  | .hbm, ⟨4, _⟩ => ⟨S256, .f32⟩
  | .hbm, ⟨5, _⟩ => ⟨S24576x4096, .f32⟩
  | .hbm, ⟨6, _⟩ => ⟨S24576x16x256, .f32⟩
  | .hbm, ⟨7, _⟩ => ⟨S24576x16x256, .f32⟩
  | .hbm, ⟨8, _⟩ => ⟨S_, .f32⟩
  | .hbm, ⟨9, _⟩ => ⟨S24576x16, .f32⟩
  | .hbm, ⟨10, _⟩ => ⟨S24576x16x1, .f32⟩
  | .hbm, ⟨11, _⟩ => ⟨S_, .f32⟩
  | .hbm, ⟨12, _⟩ => ⟨S24576x16x1, .f32⟩
  | .hbm, ⟨13, _⟩ => ⟨S24576x16x1, .f32⟩
  | .hbm, ⟨14, _⟩ => ⟨S_, .f32⟩
  | .hbm, ⟨15, _⟩ => ⟨S24576x16x1, .f32⟩
  | .hbm, ⟨16, _⟩ => ⟨S24576x16x1, .f32⟩
  | .hbm, ⟨17, _⟩ => ⟨S24576x16x1, .f32⟩
  | .hbm, ⟨18, _⟩ => ⟨S24576x16x256, .f32⟩
  | .hbm, ⟨19, _⟩ => ⟨S24576x16x256, .f32⟩
  | .hbm, ⟨20, _⟩ => ⟨S1x1x256, .f32⟩
  | .hbm, ⟨21, _⟩ => ⟨S24576x16x256, .f32⟩
  | .hbm, ⟨22, _⟩ => ⟨S24576x16x256, .f32⟩
  | .hbm, ⟨23, _⟩ => ⟨S16384x16x256, .f32⟩
  | .hbm, ⟨24, _⟩ => ⟨S8x2048x16x256, .f32⟩
  | .hbm, ⟨25, _⟩ => ⟨S8x2048x16x128, .f32⟩
  | .hbm, ⟨26, _⟩ => ⟨S8x2048x16x128, .f32⟩
  | .hbm, ⟨27, _⟩ => ⟨S1x2048x1x128, .f32⟩
  | .hbm, ⟨28, _⟩ => ⟨S1x2048x1x128, .f32⟩
  | .hbm, ⟨29, _⟩ => ⟨S8x2048x16x128, .f32⟩
  | .hbm, ⟨30, _⟩ => ⟨S8x2048x16x128, .f32⟩
  | .hbm, ⟨31, _⟩ => ⟨S8x2048x16x128, .f32⟩
  | .hbm, ⟨32, _⟩ => ⟨S8x2048x16x128, .f32⟩
  | .hbm, ⟨33, _⟩ => ⟨S8x2048x16x128, .f32⟩
  | .hbm, ⟨34, _⟩ => ⟨S8x2048x16x128, .f32⟩
  | .hbm, ⟨35, _⟩ => ⟨S8x2048x16x128, .f32⟩
  | .hbm, ⟨36, _⟩ => ⟨S8x2048x16x128, .f32⟩
  | .hbm, ⟨37, _⟩ => ⟨S8x2048x16x128, .f32⟩
  | .hbm, ⟨38, _⟩ => ⟨S8x2048x16x128, .f32⟩
  | .hbm, ⟨39, _⟩ => ⟨S8x2048x16x256, .f32⟩
  | .hbm, ⟨40, _⟩ => ⟨S8192x16x256, .f32⟩
  | .hbm, ⟨41, _⟩ => ⟨S16384x16x256, .f32⟩
  | .hbm, ⟨42, _⟩ => ⟨S24576x16x256, .f32⟩
  | .hbm, ⟨43, _⟩ => ⟨S_, .f32⟩
  | .hbm, ⟨44, _⟩ => ⟨S24576x16x256, .f32⟩
  | .hbm, ⟨45, _⟩ => ⟨S24576x16x256, .f32⟩
  | .hbm, ⟨46, _⟩ => ⟨S24576x512, .f32⟩
  | .hbm, ⟨47, _⟩ => ⟨S24576x2x256, .f32⟩
  | .hbm, ⟨48, _⟩ => ⟨S24576x2x256, .f32⟩
  | .hbm, ⟨49, _⟩ => ⟨S_, .f32⟩
  | .hbm, ⟨50, _⟩ => ⟨S24576x2, .f32⟩
  | .hbm, ⟨51, _⟩ => ⟨S24576x2x1, .f32⟩
  | .hbm, ⟨52, _⟩ => ⟨S_, .f32⟩
  | .hbm, ⟨53, _⟩ => ⟨S24576x2x1, .f32⟩
  | .hbm, ⟨54, _⟩ => ⟨S24576x2x1, .f32⟩
  | .hbm, ⟨55, _⟩ => ⟨S_, .f32⟩
  | .hbm, ⟨56, _⟩ => ⟨S24576x2x1, .f32⟩
  | .hbm, ⟨57, _⟩ => ⟨S24576x2x1, .f32⟩
  | .hbm, ⟨58, _⟩ => ⟨S24576x2x1, .f32⟩
  | .hbm, ⟨59, _⟩ => ⟨S24576x2x256, .f32⟩
  | .hbm, ⟨60, _⟩ => ⟨S24576x2x256, .f32⟩
  | .hbm, ⟨61, _⟩ => ⟨S1x1x256, .f32⟩
  | .hbm, ⟨62, _⟩ => ⟨S24576x2x256, .f32⟩
  | .hbm, ⟨63, _⟩ => ⟨S24576x2x256, .f32⟩
  | .hbm, ⟨64, _⟩ => ⟨S16384x2x256, .f32⟩
  | .hbm, ⟨65, _⟩ => ⟨S8x2048x2x256, .f32⟩
  | .hbm, ⟨66, _⟩ => ⟨S8x2048x2x128, .f32⟩
  | .hbm, ⟨67, _⟩ => ⟨S8x2048x2x128, .f32⟩
  | .hbm, ⟨68, _⟩ => ⟨S1x2048x1x128, .f32⟩
  | .hbm, ⟨69, _⟩ => ⟨S1x2048x1x128, .f32⟩
  | .hbm, ⟨70, _⟩ => ⟨S8x2048x2x128, .f32⟩
  | .hbm, ⟨71, _⟩ => ⟨S8x2048x2x128, .f32⟩
  | .hbm, ⟨72, _⟩ => ⟨S8x2048x2x128, .f32⟩
  | .hbm, ⟨73, _⟩ => ⟨S8x2048x2x128, .f32⟩
  | .hbm, ⟨74, _⟩ => ⟨S8x2048x2x128, .f32⟩
  | .hbm, ⟨75, _⟩ => ⟨S8x2048x2x128, .f32⟩
  | .hbm, ⟨76, _⟩ => ⟨S8x2048x2x128, .f32⟩
  | .hbm, ⟨77, _⟩ => ⟨S8x2048x2x128, .f32⟩
  | .hbm, ⟨78, _⟩ => ⟨S8x2048x2x128, .f32⟩
  | .hbm, ⟨79, _⟩ => ⟨S8x2048x2x128, .f32⟩
  | .hbm, ⟨80, _⟩ => ⟨S8x2048x2x256, .f32⟩
  | .hbm, ⟨81, _⟩ => ⟨S8192x2x256, .f32⟩
  | .hbm, ⟨82, _⟩ => ⟨S16384x2x256, .f32⟩
  | .hbm, ⟨83, _⟩ => ⟨S24576x2x256, .f32⟩
  | .hbm, ⟨84, _⟩ => ⟨S24576x4096, .f32⟩
  | .hbm, ⟨85, _⟩ => ⟨S24576x512, .f32⟩
  | .hbm, ⟨86, _⟩ => ⟨S24576x512, .f32⟩
  | .hbm, ⟨87, _⟩ => ⟨S24576x4096, .bf16⟩
  | .hbm, ⟨88, _⟩ => ⟨S24576x512, .bf16⟩
  | .hbm, ⟨89, _⟩ => ⟨S24576x512, .bf16⟩
  | _, _ => ⟨S24576x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_cst_4 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩

abbrev nD : Nat := 1
abbrev τ : Topo := Topo.v7x

variable {F : FTy → Type} [FloatOps F]
-- ==== Mix.lean ====
abbrev S24576x2048 : Shape := ⟨2, ![24576, 2048]⟩
abbrev S2048x12416 : Shape := ⟨2, ![2048, 12416]⟩
abbrev S2048x12288 : Shape := ⟨2, ![2048, 12288]⟩
abbrev S24576x12288 : Shape := ⟨2, ![24576, 12288]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S24576x2048, .bf16⟩
  | .hbm, ⟨1, _⟩ => ⟨S2048x12416, .f32⟩
  | .hbm, ⟨2, _⟩ => ⟨S2048x12288, .f32⟩
  | .hbm, ⟨3, _⟩ => ⟨S2048x12288, .bf16⟩
  | .hbm, ⟨4, _⟩ => ⟨S24576x12288, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixReferenceIdeal.lean ====
abbrev S24576x2048 : Shape := ⟨2, ![24576, 2048]⟩
abbrev S2048x12416 : Shape := ⟨2, ![2048, 12416]⟩
abbrev S2048x12288 : Shape := ⟨2, ![2048, 12288]⟩
abbrev S24576x12288 : Shape := ⟨2, ![24576, 12288]⟩

abbrev nBuf : Space → Nat
  | .hbm => 5
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2048x12416, .f32⟩
  | .hbm, ⟨2, _⟩ => ⟨S24576x2048, .f32⟩
  | .hbm, ⟨3, _⟩ => ⟨S2048x12288, .f32⟩
  | .hbm, ⟨4, _⟩ => ⟨S24576x12288, .f32⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dense.lean ====
abbrev S24 : Shape := ⟨1, ![24]⟩
abbrev S1 : Shape := ⟨1, ![1]⟩
abbrev S24576x2048 : Shape := ⟨2, ![24576, 2048]⟩
abbrev S1x2048x5632 : Shape := ⟨3, ![1, 2048, 5632]⟩
abbrev S24576x5632 : Shape := ⟨2, ![24576, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 4
  | .vmem => 8
  | .smem => 2
  | _ => 0

abbrev bufTy : (tb : Table) → Fin (tcTables nBuf tb) → BufTy
  | .hbm, ⟨0, _⟩ => ⟨S24576x2048, .bf16⟩
  | .hbm, ⟨1, _⟩ => ⟨S1x2048x5632, .bf16⟩
  | .hbm, ⟨2, _⟩ => ⟨S1x2048x5632, .bf16⟩
  | .hbm, ⟨3, _⟩ => ⟨S24576x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1024x512, .bf16⟩
  | .local _ .vmem, ⟨7, _⟩ => ⟨S1024x512, .bf16⟩
  | .local _ .smem, ⟨0, _⟩ => ⟨S24, .i32⟩
  | .local _ .smem, ⟨1, _⟩ => ⟨S1, .i32⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![24, 11], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k0_off1_inb i)) numel1_S1
  let c0_i32 : BitVec 32 := 0#32
  let c0_i32_0 : BitVec 32 := 0#32
  ![v1.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DenseReferenceIdeal.lean ====
abbrev S24 : Shape := ⟨1, ![24]⟩
abbrev S1 : Shape := ⟨1, ![1]⟩
abbrev S24576x2048 : Shape := ⟨2, ![24576, 2048]⟩
abbrev S1x2048x5632 : Shape := ⟨3, ![1, 2048, 5632]⟩
abbrev S2048x5632 : Shape := ⟨2, ![2048, 5632]⟩
abbrev S24576x5632 : Shape := ⟨2, ![24576, 5632]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S24, .i32⟩
  | .hbm, ⟨1, _⟩ => ⟨S1, .i32⟩
  | .hbm, ⟨2, _⟩ => ⟨S24576x2048, .bf16⟩
  | .hbm, ⟨3, _⟩ => ⟨S1x2048x5632, .bf16⟩
  | .hbm, ⟨4, _⟩ => ⟨S1x2048x5632, .bf16⟩
  | .hbm, ⟨5, _⟩ => ⟨S24576x2048, .f32⟩
  | .hbm, ⟨6, _⟩ => ⟨S2048x5632, .bf16⟩
  | .hbm, ⟨7, _⟩ => ⟨S2048x5632, .f32⟩
  | .hbm, ⟨8, _⟩ => ⟨S24576x5632, .f32⟩
  | .hbm, ⟨9, _⟩ => ⟨S2048x5632, .bf16⟩
  | .hbm, ⟨10, _⟩ => ⟨S2048x5632, .f32⟩
  | .hbm, ⟨11, _⟩ => ⟨S24576x5632, .f32⟩
  | .hbm, ⟨12, _⟩ => ⟨S24576x5632, .f32⟩
  | .hbm, ⟨13, _⟩ => ⟨S24576x5632, .f32⟩
  | .hbm, ⟨14, _⟩ => ⟨S_, .f32⟩
  | .hbm, ⟨15, _⟩ => ⟨S24576x5632, .f32⟩
  | .hbm, ⟨16, _⟩ => ⟨S24576x5632, .f32⟩
  | .hbm, ⟨17, _⟩ => ⟨S_, .f32⟩
  | .hbm, ⟨18, _⟩ => ⟨S24576x5632, .f32⟩
  | .hbm, ⟨19, _⟩ => ⟨S24576x5632, .f32⟩
  | .hbm, ⟨20, _⟩ => ⟨S24576x5632, .f32⟩
  | .hbm, ⟨21, _⟩ => ⟨S24576x5632, .f32⟩
  | .hbm, ⟨22, _⟩ => ⟨S24576x5632, .bf16⟩
  | _, _ => ⟨S24, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Out.lean ====
abbrev S48 : Shape := ⟨1, ![48]⟩
abbrev S1 : Shape := ⟨1, ![1]⟩
abbrev S24576x4096 : Shape := ⟨2, ![24576, 4096]⟩
abbrev S1x4096x2048 : Shape := ⟨3, ![1, 4096, 2048]⟩
abbrev S24576x2048 : Shape := ⟨2, ![24576, 2048]⟩
abbrev S96x1x2048 : Shape := ⟨3, ![96, 1, 2048]⟩
abbrev S512x4096 : Shape := ⟨2, ![512, 4096]⟩
abbrev S1x4096x1024 : Shape := ⟨3, ![1, 4096, 1024]⟩
abbrev S512x1024 : Shape := ⟨2, ![512, 1024]⟩
abbrev S1x1x1024 : Shape := ⟨3, ![1, 1, 1024]⟩
abbrev S4096x1024 : Shape := ⟨2, ![4096, 1024]⟩
abbrev S1x1024 : Shape := ⟨2, ![1, 1024]⟩

abbrev nBuf : Space → Nat
  | .hbm => 5
  | .vmem => 10
  | .smem => 2
  | _ => 0

abbrev bufTy : (tb : Table) → Fin (tcTables nBuf tb) → BufTy
  | .hbm, ⟨0, _⟩ => ⟨S24576x4096, .bf16⟩
  | .hbm, ⟨1, _⟩ => ⟨S1x4096x2048, .bf16⟩
  | .hbm, ⟨2, _⟩ => ⟨S24576x2048, .f32⟩
  | .hbm, ⟨3, _⟩ => ⟨S96x1x2048, .f32⟩
  | .hbm, ⟨4, _⟩ => ⟨S24576x2048, .f32⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .smem, ⟨0, _⟩ => ⟨S48, .i32⟩
  | .local _ .smem, ⟨1, _⟩ => ⟨S1, .i32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![48, 2, 1], ![false, false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  ![v2.toNat, arg2.toNat]

def cc0_transform_1 (k0_off1_inb : ∀ i : grid0.Coords, ∀ a, (k0_off1 i) a + S1.size a ≤ S48.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S48) ![v0.toNat] S1.size (k0_off1_inb i)) numel1_S1
  let c0_i32 : BitVec 32 := 0#32
  ![v1.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c6_i32 : BitVec 32 := 6#32
  let v22 : BitVec 32 := Scalar.muli v21 c6_i32
  let c2_i32 : BitVec 32 := 2#32
  let v23 : BitVec 32 := Scalar.addi v22 c2_i32
  let c0_i32_7 : BitVec 32 := 0#32
  let c0_i32_8 : BitVec 32 := 0#32
  ![v23.toNat, c0_i32_7.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== OutReferenceIdeal.lean ====
abbrev S48 : Shape := ⟨1, ![48]⟩
abbrev S1 : Shape := ⟨1, ![1]⟩
abbrev S24576x4096 : Shape := ⟨2, ![24576, 4096]⟩
abbrev S1x4096x2048 : Shape := ⟨3, ![1, 4096, 2048]⟩
abbrev S24576x2048 : Shape := ⟨2, ![24576, 2048]⟩
abbrev S96x1x2048 : Shape := ⟨3, ![96, 1, 2048]⟩
abbrev S4096x2048 : Shape := ⟨2, ![4096, 2048]⟩
abbrev S16x6x2048 : Shape := ⟨3, ![16, 6, 2048]⟩
abbrev S16x1x2048 : Shape := ⟨3, ![16, 1, 2048]⟩
abbrev S16x2048 : Shape := ⟨2, ![16, 2048]⟩
abbrev S1x2048 : Shape := ⟨2, ![1, 2048]⟩
abbrev S2048 : Shape := ⟨1, ![2048]⟩
abbrev S8192x2048 : Shape := ⟨2, ![8192, 2048]⟩
abbrev S8x2048 : Shape := ⟨2, ![8, 2048]⟩
abbrev S8x1x2048 : Shape := ⟨3, ![8, 1, 2048]⟩
abbrev S8x2048x2048 : Shape := ⟨3, ![8, 2048, 2048]⟩
abbrev S16384x2048 : Shape := ⟨2, ![16384, 2048]⟩

abbrev nBuf : Space → Nat
  | .hbm => 23
  | .vmem => 0
  | .smem => 0
  | _ => 0

abbrev bufTy : (tb : Table) → Fin (tcTables nBuf tb) → BufTy
  | .hbm, ⟨0, _⟩ => ⟨S48, .i32⟩
  | .hbm, ⟨1, _⟩ => ⟨S1, .i32⟩
  | .hbm, ⟨2, _⟩ => ⟨S24576x4096, .bf16⟩
  | .hbm, ⟨3, _⟩ => ⟨S1x4096x2048, .bf16⟩
  | .hbm, ⟨4, _⟩ => ⟨S24576x2048, .f32⟩
  | .hbm, ⟨5, _⟩ => ⟨S96x1x2048, .f32⟩
  | .hbm, ⟨6, _⟩ => ⟨S24576x4096, .f32⟩
  | .hbm, ⟨7, _⟩ => ⟨S4096x2048, .bf16⟩
  | .hbm, ⟨8, _⟩ => ⟨S4096x2048, .f32⟩
  | .hbm, ⟨9, _⟩ => ⟨S24576x2048, .f32⟩
  | .hbm, ⟨10, _⟩ => ⟨S16x6x2048, .f32⟩
  | .hbm, ⟨11, _⟩ => ⟨S16x1x2048, .f32⟩
  | .hbm, ⟨12, _⟩ => ⟨S16x2048, .f32⟩
  | .hbm, ⟨13, _⟩ => ⟨S1x2048, .f32⟩
  | .hbm, ⟨14, _⟩ => ⟨S2048, .f32⟩
  | .hbm, ⟨15, _⟩ => ⟨S8192x2048, .f32⟩
  | .hbm, ⟨16, _⟩ => ⟨S8x2048, .f32⟩
  | .hbm, ⟨17, _⟩ => ⟨S8x1x2048, .f32⟩
  | .hbm, ⟨18, _⟩ => ⟨S8x2048x2048, .f32⟩
  | .hbm, ⟨19, _⟩ => ⟨S16384x2048, .f32⟩
  | .hbm, ⟨20, _⟩ => ⟨S24576x2048, .f32⟩
  | .hbm, ⟨21, _⟩ => ⟨S24576x2048, .f32⟩
  | .hbm, ⟨22, _⟩ => ⟨S24576x2048, .f32⟩
  | _, _ => ⟨S48, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Low.lean ====
abbrev S48 : Shape := ⟨1, ![48]⟩
abbrev S1 : Shape := ⟨1, ![1]⟩
abbrev S24576x5632 : Shape := ⟨2, ![24576, 5632]⟩
abbrev S1x5632x2048 : Shape := ⟨3, ![1, 5632, 2048]⟩
abbrev S24576x2048 : Shape := ⟨2, ![24576, 2048]⟩
abbrev S96x1x2048 : Shape := ⟨3, ![96, 1, 2048]⟩
abbrev S512x2816 : Shape := ⟨2, ![512, 2816]⟩
abbrev S1x2816x1024 : Shape := ⟨3, ![1, 2816, 1024]⟩
abbrev S512x1024 : Shape := ⟨2, ![512, 1024]⟩
abbrev S1x1x1024 : Shape := ⟨3, ![1, 1, 1024]⟩
abbrev S2816x1024 : Shape := ⟨2, ![2816, 1024]⟩
abbrev S1x1024 : Shape := ⟨2, ![1, 1024]⟩

abbrev nBuf : Space → Nat
  | .hbm => 5
  | .vmem => 10
  | .smem => 2
  | _ => 0

abbrev bufTy : (tb : Table) → Fin (tcTables nBuf tb) → BufTy
  | .hbm, ⟨0, _⟩ => ⟨S24576x5632, .bf16⟩
  | .hbm, ⟨1, _⟩ => ⟨S1x5632x2048, .bf16⟩
  | .hbm, ⟨2, _⟩ => ⟨S24576x2048, .f32⟩
  | .hbm, ⟨3, _⟩ => ⟨S96x1x2048, .f32⟩
  | .hbm, ⟨4, _⟩ => ⟨S24576x2048, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S1x2816x1024, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .smem, ⟨0, _⟩ => ⟨S48, .i32⟩
  | .local _ .smem, ⟨1, _⟩ => ⟨S1, .i32⟩
  | _, _ => ⟨S24576x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![48, 2, 2], ![false, false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) : BitVec 1 :=
  let arg2 : BitVec 32 := BitVec.ofNat 32 (i 2).val
  let c0_i32_7 : BitVec 32 := 0#32
  let v12 : BitVec 1 := Scalar.cmpi .eq arg2 c0_i32_7
  let v13 : BitVec 32 := Scalar.extui v12
  let c0_i32_8 : BitVec 32 := 0#32
  let v14 : BitVec 1 := Scalar.cmpi .ne v13 c0_i32_8
  v14

def k0_cond3 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_9 : BitVec 32 := 0#32
  let v17 : BitVec 1 := Scalar.cmpi .ne v16 c0_i32_9
  v17

def k0_cond4 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  ![v2.toNat, arg2.toNat]

def cc0_transform_1 (k0_off1_inb : ∀ i : grid0.Coords, ∀ a, (k0_off1 i) a + S1.size a ≤ S48.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S48) ![v0.toNat] S1.size (k0_off1_inb i)) numel1_S1
  let c0_i32 : BitVec 32 := 0#32
  ![v1.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c6_i32 : BitVec 32 := 6#32
  let v22 : BitVec 32 := Scalar.muli v21 c6_i32
  let c5_i32 : BitVec 32 := 5#32
  let v23 : BitVec 32 := Scalar.addi v22 c5_i32
  let c0_i32_7 : BitVec 32 := 0#32
  let c0_i32_8 : BitVec 32 := 0#32
  ![v23.toNat, c0_i32_7.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== LowReferenceIdeal.lean ====
abbrev S48 : Shape := ⟨1, ![48]⟩
abbrev S1 : Shape := ⟨1, ![1]⟩
abbrev S24576x5632 : Shape := ⟨2, ![24576, 5632]⟩
abbrev S1x5632x2048 : Shape := ⟨3, ![1, 5632, 2048]⟩
abbrev S24576x2048 : Shape := ⟨2, ![24576, 2048]⟩
abbrev S96x1x2048 : Shape := ⟨3, ![96, 1, 2048]⟩
abbrev S5632x2048 : Shape := ⟨2, ![5632, 2048]⟩
abbrev S16x6x2048 : Shape := ⟨3, ![16, 6, 2048]⟩
abbrev S16x1x2048 : Shape := ⟨3, ![16, 1, 2048]⟩
abbrev S16x2048 : Shape := ⟨2, ![16, 2048]⟩
abbrev S1x2048 : Shape := ⟨2, ![1, 2048]⟩
abbrev S2048 : Shape := ⟨1, ![2048]⟩
abbrev S8192x2048 : Shape := ⟨2, ![8192, 2048]⟩
abbrev S8x2048 : Shape := ⟨2, ![8, 2048]⟩
abbrev S8x1x2048 : Shape := ⟨3, ![8, 1, 2048]⟩
abbrev S8x2048x2048 : Shape := ⟨3, ![8, 2048, 2048]⟩
abbrev S16384x2048 : Shape := ⟨2, ![16384, 2048]⟩

abbrev nBuf : Space → Nat
  | .hbm => 23
  | .vmem => 0
  | .smem => 0
  | _ => 0

abbrev bufTy : (tb : Table) → Fin (tcTables nBuf tb) → BufTy
  | .hbm, ⟨0, _⟩ => ⟨S48, .i32⟩
  | .hbm, ⟨1, _⟩ => ⟨S1, .i32⟩
  | .hbm, ⟨2, _⟩ => ⟨S24576x5632, .bf16⟩
  | .hbm, ⟨3, _⟩ => ⟨S1x5632x2048, .bf16⟩
  | .hbm, ⟨4, _⟩ => ⟨S24576x2048, .f32⟩
  | .hbm, ⟨5, _⟩ => ⟨S96x1x2048, .f32⟩
  | .hbm, ⟨6, _⟩ => ⟨S24576x5632, .f32⟩
  | .hbm, ⟨7, _⟩ => ⟨S5632x2048, .bf16⟩
  | .hbm, ⟨8, _⟩ => ⟨S5632x2048, .f32⟩
  | .hbm, ⟨9, _⟩ => ⟨S24576x2048, .f32⟩
  | .hbm, ⟨10, _⟩ => ⟨S16x6x2048, .f32⟩
  | .hbm, ⟨11, _⟩ => ⟨S16x1x2048, .f32⟩
  | .hbm, ⟨12, _⟩ => ⟨S16x2048, .f32⟩
  | .hbm, ⟨13, _⟩ => ⟨S1x2048, .f32⟩
  | .hbm, ⟨14, _⟩ => ⟨S2048, .f32⟩
  | .hbm, ⟨15, _⟩ => ⟨S8192x2048, .f32⟩
  | .hbm, ⟨16, _⟩ => ⟨S8x2048, .f32⟩
  | .hbm, ⟨17, _⟩ => ⟨S8x1x2048, .f32⟩
  | .hbm, ⟨18, _⟩ => ⟨S8x2048x2048, .f32⟩
  | .hbm, ⟨19, _⟩ => ⟨S16384x2048, .f32⟩
  | .hbm, ⟨20, _⟩ => ⟨S24576x2048, .f32⟩
  | .hbm, ⟨21, _⟩ => ⟨S24576x2048, .f32⟩
  | .hbm, ⟨22, _⟩ => ⟨S24576x2048, .f32⟩
  | _, _ => ⟨S48, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.AttentionHead.lean ====
/- What the kernel computes for one head of one block of 256 queries: the eight heads of a block run the same
   arithmetic on their own columns. -/
module

public import proofs.«01_k».proof.Proof.Gen.KernelIdeal.Skeleton
public import Idealize.ShloMosaic.Lib.Pointwise

@[expose] public section

set_option maxRecDepth 16384

noncomputable section

namespace Cert.Attention

open Idealize.ShloMosaic Idealize.ShloMosaic.TcCoe Idealize.SL.Sem
open Cert.KernelIdeal Cert.KernelIdeal.Gen

section Heads

variable (q : FVec Ideal S256x256 .bf16) (ck : FVec Ideal S512x256 .bf16) (k : FVec Ideal S2048x256 .bf16)
  (cv : FVec Ideal S512x256 .bf16) (v : FVec Ideal S2048x256 .bf16)

/-- The second head's arithmetic is the first's. -/
theorem head1_eq : k0_pay3 (F := Ideal) q ck k cv v = k0_pay2 q ck k cv v := rfl

/-- The third head's arithmetic is the first's. -/
theorem head2_eq : k0_pay5 (F := Ideal) q (k0_pay4 q ck) k cv v = k0_pay2 q ck k cv v := rfl

/-- The fourth head's arithmetic is the first's. -/
theorem head3_eq : k0_pay10 (F := Ideal) (k0_pay6 q ck) (k0_pay7 q k) (k0_pay8 q ck) (k0_pay9 q k) cv v = k0_pay2 q ck k cv v := rfl

/-- The fifth head's arithmetic is the first's. -/
theorem head4_eq : k0_pay16 (F := Ideal) (k0_pay14 q ck k) (k0_pay15 q ck k) cv v = k0_pay2 q ck k cv v := rfl

/-- The sixth head's arithmetic is the first's. -/
theorem head5_eq : k0_pay24 (F := Ideal) (k0_pay20 q ck k) (k0_pay21 q ck k) (k0_pay22 q ck k) (k0_pay23 q ck k) cv v
    = k0_pay2 q ck k cv v := rfl

/-- The seventh head's arithmetic is the first's. -/
theorem head6_eq : k0_pay32 (F := Ideal) (k0_pay29 q ck k) (k0_pay30 q ck k) (k0_pay31 q ck k cv) v = k0_pay2 q ck k cv v := rfl

/-- The eighth head's arithmetic is the first's. -/
theorem head7_eq : k0_pay1 (F := Ideal) (k0_pay38 q ck k) (k0_pay39 q ck k cv v) = k0_pay2 q ck k cv v := rfl

/-- One entry of a head: the sums over the cached and the new rows, divided once at the end. -/
theorem head_at (a d : Fin 256) :
    k0_pay2 (F := Ideal) q ck k cv v (ix2 a d)
    = (let M := max (Finset.fold max (Ideal.ofBits FTy.f32 4286578688#32) (fun i : Fin 512 => ∑ e : Fin 256, q (ix2 a e) * ck (ix2 i e)) Finset.univ)
        (Finset.fold max (Ideal.ofBits FTy.f32 4286578688#32) (fun i : Fin 2048 => ∑ e : Fin 256, q (ix2 a e) * k (ix2 i e)) Finset.univ)
       Ideal.div
        (∑ i : Fin 512, Ideal.exp ((∑ e : Fin 256, q (ix2 a e) * ck (ix2 i e)) - M) * cv (ix2 i d)
          + ∑ i : Fin 2048, Ideal.exp ((∑ e : Fin 256, q (ix2 a e) * k (ix2 i e)) - M) * v (ix2 i d))
        (∑ i : Fin 512, Ideal.exp ((∑ e : Fin 256, q (ix2 a e) * ck (ix2 i e)) - M)
          + ∑ i : Fin 2048, Ideal.exp ((∑ e : Fin 256, q (ix2 a e) * k (ix2 i e)) - M))) := by
  pointwise [k0_pay2]

end Heads

end Cert.Attention

end
-- ==== Proof.AttentionRef.lean ====
/- The reference's result, entry by entry: the keys and values of cache and call put one after the other, the scores,
   the softmax of each score row, and the weighted sum of the values. -/
module

public import proofs.«01_k».proof.Proof.Gen.ReferenceIdeal.Run
public import Idealize.ShloMosaic.Lib.Pointwise

@[expose] public section

set_option maxRecDepth 16384

noncomputable section

namespace Cert.Attention

open Idealize.ShloMosaic Idealize.ShloMosaic.TcCoe Idealize.SL.Sem
open Cert.ReferenceIdeal Cert.ReferenceIdeal.Gen

/-- The cached rows of every sequence followed by the rows of the call, as floats. -/
def joined (ck : FVec Ideal S4096x512 .bf16) (k : FVec Ideal S24576x512 .bf16) : FVec Ideal S8x2560x2x256 .f32 :=
  concatenate S8x2560x2x256 1 [⟨S8x512x2x256, (shapeCast _ (extf .f32 ck bitsLt_bf16_f32) shapeCasts_S4096x512_S8x512x2x256)⟩, ⟨S8x2048x2x256, (shapeCast _ (extractStridedSlice S16384x512 ![8192, 0] (extf .f32 k bitsLt_bf16_f32) slices_S24576x512_S16384x512_8192_0) shapeCasts_S16384x512_S8x2048x2x256)⟩] concatenates_S8x512x2x256_S8x2048x2x256_S8x2560x2x256_d1

/-- The scores: each query against every joined key of its head. -/
def scores (q : FVec Ideal S24576x4096 .bf16) (ka : FVec Ideal S8x2560x2x256 .f32) : FVec Ideal S8x2x8x2048x2560 .f32 :=
  transpose S8x2x8x2048x2560 [0, 1, 4, 3, 2] (Host.dotGeneral dot_S8x2560x2x256_S8x2048x2x8x256_S8x2x2560x2048x8_3_4_1_13_02_02 none ka (shapeCast _ (extractStridedSlice S16384x4096 ![8192, 0] (extf .f32 q bitsLt_bf16_f32) slices_S24576x4096_S16384x4096_8192_0) shapeCasts_S16384x4096_S8x2048x2x8x256)) transposes_S8x2x2560x2048x8_S8x2x8x2048x2560_0_1_4_3_2

/-- The greatest score of each row. -/
def rowMax (s : FVec Ideal S8x2x8x2048x2560 .f32) : FVec Ideal S8x2x8x2048 .f32 :=
  maximumf (broadcastInDim S8x2x8x2048 ![] bcast_S_S8x2x8x2048 (constant S_ .f32 0xFF800000#32)) (Host.reduce FloatOps.maximumf s (constant S_ .f32 0xFF800000#32) reducesTo_S8x2x8x2048x2560_S8x2x8x2048_d4 h_S_)

/-- The exponentials of the scores less their row's greatest. -/
def rowExp (s : FVec Ideal S8x2x8x2048x2560 .f32) : FVec Ideal S8x2x8x2048x2560 .f32 :=
  Host.exp (subf s (broadcastInDim S8x2x8x2048x2560 ![0, 1, 2, 3, 4] bcast_S8x2x8x2048x1_S8x2x8x2048x2560_0_1_2_3_4 (broadcastInDim S8x2x8x2048x1 ![0, 1, 2, 3] bcast_S8x2x8x2048_S8x2x8x2048x1_0_1_2_3 (rowMax s))))

/-- The softmax of each row of scores. -/
def weights (s : FVec Ideal S8x2x8x2048x2560 .f32) : FVec Ideal S8x2x8x2048x2560 .f32 :=
  Host.divf (rowExp s) (broadcastInDim S8x2x8x2048x2560 ![0, 1, 2, 3, 4] bcast_S8x2x8x2048x1_S8x2x8x2048x2560_0_1_2_3_4 (broadcastInDim S8x2x8x2048x1 ![0, 1, 2, 3] bcast_S8x2x8x2048_S8x2x8x2048x1_0_1_2_3 (Host.reduceAdd (rowExp s) (constant S_ .f32 0x00000000#32) reducesTo_S8x2x8x2048x2560_S8x2x8x2048_d4 h_S_)))

/-- The values against the weights, laid out as rows of heads. -/
def mixed (p : FVec Ideal S8x2x8x2048x2560 .f32) (va : FVec Ideal S8x2560x2x256 .f32) : FVec Ideal S16384x4096 .bf16 :=
  truncf .bf16 (shapeCast _ (transpose S8x2048x2x8x256 [0, 4, 1, 3, 2] (Host.dotGeneral dot_S8x2560x2x256_S8x2x8x2048x2560_S8x2x256x8x2048_1_4_3_23_02_01 none va p) transposes_S8x2x256x8x2048_S8x2048x2x8x256_0_4_1_3_2) shapeCasts_S8x2048x2x8x256_S16384x4096) bitsLt_bf16_f32

/-- The reference's result as a function of its five arguments. -/
def result (q : FVec Ideal S24576x4096 .bf16) (k v : FVec Ideal S24576x512 .bf16) (ck cv : FVec Ideal S4096x512 .bf16) :
    FVec Ideal S16384x4096 .bf16 :=
  mixed (weights (scores q (joined ck k))) (joined cv v)

/-- The reference's run leaves `result` of its arguments. -/
theorem res_eq (m : (ℓ : Loc nD τ sig) → Buf (Elt Ideal) ℓ) (c : Dev nD) :
    Value.res_main_v31 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- Among the first 512 joined rows of a sequence are its cached ones. -/
theorem joined_cached (ck : FVec Ideal S4096x512 .bf16) (k : FVec Ideal S24576x512 .bf16) (b : Fin 8) (s : Fin 512) (h : Fin 2) (e : Fin 256) :
    joined ck k (ix4 b ⟨s.val, by omega⟩ h e) = ck (ix2 ⟨b.val * 512 + s.val, by omega⟩ ⟨h.val * 256 + e.val, by omega⟩) := by
  pointwise [joined]

/-- The other 2048 joined rows are the call's own, from row 8192 on. -/
theorem joined_new (ck : FVec Ideal S4096x512 .bf16) (k : FVec Ideal S24576x512 .bf16) (b : Fin 8) (s : Fin 2048) (h : Fin 2) (e : Fin 256) :
    joined ck k (ix4 b ⟨512 + s.val, by omega⟩ h e)
      = k (ix2 ⟨8192 + (b.val * 2048 + s.val), by omega⟩ ⟨h.val * 256 + e.val, by omega⟩) := by
  pointwise [joined]

/-- A score is the product of a key and a query over the head's 256 entries. -/
theorem scores_at (q : FVec Ideal S24576x4096 .bf16) (ka : FVec Ideal S8x2560x2x256 .f32) (b : Fin 8) (h : Fin 2) (g : Fin 8)
    (t : Fin 2048) (s : Fin 2560) :
    scores q ka (ix5 b h g t s) = ∑ e : Fin 256, ka (ix4 b s h e)
      * q (ix2 ⟨8192 + (b.val * 2048 + t.val), by omega⟩ ⟨h.val * 2048 + g.val * 256 + e.val, by omega⟩) := by
  pointwise [scores]

/-- Folding a commutative operation over the last of five axes is folding it over that axis's entries. -/
theorem reduce_last {n0 n1 n2 n3 n4 : ℕ} {u : Shape} (f : EReal → EReal → EReal) [Std.Commutative f] [Std.Associative f]
    (hr : (⟨5, ![n0, n1, n2, n3, n4]⟩ : Shape).ReducesTo [4] ⟨4, ![n0, n1, n2, n3]⟩) (hu : 0 < u.numel)
    (s : (⟨5, ![n0, n1, n2, n3, n4]⟩ : Shape).Idx → EReal) (c : u.Idx → EReal) (e : EReal) (he : c (Shape.Idx.first hu) = e)
    (b : Fin n0) (h : Fin n1) (g : Fin n2) (t : Fin n3) :
    Host.reduce f s c hr hu (ix4 b h g t) = Finset.fold f e (fun k : Fin n4 => s (ix5 b h g t k)) Finset.univ := by
  rw [Host.reduce_eq_fold, hr.fold_fiber_r5_a4, he]
  rfl

/-- A maximum of a constant and a reduced array, at one place. -/
theorem max_reduce {n0 n1 n2 n3 n4 : ℕ} {u : Shape}
    (hr : (⟨5, ![n0, n1, n2, n3, n4]⟩ : Shape).ReducesTo [4] ⟨4, ![n0, n1, n2, n3]⟩) (hu : 0 < u.numel)
    (s : FVec Ideal ⟨5, ![n0, n1, n2, n3, n4]⟩ .f32) (c : FVec Ideal u .f32) (a : FVec Ideal ⟨4, ![n0, n1, n2, n3]⟩ .f32)
    (e : EReal) (he : c (Shape.Idx.first hu) = e) (b : Fin n0) (h : Fin n1) (g : Fin n2) (t : Fin n3)
    (ha : a (ix4 b h g t) = e) :
    maximumf a (Host.reduce FloatOps.maximumf s c hr hu) (ix4 b h g t)
      = max e (Finset.fold max e (fun k : Fin n4 => s (ix5 b h g t k)) Finset.univ) := by
  rw [← reduce_last max hr hu s c e he b h g t, ← ha]
  rfl

/-- The greatest score of a row, as a fold. -/
theorem rowMax_at (s : FVec Ideal S8x2x8x2048x2560 .f32) (b : Fin 8) (h : Fin 2) (g : Fin 8) (t : Fin 2048) :
    rowMax s (ix4 b h g t) = max (Ideal.ofBits FTy.f32 4286578688#32)
      (Finset.fold max (Ideal.ofBits FTy.f32 4286578688#32) (fun i : Fin 2560 => s (ix5 b h g t i)) Finset.univ) := by
  unfold rowMax
  exact max_reduce reducesTo_S8x2x8x2048x2560_S8x2x8x2048_d4 h_S_ s _ _ _ rfl b h g t rfl

/-- The exponential of a score less its row's greatest. -/
theorem rowExp_at (s : FVec Ideal S8x2x8x2048x2560 .f32) (b : Fin 8) (h : Fin 2) (g : Fin 8) (t : Fin 2048) (i : Fin 2560) :
    rowExp s (ix5 b h g t i) = Ideal.exp (s (ix5 b h g t i) - rowMax s (ix4 b h g t)) := by
  pointwise [rowExp]

/-- A weight is its exponential divided by the sum of its row's. -/
theorem weights_at (s : FVec Ideal S8x2x8x2048x2560 .f32) (b : Fin 8) (h : Fin 2) (g : Fin 8) (t : Fin 2048) (i : Fin 2560) :
    weights s (ix5 b h g t i) = Ideal.div (rowExp s (ix5 b h g t i)) (∑ j : Fin 2560, rowExp s (ix5 b h g t j)) := by
  pointwise [weights]

/-- An entry of the result: the values of its head against the weights of its row. -/
theorem mixed_at (p : FVec Ideal S8x2x8x2048x2560 .f32) (va : FVec Ideal S8x2560x2x256 .f32) (r : Fin 16384) (c : Fin 4096) :
    mixed p va (ix2 r c) = ∑ s : Fin 2560, va (ix4 ⟨r.val / 2048, by omega⟩ s ⟨c.val / 2048, by omega⟩ ⟨c.val % 256, by omega⟩)
      * p (ix5 ⟨r.val / 2048, by omega⟩ ⟨c.val / 2048, by omega⟩ ⟨c.val / 256 % 8, by omega⟩ ⟨r.val % 2048, by omega⟩ s) := by
  pointwise [mixed]

end Cert.Attention

end
-- ==== Proof.Softmax.lean ====
/- Softmax weights over two blocks of keys: the arithmetic, on extended reals.
   A kernel that takes the exponentials of two blocks of scores, sums both blocks' weighted values and divides once at
   the end computes the sum of the values against the weights of one softmax over both blocks together. -/
module

public import Idealize.ShloMosaic.Lib.Pointwise

@[expose] public section

noncomputable section

namespace Cert.Softmax

open Idealize.ShloMosaic

/-- The word of minus infinity is the least extended real. -/
theorem ofBits_negInf : Ideal.ofBits FTy.f32 4286578688#32 = ⊥ := by
  simp [Ideal.ofBits, Ideal.ieee]

/-- A nonnegative finite factor moves out of a sum. -/
theorem sum_mul_const {n : ℕ} (f : Fin n → EReal) (c : EReal) (h0 : 0 ≤ c) (ht : c ≠ ⊤) :
    ∑ i, f i * c = (∑ i, f i) * c := by
  have key : ∀ s : Finset (Fin n), ∑ i ∈ s, f i * c = (∑ i ∈ s, f i) * c := by
    intro s
    induction s using Finset.induction_on with
    | empty => simp
    | insert a s ha ih =>
      rw [Finset.sum_insert ha, Finset.sum_insert ha, ih, EReal.right_distrib_of_nonneg_of_ne_top h0 ht]
  exact key _

/-- The sum of real numbers is their sum as extended reals. -/
theorem coe_sum {n : ℕ} (f : Fin n → ℝ) : ∑ i, (f i : EReal) = ((∑ i, f i : ℝ) : EReal) := by
  have key : ∀ s : Finset (Fin n), ∑ i ∈ s, (f i : EReal) = ((∑ i ∈ s, f i : ℝ) : EReal) := by
    intro s
    induction s using Finset.induction_on with
    | empty => simp
    | insert a s ha ih => rw [Finset.sum_insert ha, Finset.sum_insert ha, ih, EReal.coe_add]
  exact key _

/-- The greatest of finitely many real numbers (at least one), started from the least extended real, is real. -/
theorem fold_max_real {n : ℕ} (s : Fin (n + 1) → ℝ) :
    ∃ M : ℝ, Finset.fold max ⊥ (fun i => (s i : EReal)) Finset.univ = (M : EReal) := by
  have h1 : Finset.fold max ⊥ (fun i => (s i : EReal)) Finset.univ < ⊤ :=
    (Finset.fold_max_lt _).2 ⟨bot_lt_top, fun i _ => EReal.coe_lt_top _⟩
  have h2 : ⊥ < Finset.fold max ⊥ (fun i => (s i : EReal)) Finset.univ :=
    (Finset.lt_fold_max _).2 (Or.inr ⟨0, Finset.mem_univ _, EReal.bot_lt_coe _⟩)
  exact ⟨_, (EReal.coe_toReal h1.ne h2.ne').symm⟩

/-- The greater of two blocks' maxima is the maximum over both blocks. -/
theorem max_two_blocks (s : Fin 2560 → EReal) :
    max (Finset.fold max ⊥ (fun i : Fin 512 => s ⟨i.val, by omega⟩) Finset.univ)
      (Finset.fold max ⊥ (fun i : Fin 2048 => s ⟨512 + i.val, by omega⟩) Finset.univ)
    = max ⊥ (Finset.fold max ⊥ s Finset.univ) := by
  refine eq_of_forall_ge_iff fun c => ?_
  simp only [max_le_iff, Finset.fold_max_le, bot_le, true_and, Finset.mem_univ, true_implies]
  constructor
  · rintro ⟨ha, hb⟩ i
    by_cases hi : i.val < 512
    · exact ha ⟨i.val, hi⟩
    · have := hb ⟨i.val - 512, by omega⟩
      have e : (⟨512 + (i.val - 512), by omega⟩ : Fin 2560) = i := Fin.ext (by simp only []; omega)
      simpa only [e] using this
  · exact fun h => ⟨fun i => h _, fun i => h _⟩

/-- A sum over both blocks is the first block's sum plus the second's. -/
theorem sum_two_blocks (f : Fin 2560 → EReal) :
    ∑ i, f i = ∑ i : Fin 512, f ⟨i.val, by omega⟩ + ∑ i : Fin 2048, f ⟨512 + i.val, by omega⟩ := by
  have := Fin.sum_univ_add (M := EReal) (a := 512) (b := 2048) f
  exact this

/-- One head's output entry, two blocks of real scores `s` against values `u`: the division after the sums gives the
    sum of the values against the softmax weights. -/
theorem attend (s : Fin 2560 → EReal) (hs : ∀ i, ∃ r : ℝ, s i = (r : EReal)) (u : Fin 2560 → EReal) :
    (let M := max (Finset.fold max ⊥ (fun i : Fin 512 => s ⟨i.val, by omega⟩) Finset.univ)
        (Finset.fold max ⊥ (fun i : Fin 2048 => s ⟨512 + i.val, by omega⟩) Finset.univ)
     Ideal.div
      (∑ i : Fin 512, Ideal.exp (s ⟨i.val, by omega⟩ - M) * u ⟨i.val, by omega⟩
        + ∑ i : Fin 2048, Ideal.exp (s ⟨512 + i.val, by omega⟩ - M) * u ⟨512 + i.val, by omega⟩)
      (∑ i : Fin 512, Ideal.exp (s ⟨i.val, by omega⟩ - M) + ∑ i : Fin 2048, Ideal.exp (s ⟨512 + i.val, by omega⟩ - M)))
    = ∑ i, u i * Ideal.div (Ideal.exp (s i - max ⊥ (Finset.fold max ⊥ s Finset.univ)))
        (∑ j, Ideal.exp (s j - max ⊥ (Finset.fold max ⊥ s Finset.univ))) := by
  choose r hr using hs
  obtain rfl : s = fun i => (r i : EReal) := funext hr
  obtain ⟨M, hM⟩ := fold_max_real r
  have hM' := max_two_blocks (fun i => (r i : EReal))
  simp only [hM, max_eq_right (bot_le : ⊥ ≤ (M : EReal))] at hM' ⊢
  rw [hM',
    ← sum_two_blocks (fun i => Ideal.exp ((r i : EReal) - M) * u i),
    ← sum_two_blocks (fun i => Ideal.exp ((r i : EReal) - M))]
  have he : ∀ i, Ideal.exp ((r i : EReal) - M) = ((Real.exp (r i - M) : ℝ) : EReal) := fun i => by
    rw [← EReal.coe_sub, Ideal.exp_coe]
  have hD : ∑ i, Ideal.exp ((r i : EReal) - M) = ((∑ i, Real.exp (r i - M) : ℝ) : EReal) := by
    rw [← coe_sum]; exact Finset.sum_congr rfl fun i _ => he i
  have hpos : 0 < ∑ i, Real.exp (r i - M) :=
    Finset.sum_pos (fun i _ => Real.exp_pos _) ⟨0, Finset.mem_univ _⟩
  rw [hD, Ideal.div_coe hpos.ne',
    ← sum_mul_const _ _ (EReal.coe_nonneg.2 (one_div_pos.2 hpos).le) (EReal.coe_ne_top _)]
  refine Finset.sum_congr rfl fun i _ => ?_
  rw [Ideal.div_coe hpos.ne', mul_comm (Ideal.exp _) (u i), mul_assoc]

/-- A finite sum of products of real numbers is real. -/
theorem dot_real {n : ℕ} (a b : Fin n → EReal) (ha : ∀ i, ∃ r : ℝ, a i = (r : EReal)) (hb : ∀ i, ∃ r : ℝ, b i = (r : EReal)) :
    ∃ r : ℝ, ∑ i, a i * b i = (r : EReal) := by
  choose f hf using ha
  choose g hg using hb
  refine ⟨∑ i, f i * g i, ?_⟩
  rw [← coe_sum]
  exact Finset.sum_congr rfl fun i _ => by rw [hf, hg, EReal.coe_mul]

end Cert.Softmax

end
-- ==== Proof.AttentionCore.lean ====
/- One head of the kernel against the reference: where the blocks hold the rows and columns they are loaded from, the
   kernel's entry is the reference's, for finite queries and keys. -/
module

public import proofs.«01_k».proof.Proof.AttentionHead
public import proofs.«01_k».proof.Proof.AttentionRef
public import proofs.«01_k».proof.Proof.Softmax

@[expose] public section

set_option maxRecDepth 16384

noncomputable section

namespace Cert.Attention

open Idealize.ShloMosaic Idealize.ShloMosaic.TcCoe Idealize.SL.Sem

/-- Every entry of an array is a real number. -/
def Real {S : Shape} {φ : FTy} (x : FVec Ideal S φ) : Prop := ∀ i : S.Idx, ∃ r : ℝ, x i = (r : EReal)

section Entry

variable (Q : FVec Ideal Cert.ReferenceIdeal.S24576x4096 .bf16) (K V : FVec Ideal Cert.ReferenceIdeal.S24576x512 .bf16)
  (CK CV : FVec Ideal Cert.ReferenceIdeal.S4096x512 .bf16)

/-- Joined keys are real where the cached and the new ones are. -/
theorem joined_real (hCK : Real CK) (hK : Real K) (b : Fin 8) (s : Fin 2560) (h : Fin 2) (e : Fin 256) :
    ∃ r : ℝ, joined CK K (ix4 b s h e) = (r : EReal) := by
  by_cases hs : s.val < 512
  · have := joined_cached CK K b ⟨s.val, hs⟩ h e
    exact this ▸ hCK _
  · have e0 := joined_new CK K b ⟨s.val - 512, by omega⟩ h e
    rw [show (⟨512 + (s.val - 512), by omega⟩ : Fin 2560) = s from Fin.ext (by simp only; omega)] at e0
    rw [e0]
    exact hK _

/-- Scores of real queries and keys are real. -/
theorem scores_real (hQ : Real Q) (hCK : Real CK) (hK : Real K) (b : Fin 8) (h : Fin 2) (g : Fin 8) (t : Fin 2048) (s : Fin 2560) :
    ∃ r : ℝ, scores Q (joined CK K) (ix5 b h g t s) = (r : EReal) := by
  rw [scores_at]
  exact Cert.Softmax.dot_real _ _ (fun e => joined_real K CK hCK hK b s h e) (fun e => hQ _)

/-- An entry of one head of the kernel is the reference's sum over the joined values. -/
theorem head_value (hQ : Real Q) (hCK : Real CK) (hK : Real K)
    (q : FVec Ideal Cert.KernelIdeal.S256x256 .bf16) (ck : FVec Ideal Cert.KernelIdeal.S512x256 .bf16)
    (k : FVec Ideal Cert.KernelIdeal.S2048x256 .bf16) (cv : FVec Ideal Cert.KernelIdeal.S512x256 .bf16)
    (v : FVec Ideal Cert.KernelIdeal.S2048x256 .bf16)
    (b : Fin 8) (h : Fin 2) (g : Fin 8) (t : Fin 2048) (a d : Fin 256)
    (hq : ∀ e : Fin 256, q (ix2 a e) = Q (ix2 ⟨8192 + (b.val * 2048 + t.val), by omega⟩ ⟨h.val * 2048 + g.val * 256 + e.val, by omega⟩))
    (hck : ∀ (i : Fin 512) (e : Fin 256), ck (ix2 i e) = CK (ix2 ⟨b.val * 512 + i.val, by omega⟩ ⟨h.val * 256 + e.val, by omega⟩))
    (hk : ∀ (i : Fin 2048) (e : Fin 256), k (ix2 i e) = K (ix2 ⟨8192 + (b.val * 2048 + i.val), by omega⟩ ⟨h.val * 256 + e.val, by omega⟩))
    (hcv : ∀ i : Fin 512, cv (ix2 i d) = CV (ix2 ⟨b.val * 512 + i.val, by omega⟩ ⟨h.val * 256 + d.val, by omega⟩))
    (hv : ∀ i : Fin 2048, v (ix2 i d) = V (ix2 ⟨8192 + (b.val * 2048 + i.val), by omega⟩ ⟨h.val * 256 + d.val, by omega⟩)) :
    Cert.KernelIdeal.Gen.k0_pay2 (F := Ideal) q ck k cv v (ix2 a d)
      = ∑ s : Fin 2560, joined CV V (ix4 b s h d) * weights (scores Q (joined CK K)) (ix5 b h g t s) := by
  have e1 : ∀ i : Fin 512, (∑ e : Fin 256, q (ix2 a e) * ck (ix2 i e))
      = scores Q (joined CK K) (ix5 b h g t ⟨i.val, by omega⟩) := fun i => by
    rw [scores_at]
    exact Finset.sum_congr rfl fun e _ => by rw [joined_cached, hq, hck, mul_comm]
  have e2 : ∀ i : Fin 2048, (∑ e : Fin 256, q (ix2 a e) * k (ix2 i e))
      = scores Q (joined CK K) (ix5 b h g t ⟨512 + i.val, by omega⟩) := fun i => by
    rw [scores_at]
    exact Finset.sum_congr rfl fun e _ => by rw [joined_new, hq, hk, mul_comm]
  have v1 : ∀ i : Fin 512, cv (ix2 i d) = joined CV V (ix4 b ⟨i.val, by omega⟩ h d) := fun i => by
    rw [joined_cached, hcv]
  have v2 : ∀ i : Fin 2048, v (ix2 i d) = joined CV V (ix4 b ⟨512 + i.val, by omega⟩ h d) := fun i => by
    rw [joined_new, hv]
  rw [head_at]
  simp only [e1, e2, v1, v2, Cert.Softmax.ofBits_negInf]
  refine (Cert.Softmax.attend (fun s => scores Q (joined CK K) (ix5 b h g t s))
    (fun s => scores_real Q K CK hQ hCK hK b h g t s) (fun s => joined CV V (ix4 b s h d))).trans ?_
  simp only [weights_at, rowExp_at, rowMax_at, Cert.Softmax.ofBits_negInf]

/-- An entry of one head's block is the reference's entry at the row and the column it is stored to. -/
theorem head_result (hQ : Real Q) (hCK : Real CK) (hK : Real K)
    (q : FVec Ideal Cert.KernelIdeal.S256x256 .bf16) (ck : FVec Ideal Cert.KernelIdeal.S512x256 .bf16)
    (k : FVec Ideal Cert.KernelIdeal.S2048x256 .bf16) (cv : FVec Ideal Cert.KernelIdeal.S512x256 .bf16)
    (v : FVec Ideal Cert.KernelIdeal.S2048x256 .bf16)
    (r : Fin 16384) (c : Fin 4096) (x : Cert.KernelIdeal.S256x256.Idx) (hx : (x 1 : ℕ) = c.val % 256)
    (hq : ∀ e : Fin 256, q (ix2 (x 0) e) = Q (ix2 ⟨8192 + r.val, by omega⟩ ⟨c.val / 256 * 256 + e.val, by omega⟩))
    (hck : ∀ (i : Fin 512) (e : Fin 256), ck (ix2 i e) = CK (ix2 ⟨r.val / 2048 * 512 + i.val, by omega⟩ ⟨c.val / 2048 * 256 + e.val, by omega⟩))
    (hk : ∀ (i : Fin 2048) (e : Fin 256), k (ix2 i e) = K (ix2 ⟨8192 + (r.val / 2048 * 2048 + i.val), by omega⟩ ⟨c.val / 2048 * 256 + e.val, by omega⟩))
    (hcv : ∀ (i : Fin 512) (e : Fin 256), cv (ix2 i e) = CV (ix2 ⟨r.val / 2048 * 512 + i.val, by omega⟩ ⟨c.val / 2048 * 256 + e.val, by omega⟩))
    (hv : ∀ (i : Fin 2048) (e : Fin 256), v (ix2 i e) = V (ix2 ⟨8192 + (r.val / 2048 * 2048 + i.val), by omega⟩ ⟨c.val / 2048 * 256 + e.val, by omega⟩)) :
    Cert.KernelIdeal.Gen.k0_pay2 (F := Ideal) q ck k cv v x = result Q K V CK CV (ix2 r c) := by
  have hd : (⟨c.val % 256, by omega⟩ : Fin 256) = x 1 := Fin.ext hx.symm
  have hr : 8192 + (r.val / 2048 * 2048 + r.val % 2048) = 8192 + r.val := by omega
  have hc : c.val / 2048 * 2048 + c.val / 256 % 8 * 256 = c.val / 256 * 256 := by omega
  rw [result, mixed_at, hd]
  have hxx : x = ix2 (x 0) (x 1) := by
    funext a
    fin_cases a <;> rfl
  refine (congrArg _ hxx).trans ?_
  refine head_value Q K V CK CV hQ hCK hK q ck k cv v ⟨r.val / 2048, by omega⟩ ⟨c.val / 2048, by omega⟩ ⟨c.val / 256 % 8, by omega⟩
    ⟨r.val % 2048, by omega⟩ (x 0) (x 1) (fun e => (hq e).trans ?_) hck hk (fun i => hcv i _) (fun i => hv i _)
  simp only [hr, hc]

end Entry

end Cert.Attention

end
-- ==== Proof.AttentionValue.lean ====
/- The kernel's output array after the whole grid is the reference's result, for finite queries and keys. -/
module

public import proofs.«01_k».proof.Proof.AttentionCore
public import proofs.«01_k».proof.Proof.Gen.KernelIdeal.Value
public import Idealize.ShloMosaic.Lib.Pipeline.ValueKit

@[expose] public section

set_option maxRecDepth 16384

noncomputable section

namespace Cert.Attention

open Idealize.ShloMosaic Idealize.ShloMosaic.TcCoe Idealize.SL.Sem
open Idealize.ShloMosaic.Pipeline (Dat)
open Cert.KernelIdeal Cert.KernelIdeal.Gen

/-- The blocks of a grid point: sequence `t / 16`, key head `t / 8 % 2`, query block `t % 8`. -/
theorem idx : ∀ t : Fin cfg0.N,
    win0_0.index t = ![32 + t.val / 16 * 8 + t.val % 8, t.val / 8 % 2] ∧ win0_1.index t = ![t.val / 16, t.val / 8 % 2]
    ∧ win0_2.index t = ![t.val / 16, t.val / 8 % 2] ∧ win0_3.index t = ![4 + t.val / 16, t.val / 8 % 2]
    ∧ win0_4.index t = ![4 + t.val / 16, t.val / 8 % 2] ∧ win0_5.index t = ![t.val / 16 * 8 + t.val % 8, t.val / 8 % 2] :=
  (by decide +kernel : ∀ t : Fin grid0.N, _)

variable (m : (ℓ : Loc nD τ sig) → Buf (Elt Ideal) ℓ)

set_option maxHeartbeats 2000000 in
/-- What a grid point leaves in its output block is the reference's result at the block's rows and columns. -/
theorem point (c : Dev nD)
    (hQ : Real (S := Cert.ReferenceIdeal.S24576x4096) (φ := .bf16) (m ((c.tc : Thread nD τ).loc main_arg0)))
    (hK : Real (S := Cert.ReferenceIdeal.S24576x512) (φ := .bf16) (m ((c.tc : Thread nD τ).loc main_arg1)))
    (hCK : Real (S := Cert.ReferenceIdeal.S4096x512) (φ := .bf16) (m ((c.tc : Thread nD τ).loc main_arg3)))
    (t : Fin cfg0.N) (y : S256x2048.Idx) (r : Fin 16384) (u : Fin 4096)
    (hr : r.val = t.val / 16 * 2048 + t.val % 8 * 256 + (y 0 : ℕ)) (hu : u.val = t.val / 8 % 2 * 2048 + (y 1 : ℕ)) :
    out0_5 (F := Ideal) (iblk m c 0 t) (iblk m c 1 t) (iblk m c 2 t) (iblk m c 3 t) (iblk m c 4 t) y
      = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (ix2 r u) := by
  have tlt : t.val < 128 := t.isLt
  unfold out0_5
  simp only [head1_eq, head2_eq, head3_eq, head4_eq, head5_eq, head6_eq, head7_eq]
  canon_tiles x h
  all_goals
    refine head_result _ _ _ _ _ hQ hCK hK _ _ _ _ _ r u x (by omega) ?_ ?_ ?_ ?_ ?_
    all_goals
      intros
      pointwise
      blk_ext [iblk, V, idx t]

/-- The output array after the whole grid. -/
theorem final (c : Dev nD)
    (hQ : Real (S := Cert.ReferenceIdeal.S24576x4096) (φ := .bf16) (m ((c.tc : Thread nD τ).loc main_arg0)))
    (hK : Real (S := Cert.ReferenceIdeal.S24576x512) (φ := .bf16) (m ((c.tc : Thread nD τ).loc main_arg1)))
    (hCK : Real (S := Cert.ReferenceIdeal.S4096x512) (φ := .bf16) (m ((c.tc : Thread nD τ).loc main_arg3))) :
    (dats m 0 c).arrAt 5 cfg0.N
      = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  refine (dats m 0 c).arrAt_eq_of_covers 5 _ (by decide +kernel) fun t _ y => ?_
  blk_simp
  rw [after0_5]
  have tlt : t.val < 128 := t.isLt
  have y0 : (y 0 : ℕ) < 256 := (y 0).isLt
  have y1 : (y 1 : ℕ) < 2048 := (y 1).isLt
  refine (point m c hQ hK hCK t y ⟨t.val / 16 * 2048 + t.val % 8 * 256 + (y 0 : ℕ), by omega⟩
    ⟨t.val / 8 % 2 * 2048 + (y 1 : ℕ), by omega⟩ rfl rfl).trans ?_
  refine congrArg _ ?_
  blk_ext [idx t]

end Cert.Attention

end
-- ==== Proof.Finite.lean ====
/- The precondition read off its comparisons: every query, key and cached key is a real number. -/
module

public import proofs.«01_k».proof.Proof.Gen.Pre_finite
public import proofs.«01_k».proof.Proof.AttentionCore
public import Idealize.ShloMosaic.Lib.ReduceAll
public import Idealize.ShloMosaic.Lib.Affine

@[expose] public section

set_option maxRecDepth 16384

noncomputable section

namespace Cert.Attention

open Idealize.ShloMosaic Idealize.ShloMosaic.TcCoe Idealize.SL.Sem

/-- The word of plus infinity is the greatest extended real. -/
theorem ofBits_posInf : Ideal.ofBits FTy.f32 0x7F800000#32 = ⊤ := by
  simp [Ideal.ofBits, Ideal.ieee]

/-- An extended real whose absolute value is below plus infinity is a real number. -/
theorem real_of_abs_lt (x : EReal) (h : max x (-x) < ⊤) : ∃ r : ℝ, x = (r : EReal) := by
  have h1 : x ≠ ⊤ := fun e => by simp [e] at h
  have h2 : x ≠ ⊥ := fun e => by simp [e] at h
  exact ⟨x.toReal, (EReal.coe_toReal h1 h2).symm⟩

/-- Where the conjunction of `|x| < ∞` over all entries of an array is true, the array is real. -/
theorem real_of_all {S T U : Shape} {axes : List (Fin S.rank)} [Subsingleton T.Idx] (x : FVec Ideal S .bf16) (hx : FTy.bits .bf16 < FTy.bits .f32)
    (b : FVec Ideal S .f32) (hb : ∀ i, b i = ⊤) (z : U.Idx → BitVec 1) (hr : S.ReducesTo axes T) (hu : 0 < U.numel) (j : T.Idx)
    (e : Host.reduce IntOp.andi (cmpf .olt (Host.absf (extf .f32 x hx)) b) z hr hu j = 1#1) : Real x := by
  intro i
  have h := Host.reduce_andi_all _ _ hr hu j e i
  have h' : Ideal.cmp .olt (max (x i) (-(x i))) (b i) = 1#1 := h
  rw [hb i] at h'
  refine real_of_abs_lt _ ?_
  by_contra hn
  simp [Ideal.cmp, hn] at h'

/-- The precondition makes queries, keys and cached keys real. -/
theorem real_of_pre (Q : FVec Ideal Cert.Pre_finite.S24576x4096 .bf16) (K V : FVec Ideal Cert.Pre_finite.S24576x512 .bf16)
    (CK CV : FVec Ideal Cert.Pre_finite.S4096x512 .bf16) (h : Cert.Pre_finite.fn (F := Ideal) Q K V CK CV = fun _ => 1#1) :
    Real Q ∧ Real K ∧ Real CK := by
  haveI : Subsingleton Cert.Pre_finite.S_.Idx := ⟨fun a b => funext fun k => k.elim0⟩
  have e := congrFun h (Shape.Idx.first Cert.Pre_finite.Facts.h_S_)
  simp only [Cert.Pre_finite.fn, andi] at e
  obtain ⟨e1, e2⟩ := IntOp.andi_eq_one.1 e
  obtain ⟨e3, e4⟩ := IntOp.andi_eq_one.1 e1
  exact ⟨real_of_all Q _ _ (fun i => ofBits_posInf) _ _ _ _ e3, real_of_all K _ _ (fun i => ofBits_posInf) _ _ _ _ e4,
    real_of_all CK _ _ (fun i => ofBits_posInf) _ _ _ _ e2⟩

end Cert.Attention

end
-- ==== Proof.ExpertsTables.lean ====
/- The precondition fixes both tables of the experts' calls: the expert of a row tile is the tile's number divided by 48,
   and all 384 row tiles are live. -/
module

public import proofs.«01_k».proof.Proof.Gen.Pre_routed_up
public import proofs.«01_k».proof.Proof.Gen.Pre_routed_down
public import Idealize.ShloMosaic.Lib.Pointwise
public import Idealize.ShloMosaic.Lib.ReduceAll
public import Idealize.ShloMosaic.Lib.Affine
public import Idealize.ShloMosaic.Lib.StableHlo.Predicate

@[expose] public section

set_option maxRecDepth 16384

noncomputable section

namespace Cert.Experts

open Idealize.ShloMosaic Idealize.ShloMosaic.TcCoe Idealize.SL.Sem

variable {F : FTy → Type} [FloatOps F]

/-- The up call's precondition, entry by entry. -/
theorem tables_of_up (te : IVec Cert.Pre_routed_up.S384 32) (nv : IVec Cert.Pre_routed_up.S1 32)
    (x : FVec F Cert.Pre_routed_up.S196608x2048 .f32) (g u : FVec F Cert.Pre_routed_up.S8x2048x7168 .bf16)
    (h : Cert.Pre_routed_up.fn te nv x g u = fun _ => 1#1) :
    (∀ i : Fin 384, te (ix1 i) = BitVec.ofNat 32 (i.val / 48)) ∧ ∀ i : Fin 1, nv (ix1 i) = 384#32 := by
  haveI : Subsingleton Cert.Pre_routed_up.S_.Idx := ⟨fun a b => funext fun k => k.elim0⟩
  have e := congrFun h (Shape.Idx.first Cert.Pre_routed_up.Facts.h_S_)
  simp only [Cert.Pre_routed_up.fn, andi] at e
  obtain ⟨e1, e2⟩ := IntOp.andi_eq_one.1 e
  refine ⟨fun i => ?_, fun i => ?_⟩
  · have a := StableHlo.Predicate.cmpi_eq_iff.1 (Host.reduce_andi_all _ _ _ _ _ e1 (ix1 i))
    rw [a]; pointwise
  · have a := StableHlo.Predicate.cmpi_eq_iff.1 (Host.reduce_andi_all _ _ _ _ _ e2 (ix1 i))
    rw [a]; pointwise

/-- The down call's precondition, entry by entry. -/
theorem tables_of_down (te : IVec Cert.Pre_routed_down.S384 32) (nv : IVec Cert.Pre_routed_down.S1 32)
    (x : FVec F Cert.Pre_routed_down.S196608x7168 .bf16) (w : FVec F Cert.Pre_routed_down.S8x7168x2048 .bf16)
    (h : Cert.Pre_routed_down.fn te nv x w = fun _ => 1#1) :
    (∀ i : Fin 384, te (ix1 i) = BitVec.ofNat 32 (i.val / 48)) ∧ ∀ i : Fin 1, nv (ix1 i) = 384#32 := by
  haveI : Subsingleton Cert.Pre_routed_down.S_.Idx := ⟨fun a b => funext fun k => k.elim0⟩
  have e := congrFun h (Shape.Idx.first Cert.Pre_routed_down.Facts.h_S_)
  simp only [Cert.Pre_routed_down.fn, andi] at e
  obtain ⟨e1, e2⟩ := IntOp.andi_eq_one.1 e
  refine ⟨fun i => ?_, fun i => ?_⟩
  · have a := StableHlo.Predicate.cmpi_eq_iff.1 (Host.reduce_andi_all _ _ _ _ _ e1 (ix1 i))
    rw [a]; pointwise
  · have a := StableHlo.Predicate.cmpi_eq_iff.1 (Host.reduce_andi_all _ _ _ _ _ e2 (ix1 i))
    rw [a]; pointwise

end Cert.Experts

end
-- ==== Proof.ExpertsPinned.lean ====
/- Under their preconditions the experts' calls run at the tables that their schedules are stated at. -/
module

public import proofs.«01_k».proof.Proof.ExpertsTables
public import proofs.«01_k».proof.Proof.Gen.Up.Flash
public import proofs.«01_k».proof.Proof.Gen.UpIdeal.Flash
public import proofs.«01_k».proof.Proof.Gen.Down.Flash
public import proofs.«01_k».proof.Proof.Gen.DownIdeal.Flash

@[expose] public section

set_option maxRecDepth 16384

noncomputable section

namespace Cert.Experts

open Idealize.ShloMosaic Idealize.ShloMosaic.TcCoe Idealize.SL.Sem

/-- A table whose entries are `i / 48` is the one the up call's schedule is stated at. -/
theorem up_tiles : ∀ i : Fin 384, Cert.Up.Gen.pinT_0 0 (ix1 i) = BitVec.ofNat 32 (i.val / 48) := by decide +kernel

/-- The same for the idealized up call. -/
theorem upIdeal_tiles : ∀ i : Fin 384, Cert.UpIdeal.Gen.pinT_0 0 (ix1 i) = BitVec.ofNat 32 (i.val / 48) := by decide +kernel

/-- The same for the down call. -/
theorem down_tiles : ∀ i : Fin 384, Cert.Down.Gen.pinT_0 0 (ix1 i) = BitVec.ofNat 32 (i.val / 48) := by decide +kernel

/-- The same for the idealized down call. -/
theorem downIdeal_tiles : ∀ i : Fin 384, Cert.DownIdeal.Gen.pinT_0 0 (ix1 i) = BitVec.ofNat 32 (i.val / 48) := by decide +kernel

/-- The up call's precondition fixes its tables. -/
theorem up_pinned (m : (ℓ : Loc Cert.Up.nD Cert.Up.τ Cert.Up.sig) → Buf (Elt Bits) ℓ)
    (h : ∀ c : Dev Cert.Up.nD, Cert.Pre_routed_up.fn (F := Bits) (m ((c.tc : Thread Cert.Up.nD Cert.Up.τ).loc Cert.Up.main_arg0))
      (m ((c.tc : Thread Cert.Up.nD Cert.Up.τ).loc Cert.Up.main_arg1)) (m ((c.tc : Thread Cert.Up.nD Cert.Up.τ).loc Cert.Up.main_arg2))
      (m ((c.tc : Thread Cert.Up.nD Cert.Up.τ).loc Cert.Up.main_arg3)) (m ((c.tc : Thread Cert.Up.nD Cert.Up.τ).loc Cert.Up.main_arg4))
        = fun _ => 1#1) : Cert.Up.Gen.Pinned 0 m := by
  constructor
  · intro c; funext x
    have e : x = ix1 (x 0) := eq_ix1 x
    rw [e]
    exact ((tables_of_up _ _ _ _ _ (h c)).1 (x 0)).trans (up_tiles (x 0)).symm
  · intro c; funext x
    have e : x = ix1 (x 0) := eq_ix1 x
    rw [e]
    exact (tables_of_up _ _ _ _ _ (h c)).2 (x 0)

/-- The idealized up call's precondition fixes its tables. -/
theorem upIdeal_pinned (m : (ℓ : Loc Cert.UpIdeal.nD Cert.UpIdeal.τ Cert.UpIdeal.sig) → Buf (Elt Ideal) ℓ)
    (h : ∀ c : Dev Cert.UpIdeal.nD, Cert.Pre_routed_up.fn (F := Ideal) (m ((c.tc : Thread Cert.UpIdeal.nD Cert.UpIdeal.τ).loc Cert.UpIdeal.main_arg0))
      (m ((c.tc : Thread Cert.UpIdeal.nD Cert.UpIdeal.τ).loc Cert.UpIdeal.main_arg1)) (m ((c.tc : Thread Cert.UpIdeal.nD Cert.UpIdeal.τ).loc Cert.UpIdeal.main_arg2))
      (m ((c.tc : Thread Cert.UpIdeal.nD Cert.UpIdeal.τ).loc Cert.UpIdeal.main_arg3)) (m ((c.tc : Thread Cert.UpIdeal.nD Cert.UpIdeal.τ).loc Cert.UpIdeal.main_arg4))
        = fun _ => 1#1) : Cert.UpIdeal.Gen.Pinned 0 m := by
  constructor
  · intro c; funext x
    have e : x = ix1 (x 0) := eq_ix1 x
    rw [e]
    exact ((tables_of_up _ _ _ _ _ (h c)).1 (x 0)).trans (upIdeal_tiles (x 0)).symm
  · intro c; funext x
    have e : x = ix1 (x 0) := eq_ix1 x
    rw [e]
    exact (tables_of_up _ _ _ _ _ (h c)).2 (x 0)

/-- The down call's precondition fixes its tables. -/
theorem down_pinned (m : (ℓ : Loc Cert.Down.nD Cert.Down.τ Cert.Down.sig) → Buf (Elt Bits) ℓ)
    (h : ∀ c : Dev Cert.Down.nD, Cert.Pre_routed_down.fn (F := Bits) (m ((c.tc : Thread Cert.Down.nD Cert.Down.τ).loc Cert.Down.main_arg0))
      (m ((c.tc : Thread Cert.Down.nD Cert.Down.τ).loc Cert.Down.main_arg1)) (m ((c.tc : Thread Cert.Down.nD Cert.Down.τ).loc Cert.Down.main_arg2))
      (m ((c.tc : Thread Cert.Down.nD Cert.Down.τ).loc Cert.Down.main_arg3)) = fun _ => 1#1) : Cert.Down.Gen.Pinned 0 m := by
  constructor
  · intro c; funext x
    have e : x = ix1 (x 0) := eq_ix1 x
    rw [e]
    exact ((tables_of_down _ _ _ _ (h c)).1 (x 0)).trans (down_tiles (x 0)).symm
  · intro c; funext x
    have e : x = ix1 (x 0) := eq_ix1 x
    rw [e]
    exact (tables_of_down _ _ _ _ (h c)).2 (x 0)

/-- The idealized down call's precondition fixes its tables. -/
theorem downIdeal_pinned (m : (ℓ : Loc Cert.DownIdeal.nD Cert.DownIdeal.τ Cert.DownIdeal.sig) → Buf (Elt Ideal) ℓ)
    (h : ∀ c : Dev Cert.DownIdeal.nD, Cert.Pre_routed_down.fn (F := Ideal) (m ((c.tc : Thread Cert.DownIdeal.nD Cert.DownIdeal.τ).loc Cert.DownIdeal.main_arg0))
      (m ((c.tc : Thread Cert.DownIdeal.nD Cert.DownIdeal.τ).loc Cert.DownIdeal.main_arg1)) (m ((c.tc : Thread Cert.DownIdeal.nD Cert.DownIdeal.τ).loc Cert.DownIdeal.main_arg2))
      (m ((c.tc : Thread Cert.DownIdeal.nD Cert.DownIdeal.τ).loc Cert.DownIdeal.main_arg3)) = fun _ => 1#1) : Cert.DownIdeal.Gen.Pinned 0 m := by
  constructor
  · intro c; funext x
    have e : x = ix1 (x 0) := eq_ix1 x
    rw [e]
    exact ((tables_of_down _ _ _ _ (h c)).1 (x 0)).trans (downIdeal_tiles (x 0)).symm
  · intro c; funext x
    have e : x = ix1 (x 0) := eq_ix1 x
    rw [e]
    exact (tables_of_down _ _ _ _ (h c)).2 (x 0)

end Cert.Experts

end
-- ==== Proof.ExpertsUpTile.lean ====
/- The experts' gate and up projections: the reference's result as one function of the arguments, and one entry of a tile
   of the kernel against it. -/
module

public import proofs.«01_k».proof.Proof.Gen.UpIdeal.Skeleton
public import proofs.«01_k».proof.Proof.Gen.UpReferenceIdeal.Run
public import Idealize.ShloMosaic.Lib.Pointwise

@[expose] public section

set_option maxRecDepth 16384

noncomputable section

namespace Cert.ExpertsUp

open Idealize.ShloMosaic Idealize.ShloMosaic.TcCoe Idealize.SL.Sem

section Reference

open Cert.UpReferenceIdeal Cert.UpReferenceIdeal.Gen Cert.UpReferenceIdeal.Facts

/-- Every expert's rows against that expert's weights. -/
def product (x : FVec Ideal S196608x2048 .f32) (w : FVec Ideal S8x2048x7168 .bf16) : FVec Ideal S8x24576x7168 .f32 :=
  Host.dotGeneral dot_S8x24576x2048_S8x2048x7168_S8x24576x7168_2_1_1_2_0_0 none
    (shapeCast _ x shapeCasts_S196608x2048_S8x24576x2048) (extf .f32 w bitsLt_bf16_f32)

/-- The reference's result: the gate's product times its logistic, times the up product. -/
def result (x : FVec Ideal S196608x2048 .f32) (wg wu : FVec Ideal S8x2048x7168 .bf16) : FVec Ideal S196608x7168 .bf16 :=
  truncf .bf16 (shapeCast _ (mulf (mulf (product x wg)
    (Host.divf (broadcastInDim S8x24576x7168 ![] bcast_S_S8x24576x7168 (constant S_ .f32 0x3F800000#32))
      (addf (broadcastInDim S8x24576x7168 ![] bcast_S_S8x24576x7168 (constant S_ .f32 0x3F800000#32))
        (Host.exp (Host.negf (product x wg)))))) (product x wu)) shapeCasts_S8x24576x7168_S196608x7168) bitsLt_bf16_f32

/-- An entry of a product: row `r` belongs to expert `r / 24576`. -/
theorem product_at (x : FVec Ideal S196608x2048 .f32) (w : FVec Ideal S8x2048x7168 .bf16) (r : Fin 196608) (f : Fin 7168) :
    product x w (ix3 (⟨r.val / 24576, by omega⟩ : Fin 8) (⟨r.val % 24576, by omega⟩ : Fin 24576) f)
      = ∑ k : Fin 2048, x (ix2 r k) * w (ix3 (⟨r.val / 24576, by omega⟩ : Fin 8) k f) := by
  pointwise [product]

/-- An entry of the reference's result, from the two products. -/
theorem result_at (x : FVec Ideal S196608x2048 .f32) (wg wu : FVec Ideal S8x2048x7168 .bf16) (r : Fin 196608) (f : Fin 7168) :
    result x wg wu (ix2 r f)
      = (∑ k : Fin 2048, x (ix2 r k) * wg (ix3 (⟨r.val / 24576, by omega⟩ : Fin 8) k f))
        * Ideal.div 1 (1 + Ideal.exp (-(∑ k : Fin 2048, x (ix2 r k) * wg (ix3 (⟨r.val / 24576, by omega⟩ : Fin 8) k f))))
        * (∑ k : Fin 2048, x (ix2 r k) * wu (ix3 (⟨r.val / 24576, by omega⟩ : Fin 8) k f)) := by
  rw [← product_at, ← product_at]
  pointwise [result]

end Reference

/-- An entry of a tile of the kernel is the reference's entry at the row and column that the tile's rows and columns stand for. -/
theorem tile (x : FVec Ideal Cert.UpReferenceIdeal.S196608x2048 .f32) (wg wu : FVec Ideal Cert.UpReferenceIdeal.S8x2048x7168 .bf16)
    (xb : FVec Ideal Cert.UpIdeal.S512x2048 .f32) (gb ub : FVec Ideal Cert.UpIdeal.S1x2048x1024 .bf16)
    (a : Fin 512) (d : Fin 1024) (r : Fin 196608) (f : Fin 7168)
    (hx : ∀ k : Fin 2048, xb (ix2 a k) = x (ix2 r k))
    (hg : ∀ k : Fin 2048, gb (ix3 0 k d) = wg (ix3 (⟨r.val / 24576, by omega⟩ : Fin 8) k f))
    (hu : ∀ k : Fin 2048, ub (ix3 0 k d) = wu (ix3 (⟨r.val / 24576, by omega⟩ : Fin 8) k f)) :
    Cert.UpIdeal.Gen.k0_pay1 (F := Ideal) xb gb ub (ix2 a d) = result x wg wu (ix2 r f) := by
  rw [result_at]
  pointwise [Cert.UpIdeal.Gen.k0_pay1]
  simp only [hx, hg, hu]
  rfl

end Cert.ExpertsUp

end
-- ==== Proof.ExpertsUpGrid.lean ====
/- The experts' gate and up projections: which blocks a grid point works on, and that the output's blocks cover it. -/
module

public import proofs.«01_k».proof.Proof.Gen.UpIdeal.Flash
public import Idealize.ShloMosaic.Lib.Pipeline.ValueKit

@[expose] public section

set_option maxRecDepth 16384

noncomputable section

namespace Cert.ExpertsUp

open Idealize.ShloMosaic Idealize.ShloMosaic.TcCoe Idealize.SL.Sem
open Idealize.ShloMosaic.Pipeline (Dat)
open Cert.UpIdeal Cert.UpIdeal.Gen

/-- The blocks of a grid point: row tile `t / 7`, its expert `t / 7 / 48`, column tile `t % 7`. -/
theorem idx : ∀ t : Fin (cfgA 0).N,
    ((cfgA 0).win 0).index t = ![t.val / 7, 0] ∧ ((cfgA 0).win 1).index t = ![t.val / 7 / 48, 0, t.val % 7]
    ∧ ((cfgA 0).win 2).index t = ![t.val / 7 / 48, 0, t.val % 7] ∧ ((cfgA 0).win 3).index t = ![t.val / 7, t.val % 7] :=
  (by decide +kernel : ∀ t : Fin grid0.N, _)

/-- The output's blocks cover the output array. -/
theorem covers : ((cfgA 0).win 3).Covers := by decide +kernel

end Cert.ExpertsUp

end
-- ==== Proof.ExpertsUpValue.lean ====
/- The experts' gate and up projections: the kernel's output array after the whole grid is the reference's result. -/
module

public import proofs.«01_k».proof.Proof.ExpertsUpTile
public import proofs.«01_k».proof.Proof.ExpertsUpGrid
public import Idealize.ShloMosaic.Lib.Pipeline.ValueKit

@[expose] public section

set_option maxRecDepth 16384

noncomputable section

namespace Cert.ExpertsUp

open Idealize.ShloMosaic Idealize.ShloMosaic.TcCoe Idealize.SL.Sem
open Idealize.ShloMosaic.Pipeline (Dat)
open Cert.UpIdeal Cert.UpIdeal.Gen

/-- A grid point's one store is the tile's payload over its three input blocks. -/
theorem out_eq (c : Dev nD) (i : grid0.Coords) (a4 : Memref sig .tc .vmem S512x2048 .f32) (h4 : a4.IsWhole)
    (a5 : Memref sig .tc .vmem S1x2048x1024 .bf16) (h5 : a5.IsWhole) (a6 : Memref sig .tc .vmem S1x2048x1024 .bf16) (h6 : a6.IsWhole)
    (a7 : Memref sig .tc .vmem S512x1024 .bf16) (h7 : a7.IsWhole) (T0 : S384.Idx → Elt Ideal .i32) (T1 : S1.Idx → Elt Ideal .i32)
    (x0 : FVec Ideal S512x2048 .f32) (x1 x2 : FVec Ideal S1x2048x1024 .bf16) (k1) (k2) :
    out0_A_3 c i a4 h4 a5 h5 a6 h6 a7 h7 T0 T1 x0 x1 x2 k1 k2 = k0_pay1 (F := Ideal) x0 x1 x2 := by
  have z2 : (![0, 0] : Fin 2 → Nat) = fun _ => 0 := by decide
  have z3 : (![0, 0, 0] : Fin 3 → Nat) = fun _ => 0 := by decide
  unfold out0_A_3
  rw [View.read_writes_eq_canon _ _ _ (cover0_A_3 c i a4 h4 a5 h5 a6 h6 a7 h7 T0 T1 x0 x1 x2 k1 k2)]
  unfold kernelRun0_A
  dsimp only
  sl_unfold_words
  rw [View.canon_unit_zero z2]
  simp only [View.readAt_eq_ld, View.read_rep, View.ld_unit_zero (S := S512x2048) z2, View.ld_unit_zero (S := S1x2048x1024) z3]

variable (m : (ℓ : Loc nD τ sig) → Buf (Elt Ideal) ℓ) (ρ : Dev nD → PrngReg)

/-- What a grid point leaves in its output block is the reference's result at the block's rows and columns. -/
theorem point (c : Dev nD) (t : Fin (cfgA 0).N) (y : S512x1024.Idx) (r : Fin 196608) (f : Fin 7168)
    (hr : r.val = t.val / 7 * 512 + (y 0 : ℕ)) (hf : f.val = t.val % 7 * 1024 + (y 1 : ℕ)) :
    k0_pay1 (F := Ideal) (iblk 0 m ρ c 0 t) (iblk 0 m ρ c 1 t) (iblk 0 m ρ c 2 t) y
      = result (m ((c.tc : Thread nD τ).loc main_arg2)) (m ((c.tc : Thread nD τ).loc main_arg3))
          (m ((c.tc : Thread nD τ).loc main_arg4)) (ix2 r f) := by
  have tlt : t.val < 2688 := t.isLt
  obtain ⟨i0, i1, i2, -⟩ := idx t
  have y0 : (y 0 : ℕ) < 512 := (y 0).isLt
  rw [eq_ix2 y]
  refine tile _ _ _ _ _ _ _ _ r f (fun k => ?_) (fun k => ?_) (fun k => ?_)
  · refine congrArg (m ((c.tc : Thread nD τ).loc main_arg2)) (funext fun a => Fin.ext ?_)
    match a with
    | ⟨0, _⟩ => show ((cfgA 0).win 0).index t 0 * 512 + 1 * (y 0).val = r.val; rw [i0, hr]; simp
    | ⟨1, _⟩ => show ((cfgA 0).win 0).index t 1 * 2048 + 1 * k.val = k.val; rw [i0]; simp
  · refine congrArg (m ((c.tc : Thread nD τ).loc main_arg3)) (funext fun a => Fin.ext ?_)
    match a with
    | ⟨0, _⟩ => show ((cfgA 0).win 1).index t 0 * 1 + 1 * 0 = r.val / 24576; rw [i1]; simp; omega
    | ⟨1, _⟩ => show ((cfgA 0).win 1).index t 1 * 2048 + 1 * k.val = k.val; rw [i1]; simp
    | ⟨2, _⟩ => show ((cfgA 0).win 1).index t 2 * 1024 + 1 * (y 1).val = f.val; rw [i1, hf]; simp
  · refine congrArg (m ((c.tc : Thread nD τ).loc main_arg4)) (funext fun a => Fin.ext ?_)
    match a with
    | ⟨0, _⟩ => show ((cfgA 0).win 2).index t 0 * 1 + 1 * 0 = r.val / 24576; rw [i2]; simp; omega
    | ⟨1, _⟩ => show ((cfgA 0).win 2).index t 1 * 2048 + 1 * k.val = k.val; rw [i2]; simp
    | ⟨2, _⟩ => show ((cfgA 0).win 2).index t 2 * 1024 + 1 * (y 1).val = f.val; rw [i2, hf]; simp

/-- The output array after the whole grid. -/
theorem final (c : Dev nD) :
    (dats 0 m ρ 0 c).arrAt 3 (cfgA 0).N
      = result (m ((c.tc : Thread nD τ).loc main_arg2)) (m ((c.tc : Thread nD τ).loc main_arg3))
          (m ((c.tc : Thread nD τ).loc main_arg4)) := by
  refine (dats 0 m ρ 0 c).arrAt_eq_of_covers 3 _ covers fun t _ y => ?_
  have tlt : t.val < 2688 := t.isLt
  have y0 : (y 0 : ℕ) < 512 := (y 0).isLt
  have y1 : (y 1 : ℕ) < 1024 := (y 1).isLt
  obtain ⟨-, -, -, i3⟩ := idx t
  show traj0 0 m ρ c t.val t.isLt y = _
  rw [traj0_eq, step0_A, out_eq]
  refine (point m ρ c t y ⟨t.val / 7 * 512 + (y 0 : ℕ), by omega⟩ ⟨t.val % 7 * 1024 + (y 1 : ℕ), by omega⟩ rfl rfl).trans ?_
  refine congrArg (result _ _ _) (funext fun a => Fin.ext ?_)
  match a with
  | ⟨0, _⟩ => show t.val / 7 * 512 + (y 0 : ℕ) = ((cfgA 0).win 3).index t 0 * 512 + 1 * (y 0).val; rw [i3]; simp
  | ⟨1, _⟩ => show t.val % 7 * 1024 + (y 1 : ℕ) = ((cfgA 0).win 3).index t 1 * 1024 + 1 * (y 1).val; rw [i3]; simp

end Cert.ExpertsUp

end
-- ==== Proof.ExpertsDownTile.lean ====
/- The experts' down projections: the reference's result as one function of the arguments, and one entry of a tile of the
   kernel, which sums the contraction in two halves, against it. -/
module

public import proofs.«01_k».proof.Proof.Gen.DownIdeal.Skeleton
public import proofs.«01_k».proof.Proof.Gen.DownReferenceIdeal.Run
public import Idealize.ShloMosaic.Lib.Pointwise

@[expose] public section

set_option maxRecDepth 16384

noncomputable section

namespace Cert.ExpertsDown

open Idealize.ShloMosaic Idealize.ShloMosaic.TcCoe Idealize.SL.Sem

section Reference

open Cert.DownReferenceIdeal Cert.DownReferenceIdeal.Gen Cert.DownReferenceIdeal.Facts

/-- The reference's result: every expert's rows against that expert's weights. -/
def result (x : FVec Ideal S196608x7168 .bf16) (w : FVec Ideal S8x7168x2048 .bf16) : FVec Ideal S196608x2048 .f32 :=
  shapeCast _ (Host.dotGeneral dot_S8x24576x7168_S8x7168x2048_S8x24576x2048_2_1_1_2_0_0 none
    (shapeCast _ (extf .f32 x bitsLt_bf16_f32) shapeCasts_S196608x7168_S8x24576x7168) (extf .f32 w bitsLt_bf16_f32))
    shapeCasts_S8x24576x2048_S196608x2048

/-- An entry of the reference's result: row `r` belongs to expert `r / 24576`. -/
theorem result_at (x : FVec Ideal S196608x7168 .bf16) (w : FVec Ideal S8x7168x2048 .bf16) (r : Fin 196608) (f : Fin 2048) :
    result x w (ix2 r f) = ∑ k : Fin 7168, x (ix2 r k) * w (ix3 (⟨r.val / 24576, by omega⟩ : Fin 8) k f) := by
  pointwise [result]

/-- The same entry as the sum of its first and its second half. -/
theorem result_halves (x : FVec Ideal S196608x7168 .bf16) (w : FVec Ideal S8x7168x2048 .bf16) (r : Fin 196608) (f : Fin 2048) :
    result x w (ix2 r f)
      = (∑ k : Fin 3584, x (ix2 r (⟨k.val, by omega⟩ : Fin 7168)) * w (ix3 (⟨r.val / 24576, by omega⟩ : Fin 8) (⟨k.val, by omega⟩ : Fin 7168) f))
        + ∑ k : Fin 3584, x (ix2 r (⟨3584 + k.val, by omega⟩ : Fin 7168))
            * w (ix3 (⟨r.val / 24576, by omega⟩ : Fin 8) (⟨3584 + k.val, by omega⟩ : Fin 7168) f) := by
  rw [result_at]
  exact Fin.sum_univ_two_halves 3584 3584 rfl _

end Reference

/-- An entry of a tile of the kernel after its two steps is the reference's entry at the row and column that the tile's
    rows and columns stand for. -/
theorem tile (x : FVec Ideal Cert.DownReferenceIdeal.S196608x7168 .bf16) (w : FVec Ideal Cert.DownReferenceIdeal.S8x7168x2048 .bf16)
    (x0 x1 : FVec Ideal Cert.DownIdeal.S512x3584 .bf16) (w0 w1 : FVec Ideal Cert.DownIdeal.S1x3584x1024 .bf16)
    (a : Fin 512) (d : Fin 1024) (r : Fin 196608) (f : Fin 2048)
    (hx0 : ∀ k : Fin 3584, x0 (ix2 a k) = x (ix2 r (⟨k.val, by omega⟩ : Fin 7168)))
    (hx1 : ∀ k : Fin 3584, x1 (ix2 a k) = x (ix2 r (⟨3584 + k.val, by omega⟩ : Fin 7168)))
    (hw0 : ∀ k : Fin 3584, w0 (ix3 0 k d) = w (ix3 (⟨r.val / 24576, by omega⟩ : Fin 8) (⟨k.val, by omega⟩ : Fin 7168) f))
    (hw1 : ∀ k : Fin 3584, w1 (ix3 0 k d) = w (ix3 (⟨r.val / 24576, by omega⟩ : Fin 8) (⟨3584 + k.val, by omega⟩ : Fin 7168) f)) :
    Cert.DownIdeal.Gen.k0_pay2 (F := Ideal) x1 w1 (Cert.DownIdeal.Gen.k0_pay1 (F := Ideal) x0 w0) (ix2 a d) = result x w (ix2 r f) := by
  rw [result_halves]
  pointwise [Cert.DownIdeal.Gen.k0_pay1, Cert.DownIdeal.Gen.k0_pay2]
  simp only [hx0, hx1, hw0, hw1]

end Cert.ExpertsDown

end
-- ==== Proof.ExpertsDownGrid.lean ====
/- The experts' down projections: which blocks a grid point works on, which points write back, and that the output's
   blocks cover it. -/
module

public import proofs.«01_k».proof.Proof.Gen.DownIdeal.Flash
public import Idealize.ShloMosaic.Lib.Pipeline.ValueKit

@[expose] public section

set_option maxRecDepth 16384

noncomputable section

namespace Cert.ExpertsDown

open Idealize.ShloMosaic Idealize.ShloMosaic.TcCoe Idealize.SL.Sem
open Idealize.ShloMosaic.Pipeline (Dat)
open Cert.DownIdeal Cert.DownIdeal.Gen

/-- The blocks of a grid point: row tile `t / 4`, its expert `t / 4 / 48`, column tile `t / 2 % 2`, half `t % 2` of the
    contraction. -/
theorem idx : ∀ t : Fin (cfgA 0).N,
    ((cfgA 0).win 0).index t = ![t.val / 4, t.val % 2] ∧ ((cfgA 0).win 1).index t = ![t.val / 4 / 48, t.val % 2, t.val / 2 % 2]
    ∧ ((cfgA 0).win 2).index t = ![t.val / 4, t.val / 2 % 2] :=
  (by decide +kernel : ∀ t : Fin grid0.N, _)

/-- Even points take the first half of the contraction. -/
theorem first_iff : ∀ t : Fin (cfgA 0).N, P0_0 0 t ↔ t.val % 2 = 0 :=
  (by decide +kernel : ∀ t : Fin grid0.N, _)

/-- The output's blocks cover the output array. -/
theorem covers : ((cfgA 0).win 2).Covers := by decide +kernel

end Cert.ExpertsDown

end
-- ==== Proof.ExpertsDownValue.lean ====
/- The experts' down projections: the kernel's output array after the whole grid is the reference's result. -/
module

public import proofs.«01_k».proof.Proof.ExpertsDownTile
public import proofs.«01_k».proof.Proof.ExpertsDownGrid
public import Idealize.ShloMosaic.Lib.Pipeline.ValueKit

@[expose] public section

set_option maxRecDepth 16384

noncomputable section

namespace Cert.ExpertsDown

open Idealize.ShloMosaic Idealize.ShloMosaic.TcCoe Idealize.SL.Sem
open Idealize.ShloMosaic.Pipeline (Dat)
open Cert.DownIdeal Cert.DownIdeal.Gen

/-- A point of the first half stores the product of its two input blocks. -/
theorem first_eq (c : Dev nD) (i : grid0.Coords) (a5 : Memref sig .tc .vmem S512x3584 .bf16) (h5 : a5.IsWhole)
    (a6 : Memref sig .tc .vmem S1x3584x1024 .bf16) (h6 : a6.IsWhole) (a7 : Memref sig .tc .vmem S512x1024 .f32) (h7 : a7.IsWhole)
    (T0 : S384.Idx → Elt Ideal .i32) (T1 : S1.Idx → Elt Ideal .i32)
    (x0 : FVec Ideal S512x3584 .bf16) (x1 : FVec Ideal S1x3584x1024 .bf16) (k1) (k2) (k3) (k4) :
    out0_A_2 c i a5 h5 a6 h6 a7 h7 T0 T1 x0 x1 k1 k2 k3 k4 = k0_pay1 (F := Ideal) x0 x1 := by
  have z2 : (![0, 0] : Fin 2 → Nat) = fun _ => 0 := by decide
  have z3 : (![0, 0, 0] : Fin 3 → Nat) = fun _ => 0 := by decide
  unfold out0_A_2
  rw [View.read_writes_eq_canon _ _ _ (cover0_A_2 c i a5 h5 a6 h6 a7 h7 T0 T1 x0 x1 k1 k2 k3 k4)]
  unfold kernelRun0_A
  dsimp only
  sl_unfold_words
  rw [View.canon_unit_zero z2]
  simp only [View.readAt_eq_ld, View.read_rep, View.ld_unit_zero (S := S512x3584) z2, View.ld_unit_zero (S := S1x3584x1024) z3]

/-- A point of the second half adds the product of its two input blocks to what the output block held. -/
theorem second_eq (c : Dev nD) (i : grid0.Coords) (a5 : Memref sig .tc .vmem S512x3584 .bf16) (h5 : a5.IsWhole)
    (a6 : Memref sig .tc .vmem S1x3584x1024 .bf16) (h6 : a6.IsWhole) (a7 : Memref sig .tc .vmem S512x1024 .f32) (h7 : a7.IsWhole)
    (T0 : S384.Idx → Elt Ideal .i32) (T1 : S1.Idx → Elt Ideal .i32)
    (x0 : FVec Ideal S512x3584 .bf16) (x1 : FVec Ideal S1x3584x1024 .bf16) (p : FVec Ideal S512x1024 .f32) (k1) (k2) (k3) (k4) :
    out0_B_2 c i a5 h5 a6 h6 a7 h7 T0 T1 x0 x1 p k1 k2 k3 k4 = k0_pay2 (F := Ideal) x0 x1 p := by
  have z2 : (![0, 0] : Fin 2 → Nat) = fun _ => 0 := by decide
  have z3 : (![0, 0, 0] : Fin 3 → Nat) = fun _ => 0 := by decide
  unfold out0_B_2
  rw [View.read_writes_eq_canon _ _ _ (cover0_B_2 c i a5 h5 a6 h6 a7 h7 T0 T1 x0 x1 p k1 k2 k3 k4)]
  unfold kernelRun0_B
  dsimp only
  sl_unfold_words
  rw [View.canon_unit_zero z2]
  simp only [View.readAt_eq_ld, View.read_rep, h7.read_unread, View.ld_unit_zero (S := S512x3584) z2,
    View.ld_unit_zero (S := S1x3584x1024) z3, View.ld_unit_zero (S := S512x1024) z2]

variable (m : (ℓ : Loc nD τ sig) → Buf (Elt Ideal) ℓ) (ρ : Dev nD → PrngReg)

/-- Before a point the output block holds what the point before it left. -/
theorem before_eq (c : Dev nD) (t s : Fin (cfgA 0).N) (hs : s.val + 1 = t.val) :
    prev0 0 m ρ c t = traj0 0 m ρ c s.val s.isLt := by
  obtain ⟨n, hn⟩ := t
  obtain ⟨k, hk⟩ := s
  obtain rfl : k + 1 = n := hs
  unfold prev0
  exact dif_neg (Nat.succ_ne_zero k)

/-- After the two points of an output block it holds the sum of the two products. -/
theorem held (c : Dev nD) (t s : Fin (cfgA 0).N) (ht : t.val % 2 = 1) (hs : s.val + 1 = t.val) :
    traj0 0 m ρ c t.val t.isLt
      = k0_pay2 (F := Ideal) (iblk 0 m ρ c 0 t) (iblk 0 m ρ c 1 t) (k0_pay1 (F := Ideal) (iblk 0 m ρ c 0 s) (iblk 0 m ρ c 1 s)) := by
  have q : ¬P0_0 0 t := fun h => by have := (first_iff t).1 h; omega
  have qs : P0_0 0 s := (first_iff s).2 (by omega)
  rw [traj0_eq, step0_B 0 m ρ c t _ q, second_eq]
  refine congrArg (k0_pay2 (F := Ideal) (iblk 0 m ρ c 0 t) (iblk 0 m ρ c 1 t)) ?_
  rw [before_eq m ρ c t s hs, traj0_eq 0 m ρ c s, step0_A 0 m ρ c s _ qs, first_eq]

/-- What an output block holds after its two points is the reference's result at the block's rows and columns. -/
theorem point (c : Dev nD) (t s : Fin (cfgA 0).N) (ht : t.val % 2 = 1) (hs : s.val + 1 = t.val) (y : S512x1024.Idx)
    (r : Fin 196608) (f : Fin 2048)
    (hr : r.val = t.val / 4 * 512 + (y 0 : ℕ)) (hf : f.val = t.val / 2 % 2 * 1024 + (y 1 : ℕ)) :
    k0_pay2 (F := Ideal) (iblk 0 m ρ c 0 t) (iblk 0 m ρ c 1 t) (k0_pay1 (F := Ideal) (iblk 0 m ρ c 0 s) (iblk 0 m ρ c 1 s)) y
      = result (m ((c.tc : Thread nD τ).loc main_arg2)) (m ((c.tc : Thread nD τ).loc main_arg3)) (ix2 r f) := by
  have tlt : t.val < 1536 := t.isLt
  obtain ⟨i0, i1, -⟩ := idx t
  obtain ⟨j0, j1, -⟩ := idx s
  have y0 : (y 0 : ℕ) < 512 := (y 0).isLt
  have e4 : s.val / 4 = t.val / 4 := by omega
  have e2 : s.val / 2 = t.val / 2 := by omega
  have es : s.val % 2 = 0 := by omega
  rw [es, e4] at j0
  rw [es, e4, e2] at j1
  rw [ht] at i0 i1
  rw [eq_ix2 y]
  refine tile _ _ _ _ _ _ _ _ r f (fun k => ?_) (fun k => ?_) (fun k => ?_) (fun k => ?_)
  · refine congrArg (m ((c.tc : Thread nD τ).loc main_arg2)) (funext fun a => Fin.ext ?_)
    match a with
    | ⟨0, _⟩ => show ((cfgA 0).win 0).index s 0 * 512 + 1 * (y 0).val = r.val; rw [j0, hr]; simp
    | ⟨1, _⟩ => show ((cfgA 0).win 0).index s 1 * 3584 + 1 * k.val = k.val; rw [j0]; simp
  · refine congrArg (m ((c.tc : Thread nD τ).loc main_arg2)) (funext fun a => Fin.ext ?_)
    match a with
    | ⟨0, _⟩ => show ((cfgA 0).win 0).index t 0 * 512 + 1 * (y 0).val = r.val; rw [i0, hr]; simp
    | ⟨1, _⟩ => show ((cfgA 0).win 0).index t 1 * 3584 + 1 * k.val = 3584 + k.val; rw [i0]; simp
  · refine congrArg (m ((c.tc : Thread nD τ).loc main_arg3)) (funext fun a => Fin.ext ?_)
    match a with
    | ⟨0, _⟩ => show ((cfgA 0).win 1).index s 0 * 1 + 1 * 0 = r.val / 24576; rw [j1]; simp; omega
    | ⟨1, _⟩ => show ((cfgA 0).win 1).index s 1 * 3584 + 1 * k.val = k.val; rw [j1]; simp
    | ⟨2, _⟩ => show ((cfgA 0).win 1).index s 2 * 1024 + 1 * (y 1).val = f.val; rw [j1, hf]; simp
  · refine congrArg (m ((c.tc : Thread nD τ).loc main_arg3)) (funext fun a => Fin.ext ?_)
    match a with
    | ⟨0, _⟩ => show ((cfgA 0).win 1).index t 0 * 1 + 1 * 0 = r.val / 24576; rw [i1]; simp; omega
    | ⟨1, _⟩ => show ((cfgA 0).win 1).index t 1 * 3584 + 1 * k.val = 3584 + k.val; rw [i1]; simp
    | ⟨2, _⟩ => show ((cfgA 0).win 1).index t 2 * 1024 + 1 * (y 1).val = f.val; rw [i1, hf]; simp

/-- The output array after the whole grid. -/
theorem final (c : Dev nD) :
    (dats 0 m ρ 0 c).arrAt 2 (cfgA 0).N
      = result (m ((c.tc : Thread nD τ).loc main_arg2)) (m ((c.tc : Thread nD τ).loc main_arg3)) := by
  refine (dats 0 m ρ 0 c).arrAt_eq_of_covers 2 _ covers fun t hfl y => ?_
  have tlt : t.val < 1536 := t.isLt
  have y0 : (y 0 : ℕ) < 512 := (y 0).isLt
  have y1 : (y 1 : ℕ) < 1024 := (y 1).isLt
  obtain ⟨-, -, i2⟩ := idx t
  have odd : t.val % 2 = 1 := by
    by_contra hn
    have := (sched0_A 0 t ((first_iff t).2 (by omega))).2.1
    rw [this] at hfl
    exact absurd hfl (by decide)
  let s : Fin (cfgA 0).N := ⟨t.val - 1, Nat.lt_of_le_of_lt (Nat.sub_le _ _) t.isLt⟩
  have hs : s.val + 1 = t.val := by show t.val - 1 + 1 = t.val; omega
  show traj0 0 m ρ c t.val t.isLt y = _
  rw [held m ρ c t s odd hs]
  refine (point m ρ c t s odd hs y ⟨t.val / 4 * 512 + (y 0 : ℕ), by omega⟩ ⟨t.val / 2 % 2 * 1024 + (y 1 : ℕ), by omega⟩ rfl rfl).trans ?_
  refine congrArg (result _ _) (funext fun a => Fin.ext ?_)
  match a with
  | ⟨0, _⟩ => show t.val / 4 * 512 + (y 0 : ℕ) = ((cfgA 0).win 2).index t 0 * 512 + 1 * (y 0).val; rw [i2]; simp
  | ⟨1, _⟩ => show t.val / 2 % 2 * 1024 + (y 1 : ℕ) = ((cfgA 0).win 2).index t 1 * 1024 + 1 * (y 1).val; rw [i2]; simp

end Cert.ExpertsDown

end
-- ==== Proof.NormValue.lean ====
/- The final norm: the kernel's output array after the whole grid is the reference's norm of every row. -/
module

public import proofs.«01_k».proof.Proof.Gen.NormIdeal.Value
public import proofs.«01_k».proof.Proof.Gen.NormReferenceIdeal.Run
public import Idealize.ShloMosaic.Lib.Pipeline.ValueKit
public import Idealize.ShloMosaic.Lib.Pointwise

@[expose] public section

set_option maxRecDepth 16384

noncomputable section

namespace Cert.Norm

open Idealize.ShloMosaic Idealize.ShloMosaic.TcCoe Idealize.SL.Sem

section Reference

open Cert.NormReferenceIdeal Cert.NormReferenceIdeal.Gen

/-- The reference's result: every row over the root of its mean square, times the gains. -/
def result (x : FVec Ideal S24576x2048 .f32) (w : FVec Ideal S2048 .f32) : FVec Ideal S24576x2048 .f32 :=
  mulf (mulf x (broadcastInDim S24576x2048 ![0, 1] bcast_S24576x1_S24576x2048_0_1 (Host.rsqrt (addf (Host.divf
    (broadcastInDim S24576x1 ![0] bcast_S24576_S24576x1_0 (Host.reduceAdd (mulf x x) (constant S_ .f32 0x00000000#32) reducesTo_S24576x2048_S24576_d1 h_S_))
    (broadcastInDim S24576x1 ![] bcast_S_S24576x1 (constant S_ .f32 0x45000000#32)))
    (broadcastInDim S24576x1 ![] bcast_S_S24576x1 (constant S_ .f32 0x358637BD#32))))))
    (broadcastInDim S24576x2048 ![0, 1] bcast_S1x2048_S24576x2048_0_1 (broadcastInDim S1x2048 ![1] bcast_S2048_S1x2048_1 w))

/-- An entry of the reference's result, from the row it is in and its gain. -/
theorem result_at (x : FVec Ideal S24576x2048 .f32) (w : FVec Ideal S2048 .f32) (r : Fin 24576) (u : Fin 2048) :
    result x w (ix2 r u)
      = x (ix2 r u) * Ideal.rsqrt (Ideal.div (∑ k : Fin 2048, x (ix2 r k) * x (ix2 r k)) (Scalar.ofBits (F := Ideal) .f32 0x45000000#32)
          + Scalar.ofBits (F := Ideal) .f32 0x358637BD#32) * w (ix1 u) := by
  pointwise [result]

end Reference

open Cert.NormIdeal Cert.NormIdeal.Gen

/-- An entry of a tile is the reference's entry at the row and column that the tile's row and column stand for. -/
theorem tile (x : FVec Ideal Cert.NormReferenceIdeal.S24576x2048 .f32) (w : FVec Ideal Cert.NormReferenceIdeal.S2048 .f32)
    (xb : FVec Ideal S512x2048 .f32) (wb : FVec Ideal S1x2048 .f32) (a : Fin 512) (d : Fin 2048) (r : Fin 24576)
    (hx : ∀ k : Fin 2048, xb (ix2 a k) = x (ix2 r k)) (hw : wb (ix2 0 d) = w (ix1 d)) :
    k0_pay1 (F := Ideal) xb wb (ix2 a d) = result x w (ix2 r d) := by
  rw [result_at]
  pointwise [k0_pay1]
  simp only [hx, hw]

/-- The blocks of a grid point: row block `t`, all columns. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

/-- The gains that the kernel reads are the argument, laid out as one row. -/
theorem gains (c : Dev nD) (d : Fin 2048) : V m c main_v0 (ix2 (0 : Fin 1) d) = m ((c.tc : Thread nD τ).loc main_arg1) (ix1 d) := by
  have e : V m c main_v0 = shapeCast S1x2048 (m ((c.tc : Thread nD τ).loc main_arg1)) shapeCasts_S2048_S1x2048 := by
    unfold V
    after_results
    rfl
  rw [e]
  pointwise

/-- What a grid point leaves in its output block is the reference's norm of the block's rows. -/
theorem point (c : Dev nD) (t : Fin cfg0.N) (y : S512x2048.Idx) (r : Fin 24576) (u : Fin 2048)
    (hr : r.val = t.val * 512 + (y 0 : ℕ)) (hu : u = y 1) :
    out0_2 (F := Ideal) (iblk m c 0 t) (iblk m c 1 t) y
      = result (m ((c.tc : Thread nD τ).loc main_arg0)) (m ((c.tc : Thread nD τ).loc main_arg1)) (ix2 r u) := by
  have z2 : (![0, 0] : Fin 2 → Nat) = fun _ => 0 := by decide
  obtain ⟨i0, i1, -⟩ := idx t
  subst hu
  unfold out0_2
  rw [View.canon_unit_zero z2]
  simp only [View.ld_unit_zero (S := S512x2048) z2, View.ld_unit_zero (S := S1x2048) z2]
  conv => lhs; rw [eq_ix2 y]
  refine tile _ _ _ _ _ _ r (fun k => ?_) ?_
  · refine congrArg (m ((c.tc : Thread nD τ).loc main_arg0)) (funext fun a => Fin.ext ?_)
    match a with
    | ⟨0, _⟩ => show win0_0.index t 0 * 512 + 1 * (y 0).val = r.val; rw [i0, hr]; simp
    | ⟨1, _⟩ => show win0_0.index t 1 * 2048 + 1 * k.val = k.val; rw [i0]; simp
  · refine Eq.trans (congrArg (V m c main_v0) (funext fun a => Fin.ext ?_)) (gains m c (y 1))
    match a with
    | ⟨0, _⟩ => show win0_1.index t 0 * 1 + 1 * 0 = 0; rw [i1]; simp
    | ⟨1, _⟩ => show win0_1.index t 1 * 2048 + 1 * (y 1).val = (y 1).val; rw [i1]; simp

/-- The output array after the whole grid. -/
theorem final (c : Dev nD) :
    (dats m 0 c).arrAt 2 cfg0.N = result (m ((c.tc : Thread nD τ).loc main_arg0)) (m ((c.tc : Thread nD τ).loc main_arg1)) := by
  refine (dats m 0 c).arrAt_eq_of_covers 2 _ (by decide +kernel) fun t _ y => ?_
  blk_simp
  rw [after0_2]
  have tlt : t.val < 48 := t.isLt
  have y0 : (y 0 : ℕ) < 512 := (y 0).isLt
  refine (point m c t y ⟨t.val * 512 + (y 0 : ℕ), by omega⟩ (y 1) rfl rfl).trans ?_
  refine congrArg _ ?_
  blk_ext [idx t]

end Cert.Norm

end
-- ==== Proof.ProjectValue.lean ====
/- The projection to queries, keys and values: the kernel's output array after the whole grid is the reference's product. -/
module

public import proofs.«01_k».proof.Proof.Gen.ProjectIdeal.Value
public import proofs.«01_k».proof.Proof.Gen.ProjectReferenceIdeal.Run
public import Idealize.ShloMosaic.Lib.Pipeline.ValueKit
public import Idealize.ShloMosaic.Lib.Pointwise

@[expose] public section

set_option maxRecDepth 16384

noncomputable section

namespace Cert.Project

open Idealize.ShloMosaic Idealize.ShloMosaic.TcCoe Idealize.SL.Sem

/-- The reference's product of the rows and the weights. -/
def result (x : FVec Ideal Cert.ProjectReferenceIdeal.S24576x2048 .bf16) (w : FVec Ideal Cert.ProjectReferenceIdeal.S2048x5120 .f32) :
    FVec Ideal Cert.ProjectReferenceIdeal.S24576x5120 .f32 :=
  Host.dotGeneral Cert.ProjectReferenceIdeal.dot_S24576x2048_S2048x5120_S24576x5120_1_0_0_1_n_n none
    (extf .f32 x Cert.ProjectReferenceIdeal.Gen.bitsLt_bf16_f32) w

/-- An entry of the product is the sum over the shared axis. -/
theorem result_at (x : FVec Ideal Cert.ProjectReferenceIdeal.S24576x2048 .bf16) (w : FVec Ideal Cert.ProjectReferenceIdeal.S2048x5120 .f32)
    (r : Fin 24576) (u : Fin 5120) : result x w (ix2 r u) = ∑ k : Fin 2048, x (ix2 r k) * w (ix2 k u) := by
  pointwise [result]

open Cert.ProjectIdeal Cert.ProjectIdeal.Gen

/-- An entry of a tile is the product's entry at the row and column that the tile's row and column stand for. -/
theorem tile (x : FVec Ideal Cert.ProjectReferenceIdeal.S24576x2048 .bf16) (w : FVec Ideal Cert.ProjectReferenceIdeal.S2048x5120 .f32)
    (xb : FVec Ideal S1024x2048 .bf16) (wb : FVec Ideal S2048x1024 .bf16) (a : Fin 1024) (d : Fin 1024) (r : Fin 24576) (u : Fin 5120)
    (hx : ∀ k : Fin 2048, xb (ix2 a k) = x (ix2 r k)) (hw : ∀ k : Fin 2048, wb (ix2 k d) = w (ix2 k u)) :
    k0_pay1 (F := Ideal) xb wb (ix2 a d) = result x w (ix2 r u) := by
  rw [result_at]
  pointwise [k0_pay1]
  simp only [hx, hw]

/-- The blocks of a grid point: row block `t / 5`, column block `t % 5`. -/
theorem idx : ∀ t : Fin cfg0.N,
    win0_0.index t = ![t.val / 5, 0] ∧ win0_1.index t = ![0, t.val % 5] ∧ win0_2.index t = ![t.val / 5, t.val % 5] :=
  (by decide +kernel : ∀ t : Fin grid0.N, _)

variable (m : (ℓ : Loc nD τ sig) → Buf (Elt Ideal) ℓ)

/-- The weights that the kernel reads are the argument: the cast before the call changes no entry at exact numbers. -/
theorem weights (c : Dev nD) : V m c main_v0 = m ((c.tc : Thread nD τ).loc main_arg1) := by
  unfold V
  after_results
  exact funext fun i => rfl

/-- What a grid point leaves in its output block is the product at the block's rows and columns. -/
theorem point (c : Dev nD) (t : Fin cfg0.N) (y : S1024x1024.Idx) (r : Fin 24576) (u : Fin 5120)
    (hr : r.val = t.val / 5 * 1024 + (y 0 : ℕ)) (hu : u.val = t.val % 5 * 1024 + (y 1 : ℕ)) :
    out0_2 (F := Ideal) (iblk m c 0 t) (iblk m c 1 t) y
      = result (m ((c.tc : Thread nD τ).loc main_arg0)) (m ((c.tc : Thread nD τ).loc main_arg1)) (ix2 r u) := by
  have z2 : (![0, 0] : Fin 2 → Nat) = fun _ => 0 := by decide
  have tlt : t.val < 120 := t.isLt
  obtain ⟨i0, i1, -⟩ := idx t
  unfold out0_2
  rw [View.canon_unit_zero z2]
  simp only [View.ld_unit_zero (S := S1024x2048) z2, View.ld_unit_zero (S := S2048x1024) z2]
  rw [eq_ix2 y]
  refine tile _ _ _ _ _ _ r u (fun k => ?_) (fun k => ?_)
  · refine congrArg (m ((c.tc : Thread nD τ).loc main_arg0)) (funext fun a => Fin.ext ?_)
    match a with
    | ⟨0, _⟩ => show win0_0.index t 0 * 1024 + 1 * (y 0).val = r.val; rw [i0, hr]; simp
    | ⟨1, _⟩ => show win0_0.index t 1 * 2048 + 1 * k.val = k.val; rw [i0]; simp
  · refine (congrFun (weights m c) _).trans (congrArg (m ((c.tc : Thread nD τ).loc main_arg1)) (funext fun a => Fin.ext ?_))
    match a with
    | ⟨0, _⟩ => show win0_1.index t 0 * 2048 + 1 * k.val = k.val; rw [i1]; simp
    | ⟨1, _⟩ => show win0_1.index t 1 * 1024 + 1 * (y 1).val = u.val; rw [i1, hu]; simp

/-- The output array after the whole grid. -/
theorem final (c : Dev nD) :
    (dats m 0 c).arrAt 2 cfg0.N = result (m ((c.tc : Thread nD τ).loc main_arg0)) (m ((c.tc : Thread nD τ).loc main_arg1)) := by
  refine (dats m 0 c).arrAt_eq_of_covers 2 _ (by decide +kernel) fun t _ y => ?_
  blk_simp
  rw [after0_2]
  have tlt : t.val < 120 := t.isLt
  have y0 : (y 0 : ℕ) < 1024 := (y 0).isLt
  have y1 : (y 1 : ℕ) < 1024 := (y 1).isLt
  refine (point m c t y ⟨t.val / 5 * 1024 + (y 0 : ℕ), by omega⟩ ⟨t.val % 5 * 1024 + (y 1 : ℕ), by omega⟩ rfl rfl).trans ?_
  refine congrArg _ ?_
  blk_ext [idx t]

end Cert.Project

end
-- ==== Proof.MixValue.lean ====
/- The in-projection of the gated delta layers: the kernel's output array after the whole grid is the reference's product. -/
module

public import proofs.«01_k».proof.Proof.Gen.MixIdeal.Value
public import proofs.«01_k».proof.Proof.Gen.MixReferenceIdeal.Run
public import Idealize.ShloMosaic.Lib.Pipeline.ValueKit
public import Idealize.ShloMosaic.Lib.Pointwise

@[expose] public section

set_option maxRecDepth 16384

noncomputable section

namespace Cert.Mix

open Idealize.ShloMosaic Idealize.ShloMosaic.TcCoe Idealize.SL.Sem

/-- The reference's product of the rows and the first 12288 columns of the weights. -/
def result (x : FVec Ideal Cert.MixReferenceIdeal.S24576x2048 .bf16) (w : FVec Ideal Cert.MixReferenceIdeal.S2048x12416 .f32) :
    FVec Ideal Cert.MixReferenceIdeal.S24576x12288 .f32 :=
  Host.dotGeneral Cert.MixReferenceIdeal.dot_S24576x2048_S2048x12288_S24576x12288_1_0_0_1_n_n none
    (extf .f32 x Cert.MixReferenceIdeal.Gen.bitsLt_bf16_f32)
    (extractStridedSlice Cert.MixReferenceIdeal.S2048x12288 ![0, 0] w Cert.MixReferenceIdeal.Gen.slices_S2048x12416_S2048x12288_0_0)

/-- An entry of the product is the sum over the shared axis. -/
theorem result_at (x : FVec Ideal Cert.MixReferenceIdeal.S24576x2048 .bf16) (w : FVec Ideal Cert.MixReferenceIdeal.S2048x12416 .f32)
    (r : Fin 24576) (u : Fin 12288) : result x w (ix2 r u) = ∑ k : Fin 2048, x (ix2 r k) * w (ix2 k (⟨u.val, by omega⟩ : Fin 12416)) := by
  pointwise [result]

open Cert.MixIdeal Cert.MixIdeal.Gen

/-- An entry of a tile is the product's entry at the row and column that the tile's row and column stand for. -/
theorem tile (x : FVec Ideal Cert.MixReferenceIdeal.S24576x2048 .bf16) (w : FVec Ideal Cert.MixReferenceIdeal.S2048x12416 .f32)
    (xb : FVec Ideal S1024x2048 .bf16) (wb : FVec Ideal S2048x1024 .bf16) (a : Fin 1024) (d : Fin 1024) (r : Fin 24576) (u : Fin 12288)
    (hx : ∀ k : Fin 2048, xb (ix2 a k) = x (ix2 r k)) (hw : ∀ k : Fin 2048, wb (ix2 k d) = w (ix2 k (⟨u.val, by omega⟩ : Fin 12416))) :
    k0_pay1 (F := Ideal) xb wb (ix2 a d) = result x w (ix2 r u) := by
  rw [result_at]
  pointwise [k0_pay1]
  simp only [hx, hw]

/-- The blocks of a grid point: row block `t / 12`, column block `t % 12`. -/
theorem idx : ∀ t : Fin cfg0.N,
    win0_0.index t = ![t.val / 12, 0] ∧ win0_1.index t = ![0, t.val % 12] ∧ win0_2.index t = ![t.val / 12, t.val % 12] :=
  (by decide +kernel : ∀ t : Fin grid0.N, _)

variable (m : (ℓ : Loc nD τ sig) → Buf (Elt Ideal) ℓ)

/-- The weights that the kernel reads are the argument's first columns: the cast before the call changes no entry at exact numbers. -/
theorem weights (c : Dev nD) (k : Fin 2048) (u : Fin 12288) :
    V m c main_v1 (ix2 k u) = m ((c.tc : Thread nD τ).loc main_arg1) (ix2 k (⟨u.val, by omega⟩ : Fin 12416)) := by
  unfold V
  after_results
  pointwise []

/-- What a grid point leaves in its output block is the product at the block's rows and columns. -/
theorem point (c : Dev nD) (t : Fin cfg0.N) (y : S1024x1024.Idx) (r : Fin 24576) (u : Fin 12288)
    (hr : r.val = t.val / 12 * 1024 + (y 0 : ℕ)) (hu : u.val = t.val % 12 * 1024 + (y 1 : ℕ)) :
    out0_2 (F := Ideal) (iblk m c 0 t) (iblk m c 1 t) y
      = result (m ((c.tc : Thread nD τ).loc main_arg0)) (m ((c.tc : Thread nD τ).loc main_arg1)) (ix2 r u) := by
  have z2 : (![0, 0] : Fin 2 → Nat) = fun _ => 0 := by decide
  have tlt : t.val < 288 := t.isLt
  obtain ⟨i0, i1, -⟩ := idx t
  unfold out0_2
  rw [View.canon_unit_zero z2]
  simp only [View.ld_unit_zero (S := S1024x2048) z2, View.ld_unit_zero (S := S2048x1024) z2]
  rw [eq_ix2 y]
  refine tile _ _ _ _ _ _ r u (fun k => ?_) (fun k => ?_)
  · refine congrArg (m ((c.tc : Thread nD τ).loc main_arg0)) (funext fun a => Fin.ext ?_)
    match a with
    | ⟨0, _⟩ => show win0_0.index t 0 * 1024 + 1 * (y 0).val = r.val; rw [i0, hr]; simp
    | ⟨1, _⟩ => show win0_0.index t 1 * 2048 + 1 * k.val = k.val; rw [i0]; simp
  · refine Eq.trans (congrArg (V m c main_v1) (funext fun a => Fin.ext ?_)) (weights m c k u)
    match a with
    | ⟨0, _⟩ => show win0_1.index t 0 * 2048 + 1 * k.val = k.val; rw [i1]; simp
    | ⟨1, _⟩ => show win0_1.index t 1 * 1024 + 1 * (y 1).val = u.val; rw [i1, hu]; simp

/-- The output array after the whole grid. -/
theorem final (c : Dev nD) :
    (dats m 0 c).arrAt 2 cfg0.N = result (m ((c.tc : Thread nD τ).loc main_arg0)) (m ((c.tc : Thread nD τ).loc main_arg1)) := by
  refine (dats m 0 c).arrAt_eq_of_covers 2 _ (by decide +kernel) fun t _ y => ?_
  blk_simp
  rw [after0_2]
  have tlt : t.val < 288 := t.isLt
  have y0 : (y 0 : ℕ) < 1024 := (y 0).isLt
  have y1 : (y 1 : ℕ) < 1024 := (y 1).isLt
  refine (point m c t y ⟨t.val / 12 * 1024 + (y 0 : ℕ), by omega⟩ ⟨t.val % 12 * 1024 + (y 1 : ℕ), by omega⟩ rfl rfl).trans ?_
  refine congrArg _ ?_
  blk_ext [idx t]

end Cert.Mix

end
-- ==== Proof.DenseUpPinned.lean ====
/- The precondition of the dense layer's gate and up projections fixes both tables: every row tile belongs to the one
   expert and all 24 are live. So the call runs at the tables that its schedule is stated at. -/
module

public import proofs.«01_k».proof.Proof.Gen.Pre_one_expert
public import proofs.«01_k».proof.Proof.Gen.Dense.Flash
public import proofs.«01_k».proof.Proof.Gen.DenseIdeal.Flash
public import Idealize.ShloMosaic.Lib.Pointwise
public import Idealize.ShloMosaic.Lib.ReduceAll
public import Idealize.ShloMosaic.Lib.Affine
public import Idealize.ShloMosaic.Lib.StableHlo.Predicate

@[expose] public section

set_option maxRecDepth 16384

noncomputable section

namespace Cert.DenseUp

open Idealize.ShloMosaic Idealize.ShloMosaic.TcCoe Idealize.SL.Sem

variable {F : FTy → Type} [FloatOps F]

/-- The dense layer's precondition, entry by entry. -/
theorem tables (te : IVec Cert.Pre_one_expert.S24 32) (nv : IVec Cert.Pre_one_expert.S1 32)
    (x : FVec F Cert.Pre_one_expert.S24576x2048 .bf16) (g u : FVec F Cert.Pre_one_expert.S1x2048x5632 .bf16)
    (h : Cert.Pre_one_expert.fn te nv x g u = fun _ => 1#1) :
    (∀ i : Fin 24, te (ix1 i) = 0#32) ∧ ∀ i : Fin 1, nv (ix1 i) = 24#32 := by
  haveI : Subsingleton Cert.Pre_one_expert.S_.Idx := ⟨fun a b => funext fun k => k.elim0⟩
  have e := congrFun h (Shape.Idx.first Cert.Pre_one_expert.Facts.h_S_)
  simp only [Cert.Pre_one_expert.fn, andi] at e
  obtain ⟨e1, e2⟩ := IntOp.andi_eq_one.1 e
  refine ⟨fun i => ?_, fun i => ?_⟩
  · have a := StableHlo.Predicate.cmpi_eq_iff.1 (Host.reduce_andi_all _ _ _ _ _ e1 (ix1 i))
    rw [a]; pointwise
  · have a := StableHlo.Predicate.cmpi_eq_iff.1 (Host.reduce_andi_all _ _ _ _ _ e2 (ix1 i))
    rw [a]; pointwise

/-- The table of the call's schedule is zero everywhere. -/
theorem dense_tiles : ∀ i : Fin 24, Cert.Dense.Gen.pinT_0 0 (ix1 i) = 0#32 := by decide +kernel

/-- The same for the idealized call. -/
theorem ideal_tiles : ∀ i : Fin 24, Cert.DenseIdeal.Gen.pinT_0 0 (ix1 i) = 0#32 := by decide +kernel

/-- The call's precondition fixes its tables. -/
theorem pinned (m : (ℓ : Loc Cert.Dense.nD Cert.Dense.τ Cert.Dense.sig) → Buf (Elt Bits) ℓ)
    (h : ∀ c : Dev Cert.Dense.nD, Cert.Pre_one_expert.fn (F := Bits) (m ((c.tc : Thread Cert.Dense.nD Cert.Dense.τ).loc Cert.Dense.main_arg0))
      (m ((c.tc : Thread Cert.Dense.nD Cert.Dense.τ).loc Cert.Dense.main_arg1)) (m ((c.tc : Thread Cert.Dense.nD Cert.Dense.τ).loc Cert.Dense.main_arg2))
      (m ((c.tc : Thread Cert.Dense.nD Cert.Dense.τ).loc Cert.Dense.main_arg3)) (m ((c.tc : Thread Cert.Dense.nD Cert.Dense.τ).loc Cert.Dense.main_arg4))
        = fun _ => 1#1) : Cert.Dense.Gen.Pinned 0 m := by
  constructor
  · intro c; funext x
    have e : x = ix1 (x 0) := eq_ix1 x
    rw [e]
    exact ((tables _ _ _ _ _ (h c)).1 (x 0)).trans (dense_tiles (x 0)).symm
  · intro c; funext x
    have e : x = ix1 (x 0) := eq_ix1 x
    rw [e]
    exact (tables _ _ _ _ _ (h c)).2 (x 0)

/-- The idealized call's precondition fixes its tables. -/
theorem ideal_pinned (m : (ℓ : Loc Cert.DenseIdeal.nD Cert.DenseIdeal.τ Cert.DenseIdeal.sig) → Buf (Elt Ideal) ℓ)
    (h : ∀ c : Dev Cert.DenseIdeal.nD, Cert.Pre_one_expert.fn (F := Ideal) (m ((c.tc : Thread Cert.DenseIdeal.nD Cert.DenseIdeal.τ).loc Cert.DenseIdeal.main_arg0))
      (m ((c.tc : Thread Cert.DenseIdeal.nD Cert.DenseIdeal.τ).loc Cert.DenseIdeal.main_arg1)) (m ((c.tc : Thread Cert.DenseIdeal.nD Cert.DenseIdeal.τ).loc Cert.DenseIdeal.main_arg2))
      (m ((c.tc : Thread Cert.DenseIdeal.nD Cert.DenseIdeal.τ).loc Cert.DenseIdeal.main_arg3)) (m ((c.tc : Thread Cert.DenseIdeal.nD Cert.DenseIdeal.τ).loc Cert.DenseIdeal.main_arg4))
        = fun _ => 1#1) : Cert.DenseIdeal.Gen.Pinned 0 m := by
  constructor
  · intro c; funext x
    have e : x = ix1 (x 0) := eq_ix1 x
    rw [e]
    exact ((tables _ _ _ _ _ (h c)).1 (x 0)).trans (ideal_tiles (x 0)).symm
  · intro c; funext x
    have e : x = ix1 (x 0) := eq_ix1 x
    rw [e]
    exact (tables _ _ _ _ _ (h c)).2 (x 0)

end Cert.DenseUp

end
-- ==== Proof.DenseUpTile.lean ====
/- The dense layer's gate and up projections: the reference's result as one function of the arguments, and one entry of a tile
   of the kernel against it. -/
module

public import proofs.«01_k».proof.Proof.Gen.DenseIdeal.Skeleton
public import proofs.«01_k».proof.Proof.Gen.DenseReferenceIdeal.Run
public import Idealize.ShloMosaic.Lib.Pointwise

@[expose] public section

set_option maxRecDepth 16384

noncomputable section

namespace Cert.DenseUp

open Idealize.ShloMosaic Idealize.ShloMosaic.TcCoe Idealize.SL.Sem

section Reference

open Cert.DenseReferenceIdeal Cert.DenseReferenceIdeal.Gen Cert.DenseReferenceIdeal.Facts

/-- The rows against the one expert's weights. -/
def product (x : FVec Ideal S24576x2048 .bf16) (w : FVec Ideal S1x2048x5632 .bf16) : FVec Ideal S24576x5632 .f32 :=
  Host.dotGeneral dot_S24576x2048_S2048x5632_S24576x5632_1_0_0_1_n_n none (extf .f32 x bitsLt_bf16_f32)
    (extf .f32 (shapeCast _ w shapeCasts_S1x2048x5632_S2048x5632) bitsLt_bf16_f32)

/-- The reference's result: the gate's product times its logistic, times the up product. -/
def result (x : FVec Ideal S24576x2048 .bf16) (wg wu : FVec Ideal S1x2048x5632 .bf16) : FVec Ideal S24576x5632 .bf16 :=
  truncf .bf16 (mulf (mulf (product x wg)
    (Host.divf (broadcastInDim S24576x5632 ![] bcast_S_S24576x5632 (constant S_ .f32 0x3F800000#32))
      (addf (broadcastInDim S24576x5632 ![] bcast_S_S24576x5632 (constant S_ .f32 0x3F800000#32))
        (Host.exp (Host.negf (product x wg)))))) (product x wu)) bitsLt_bf16_f32

/-- An entry of a product. -/
theorem product_at (x : FVec Ideal S24576x2048 .bf16) (w : FVec Ideal S1x2048x5632 .bf16) (r : Fin 24576) (f : Fin 5632) :
    product x w (ix2 r f) = ∑ k : Fin 2048, x (ix2 r k) * w (ix3 0 k f) := by
  pointwise [product]

/-- An entry of the reference's result, from the two products. -/
theorem result_at (x : FVec Ideal S24576x2048 .bf16) (wg wu : FVec Ideal S1x2048x5632 .bf16) (r : Fin 24576) (f : Fin 5632) :
    result x wg wu (ix2 r f)
      = (∑ k : Fin 2048, x (ix2 r k) * wg (ix3 0 k f))
        * Ideal.div 1 (1 + Ideal.exp (-(∑ k : Fin 2048, x (ix2 r k) * wg (ix3 0 k f))))
        * (∑ k : Fin 2048, x (ix2 r k) * wu (ix3 0 k f)) := by
  rw [← product_at, ← product_at]
  pointwise [result]

end Reference

/-- An entry of a tile of the kernel is the reference's entry at the row and column that the tile's rows and columns stand for. -/
theorem tile (x : FVec Ideal Cert.DenseReferenceIdeal.S24576x2048 .bf16) (wg wu : FVec Ideal Cert.DenseReferenceIdeal.S1x2048x5632 .bf16)
    (xb : FVec Ideal Cert.DenseIdeal.S1024x2048 .bf16) (gb ub : FVec Ideal Cert.DenseIdeal.S1x2048x512 .bf16)
    (a : Fin 1024) (d : Fin 512) (r : Fin 24576) (f : Fin 5632)
    (hx : ∀ k : Fin 2048, xb (ix2 a k) = x (ix2 r k))
    (hg : ∀ k : Fin 2048, gb (ix3 0 k d) = wg (ix3 0 k f))
    (hu : ∀ k : Fin 2048, ub (ix3 0 k d) = wu (ix3 0 k f)) :
    Cert.DenseIdeal.Gen.k0_pay1 (F := Ideal) xb gb ub (ix2 a d) = result x wg wu (ix2 r f) := by
  rw [result_at]
  pointwise [Cert.DenseIdeal.Gen.k0_pay1]
  simp only [hx, hg, hu]
  rfl

end Cert.DenseUp

end
-- ==== Proof.DenseUpGrid.lean ====
/- The dense layer's gate and up projections: which blocks a grid point works on, and that the output's blocks cover it. -/
module

public import proofs.«01_k».proof.Proof.Gen.DenseIdeal.Flash
public import Idealize.ShloMosaic.Lib.Pipeline.ValueKit

@[expose] public section

set_option maxRecDepth 16384

noncomputable section

namespace Cert.DenseUp

open Idealize.ShloMosaic Idealize.ShloMosaic.TcCoe Idealize.SL.Sem
open Idealize.ShloMosaic.Pipeline (Dat)
open Cert.DenseIdeal Cert.DenseIdeal.Gen

/-- The blocks of a grid point: row tile `t / 11`, column tile `t % 11`; the weights are those of the one expert. -/
theorem idx : ∀ t : Fin (cfgA 0).N,
    ((cfgA 0).win 0).index t = ![t.val / 11, 0] ∧ ((cfgA 0).win 1).index t = ![0, 0, t.val % 11]
    ∧ ((cfgA 0).win 2).index t = ![0, 0, t.val % 11] ∧ ((cfgA 0).win 3).index t = ![t.val / 11, t.val % 11] :=
  (by decide +kernel : ∀ t : Fin grid0.N, _)

/-- The output's blocks cover the output array. -/
theorem covers : ((cfgA 0).win 3).Covers := by decide +kernel

end Cert.DenseUp

end
-- ==== Proof.DenseUpValue.lean ====
/- The dense layer's gate and up projections: the kernel's output array after the whole grid is the reference's result. -/
module

public import proofs.«01_k».proof.Proof.DenseUpTile
public import proofs.«01_k».proof.Proof.DenseUpGrid
public import Idealize.ShloMosaic.Lib.Pipeline.ValueKit

@[expose] public section

set_option maxRecDepth 16384

noncomputable section

namespace Cert.DenseUp

open Idealize.ShloMosaic Idealize.ShloMosaic.TcCoe Idealize.SL.Sem
open Idealize.ShloMosaic.Pipeline (Dat)
open Cert.DenseIdeal Cert.DenseIdeal.Gen

/-- A grid point's one store is the tile's payload over its three input blocks. -/
theorem out_eq (c : Dev nD) (i : grid0.Coords) (a4 : Memref sig .tc .vmem S1024x2048 .bf16) (h4 : a4.IsWhole)
    (a5 : Memref sig .tc .vmem S1x2048x512 .bf16) (h5 : a5.IsWhole) (a6 : Memref sig .tc .vmem S1x2048x512 .bf16) (h6 : a6.IsWhole)
    (a7 : Memref sig .tc .vmem S1024x512 .bf16) (h7 : a7.IsWhole) (T0 : S24.Idx → Elt Ideal .i32) (T1 : S1.Idx → Elt Ideal .i32)
    (x0 : FVec Ideal S1024x2048 .bf16) (x1 x2 : FVec Ideal S1x2048x512 .bf16) (k1) (k2) :
    out0_A_3 c i a4 h4 a5 h5 a6 h6 a7 h7 T0 T1 x0 x1 x2 k1 k2 = k0_pay1 (F := Ideal) x0 x1 x2 := by
  have z2 : (![0, 0] : Fin 2 → Nat) = fun _ => 0 := by decide
  have z3 : (![0, 0, 0] : Fin 3 → Nat) = fun _ => 0 := by decide
  unfold out0_A_3
  rw [View.read_writes_eq_canon _ _ _ (cover0_A_3 c i a4 h4 a5 h5 a6 h6 a7 h7 T0 T1 x0 x1 x2 k1 k2)]
  unfold kernelRun0_A
  dsimp only
  sl_unfold_words
  rw [View.canon_unit_zero z2]
  simp only [View.readAt_eq_ld, View.read_rep, View.ld_unit_zero (S := S1024x2048) z2, View.ld_unit_zero (S := S1x2048x512) z3]

variable (m : (ℓ : Loc nD τ sig) → Buf (Elt Ideal) ℓ) (ρ : Dev nD → PrngReg)

/-- What a grid point leaves in its output block is the reference's result at the block's rows and columns. -/
theorem point (c : Dev nD) (t : Fin (cfgA 0).N) (y : S1024x512.Idx) (r : Fin 24576) (f : Fin 5632)
    (hr : r.val = t.val / 11 * 1024 + (y 0 : ℕ)) (hf : f.val = t.val % 11 * 512 + (y 1 : ℕ)) :
    k0_pay1 (F := Ideal) (iblk 0 m ρ c 0 t) (iblk 0 m ρ c 1 t) (iblk 0 m ρ c 2 t) y
      = result (m ((c.tc : Thread nD τ).loc main_arg2)) (m ((c.tc : Thread nD τ).loc main_arg3))
          (m ((c.tc : Thread nD τ).loc main_arg4)) (ix2 r f) := by
  have tlt : t.val < 264 := t.isLt
  obtain ⟨i0, i1, i2, -⟩ := idx t
  have y0 : (y 0 : ℕ) < 1024 := (y 0).isLt
  rw [eq_ix2 y]
  refine tile _ _ _ _ _ _ _ _ r f (fun k => ?_) (fun k => ?_) (fun k => ?_)
  · refine congrArg (m ((c.tc : Thread nD τ).loc main_arg2)) (funext fun a => Fin.ext ?_)
    match a with
    | ⟨0, _⟩ => show ((cfgA 0).win 0).index t 0 * 1024 + 1 * (y 0).val = r.val; rw [i0, hr]; simp
    | ⟨1, _⟩ => show ((cfgA 0).win 0).index t 1 * 2048 + 1 * k.val = k.val; rw [i0]; simp
  · refine congrArg (m ((c.tc : Thread nD τ).loc main_arg3)) (funext fun a => Fin.ext ?_)
    match a with
    | ⟨0, _⟩ => show ((cfgA 0).win 1).index t 0 * 1 + 1 * 0 = 0; rw [i1]; simp
    | ⟨1, _⟩ => show ((cfgA 0).win 1).index t 1 * 2048 + 1 * k.val = k.val; rw [i1]; simp
    | ⟨2, _⟩ => show ((cfgA 0).win 1).index t 2 * 512 + 1 * (y 1).val = f.val; rw [i1, hf]; simp
  · refine congrArg (m ((c.tc : Thread nD τ).loc main_arg4)) (funext fun a => Fin.ext ?_)
    match a with
    | ⟨0, _⟩ => show ((cfgA 0).win 2).index t 0 * 1 + 1 * 0 = 0; rw [i2]; simp
    | ⟨1, _⟩ => show ((cfgA 0).win 2).index t 1 * 2048 + 1 * k.val = k.val; rw [i2]; simp
    | ⟨2, _⟩ => show ((cfgA 0).win 2).index t 2 * 512 + 1 * (y 1).val = f.val; rw [i2, hf]; simp

/-- The output array after the whole grid. -/
theorem final (c : Dev nD) :
    (dats 0 m ρ 0 c).arrAt 3 (cfgA 0).N
      = result (m ((c.tc : Thread nD τ).loc main_arg2)) (m ((c.tc : Thread nD τ).loc main_arg3))
          (m ((c.tc : Thread nD τ).loc main_arg4)) := by
  refine (dats 0 m ρ 0 c).arrAt_eq_of_covers 3 _ covers fun t _ y => ?_
  have tlt : t.val < 264 := t.isLt
  have y0 : (y 0 : ℕ) < 1024 := (y 0).isLt
  have y1 : (y 1 : ℕ) < 512 := (y 1).isLt
  obtain ⟨-, -, -, i3⟩ := idx t
  show traj0 0 m ρ c t.val t.isLt y = _
  rw [traj0_eq, step0_A, out_eq]
  refine (point m ρ c t y ⟨t.val / 11 * 1024 + (y 0 : ℕ), by omega⟩ ⟨t.val % 11 * 512 + (y 1 : ℕ), by omega⟩ rfl rfl).trans ?_
  refine congrArg (result _ _ _) (funext fun a => Fin.ext ?_)
  match a with
  | ⟨0, _⟩ => show t.val / 11 * 1024 + (y 0 : ℕ) = ((cfgA 0).win 3).index t 0 * 1024 + 1 * (y 0).val; rw [i3]; simp
  | ⟨1, _⟩ => show t.val % 11 * 512 + (y 1 : ℕ) = ((cfgA 0).win 3).index t 1 * 512 + 1 * (y 1).val; rw [i3]; simp

end Cert.DenseUp

end
-- ==== Proof.OutProjectionPinned.lean ====
/- The precondition of the mixers' out-projections fixes both tables: every row tile belongs to the one
   weight and all 48 are live. So the call runs at the tables that its schedule is stated at. -/
module

public import proofs.«01_k».proof.Proof.Gen.Pre_one_weight
public import proofs.«01_k».proof.Proof.Gen.Out.Flash
public import proofs.«01_k».proof.Proof.Gen.OutIdeal.Flash
public import Idealize.ShloMosaic.Lib.Pointwise
public import Idealize.ShloMosaic.Lib.ReduceAll
public import Idealize.ShloMosaic.Lib.Affine
public import Idealize.ShloMosaic.Lib.StableHlo.Predicate

@[expose] public section

set_option maxRecDepth 16384

noncomputable section

namespace Cert.OutProjection

open Idealize.ShloMosaic Idealize.ShloMosaic.TcCoe Idealize.SL.Sem

variable {F : FTy → Type} [FloatOps F]

/-- The mixers' out-projections' precondition, entry by entry. -/
theorem tables (te : IVec Cert.Pre_one_weight.S48 32) (nv : IVec Cert.Pre_one_weight.S1 32)
    (x : FVec F Cert.Pre_one_weight.S24576x4096 .bf16) (w : FVec F Cert.Pre_one_weight.S1x4096x2048 .bf16) (r : FVec F Cert.Pre_one_weight.S24576x2048 .f32) (q : FVec F Cert.Pre_one_weight.S96x1x2048 .f32)
    (h : Cert.Pre_one_weight.fn te nv x w r q = fun _ => 1#1) :
    (∀ i : Fin 48, te (ix1 i) = 0#32) ∧ ∀ i : Fin 1, nv (ix1 i) = 48#32 := by
  haveI : Subsingleton Cert.Pre_one_weight.S_.Idx := ⟨fun a b => funext fun k => k.elim0⟩
  have e := congrFun h (Shape.Idx.first Cert.Pre_one_weight.Facts.h_S_)
  simp only [Cert.Pre_one_weight.fn, andi] at e
  obtain ⟨e1, e2⟩ := IntOp.andi_eq_one.1 e
  refine ⟨fun i => ?_, fun i => ?_⟩
  · have a := StableHlo.Predicate.cmpi_eq_iff.1 (Host.reduce_andi_all _ _ _ _ _ e1 (ix1 i))
    rw [a]; pointwise
  · have a := StableHlo.Predicate.cmpi_eq_iff.1 (Host.reduce_andi_all _ _ _ _ _ e2 (ix1 i))
    rw [a]; pointwise

/-- The table of the call's schedule is zero everywhere. -/
theorem tiles : ∀ i : Fin 48, Cert.Out.Gen.pinT_0 0 (ix1 i) = 0#32 := by decide +kernel

/-- The same for the idealized call. -/
theorem ideal_tiles : ∀ i : Fin 48, Cert.OutIdeal.Gen.pinT_0 0 (ix1 i) = 0#32 := by decide +kernel

/-- The call's precondition fixes its tables. -/
theorem pinned (m : (ℓ : Loc Cert.Out.nD Cert.Out.τ Cert.Out.sig) → Buf (Elt Bits) ℓ)
    (h : ∀ c : Dev Cert.Out.nD, Cert.Pre_one_weight.fn (F := Bits) (m ((c.tc : Thread Cert.Out.nD Cert.Out.τ).loc Cert.Out.main_arg0))
      (m ((c.tc : Thread Cert.Out.nD Cert.Out.τ).loc Cert.Out.main_arg1)) (m ((c.tc : Thread Cert.Out.nD Cert.Out.τ).loc Cert.Out.main_arg2))
      (m ((c.tc : Thread Cert.Out.nD Cert.Out.τ).loc Cert.Out.main_arg3)) (m ((c.tc : Thread Cert.Out.nD Cert.Out.τ).loc Cert.Out.main_arg4))
      (m ((c.tc : Thread Cert.Out.nD Cert.Out.τ).loc Cert.Out.main_arg5))
        = fun _ => 1#1) : Cert.Out.Gen.Pinned 0 m := by
  constructor
  · intro c; funext x
    have e : x = ix1 (x 0) := eq_ix1 x
    rw [e]
    exact ((tables _ _ _ _ _ _ (h c)).1 (x 0)).trans (tiles (x 0)).symm
  · intro c; funext x
    have e : x = ix1 (x 0) := eq_ix1 x
    rw [e]
    exact (tables _ _ _ _ _ _ (h c)).2 (x 0)

/-- The idealized call's precondition fixes its tables. -/
theorem ideal_pinned (m : (ℓ : Loc Cert.OutIdeal.nD Cert.OutIdeal.τ Cert.OutIdeal.sig) → Buf (Elt Ideal) ℓ)
    (h : ∀ c : Dev Cert.OutIdeal.nD, Cert.Pre_one_weight.fn (F := Ideal) (m ((c.tc : Thread Cert.OutIdeal.nD Cert.OutIdeal.τ).loc Cert.OutIdeal.main_arg0))
      (m ((c.tc : Thread Cert.OutIdeal.nD Cert.OutIdeal.τ).loc Cert.OutIdeal.main_arg1)) (m ((c.tc : Thread Cert.OutIdeal.nD Cert.OutIdeal.τ).loc Cert.OutIdeal.main_arg2))
      (m ((c.tc : Thread Cert.OutIdeal.nD Cert.OutIdeal.τ).loc Cert.OutIdeal.main_arg3)) (m ((c.tc : Thread Cert.OutIdeal.nD Cert.OutIdeal.τ).loc Cert.OutIdeal.main_arg4))
      (m ((c.tc : Thread Cert.OutIdeal.nD Cert.OutIdeal.τ).loc Cert.OutIdeal.main_arg5))
        = fun _ => 1#1) : Cert.OutIdeal.Gen.Pinned 0 m := by
  constructor
  · intro c; funext x
    have e : x = ix1 (x 0) := eq_ix1 x
    rw [e]
    exact ((tables _ _ _ _ _ _ (h c)).1 (x 0)).trans (ideal_tiles (x 0)).symm
  · intro c; funext x
    have e : x = ix1 (x 0) := eq_ix1 x
    rw [e]
    exact (tables _ _ _ _ _ _ (h c)).2 (x 0)

end Cert.OutProjection

end
-- ==== Proof.OutProjectionTile.lean ====
/- The mixers' out-projections: the reference's result as one function of the arguments, and one entry of a tile of the kernel against it. -/
module

public import proofs.«01_k».proof.Proof.Gen.OutIdeal.Skeleton
public import proofs.«01_k».proof.Proof.Gen.OutReferenceIdeal.Run
public import Idealize.ShloMosaic.Lib.Pointwise

@[expose] public section

set_option maxRecDepth 16384

noncomputable section

namespace Cert.OutProjection

open Idealize.ShloMosaic Idealize.ShloMosaic.TcCoe Idealize.SL.Sem

section Reference

open Cert.OutReferenceIdeal Cert.OutReferenceIdeal.Gen Cert.OutReferenceIdeal.Facts

/-- Row 2 of every group's six rows of the modulation. -/
def chosen (q : FVec Ideal S96x1x2048 .f32) : FVec Ideal S16x2048 .f32 :=
  shapeCast _ (extractStridedSlice S16x1x2048 ![0, 2, 0] (shapeCast _ q shapeCasts_S96x1x2048_S16x6x2048)
    slices_S16x6x2048_S16x1x2048_0_2_0) shapeCasts_S16x1x2048_S16x2048

/-- The gates of all rows: the first group's for the context, then one group's for every sequence. -/
def gates (g : FVec Ideal S16x2048 .f32) : FVec Ideal S24576x2048 .f32 :=
  concatenate S24576x2048 0 [⟨S8192x2048, (broadcastInDim S8192x2048 ![1] bcast_S2048_S8192x2048_1
      (shapeCast _ (extractStridedSlice S1x2048 ![0, 0] g slices_S16x2048_S1x2048_0_0) shapeCasts_S1x2048_S2048))⟩,
    ⟨S16384x2048, (shapeCast _ (broadcastInDim S8x2048x2048 ![0, 1, 2] bcast_S8x1x2048_S8x2048x2048_0_1_2
      (broadcastInDim S8x1x2048 ![0, 2] bcast_S8x2048_S8x1x2048_0_2
        (extractStridedSlice S8x2048 ![1, 0] g slices_S16x2048_S8x2048_1_0))) shapeCasts_S8x2048x2048_S16384x2048)⟩]
    concatenates_S8192x2048_S16384x2048_S24576x2048_d0

/-- The rows against the weights. -/
def product (x : FVec Ideal S24576x4096 .bf16) (w : FVec Ideal S1x4096x2048 .bf16) : FVec Ideal S24576x2048 .f32 :=
  Host.dotGeneral dot_S24576x4096_S4096x2048_S24576x2048_1_0_0_1_n_n none (extf .f32 x bitsLt_bf16_f32)
    (extf .f32 (shapeCast _ w shapeCasts_S1x4096x2048_S4096x2048) bitsLt_bf16_f32)

/-- The reference's result: the stream plus the gated product. -/
def result (x : FVec Ideal S24576x4096 .bf16) (w : FVec Ideal S1x4096x2048 .bf16) (r : FVec Ideal S24576x2048 .f32)
    (q : FVec Ideal S96x1x2048 .f32) : FVec Ideal S24576x2048 .f32 :=
  addf r (mulf (gates (chosen q)) (product x w))

/-- A group's gate. -/
theorem chosen_at (q : FVec Ideal S96x1x2048 .f32) (g : Fin 16) (f : Fin 2048) :
    chosen q (ix2 g f) = q (ix3 (⟨g.val * 6 + 2, by omega⟩ : Fin 96) 0 f) := by
  pointwise [chosen]

/-- The gate of a context row. -/
theorem gates_context (g : FVec Ideal S16x2048 .f32) (r : Fin 8192) (f : Fin 2048) :
    gates g (ix2 ⟨r.val, by omega⟩ f) = g (ix2 0 f) := by
  pointwise [gates]

/-- The gate of a row of a sequence. -/
theorem gates_latent (g : FVec Ideal S16x2048 .f32) (r : Fin 16384) (f : Fin 2048) :
    gates g (ix2 ⟨8192 + r.val, by omega⟩ f) = g (ix2 ⟨1 + r.val / 2048, by omega⟩ f) := by
  pointwise [gates]

/-- The gate of any row: its group is `r / 2048 - 3`, cut off at zero. -/
theorem gates_at (q : FVec Ideal S96x1x2048 .f32) (r : Fin 24576) (f : Fin 2048) :
    gates (chosen q) (ix2 r f) = q (ix3 (⟨(r.val / 2048 - 3) * 6 + 2, by omega⟩ : Fin 96) 0 f) := by
  by_cases hr : r.val < 8192
  · refine (gates_context _ ⟨r.val, hr⟩ f).trans ((chosen_at q 0 f).trans ?_)
    refine congrArg (fun u => q (ix3 u 0 f)) (Fin.ext ?_)
    show 0 * 6 + 2 = (r.val / 2048 - 3) * 6 + 2
    omega
  · have e : r = ⟨8192 + (r.val - 8192), by omega⟩ := Fin.ext (by show r.val = 8192 + (r.val - 8192); omega)
    refine Eq.trans (congrArg _ (congrArg (fun u => ix2 u f) e)) ((gates_latent _ ⟨r.val - 8192, by omega⟩ f).trans ((chosen_at q _ f).trans ?_))
    refine congrArg (fun u => q (ix3 u 0 f)) (Fin.ext ?_)
    show (1 + (r.val - 8192) / 2048) * 6 + 2 = (r.val / 2048 - 3) * 6 + 2
    omega

/-- An entry of the product. -/
theorem product_at (x : FVec Ideal S24576x4096 .bf16) (w : FVec Ideal S1x4096x2048 .bf16) (r : Fin 24576) (f : Fin 2048) :
    product x w (ix2 r f) = ∑ k : Fin 4096, x (ix2 r k) * w (ix3 0 k f) := by
  pointwise [product]

/-- An entry of the reference's result. -/
theorem result_at (x : FVec Ideal S24576x4096 .bf16) (w : FVec Ideal S1x4096x2048 .bf16) (s : FVec Ideal S24576x2048 .f32)
    (q : FVec Ideal S96x1x2048 .f32) (r : Fin 24576) (f : Fin 2048) :
    result x w s q (ix2 r f) = s (ix2 r f) + q (ix3 (⟨(r.val / 2048 - 3) * 6 + 2, by omega⟩ : Fin 96) 0 f)
      * ∑ k : Fin 4096, x (ix2 r k) * w (ix3 0 k f) := by
  rw [← gates_at q r f, ← product_at]
  rfl

end Reference

/-- An entry of a tile of the kernel is the reference's entry at the row and column that the tile's rows and columns stand for. -/
theorem tile (x : FVec Ideal Cert.OutReferenceIdeal.S24576x4096 .bf16) (w : FVec Ideal Cert.OutReferenceIdeal.S1x4096x2048 .bf16)
    (s : FVec Ideal Cert.OutReferenceIdeal.S24576x2048 .f32) (q : FVec Ideal Cert.OutReferenceIdeal.S96x1x2048 .f32)
    (xb : FVec Ideal Cert.OutIdeal.S512x4096 .bf16) (wb : FVec Ideal Cert.OutIdeal.S1x4096x1024 .bf16)
    (sb : FVec Ideal Cert.OutIdeal.S512x1024 .f32) (qb : FVec Ideal Cert.OutIdeal.S1x1x1024 .f32)
    (a : Fin 512) (d : Fin 1024) (r : Fin 24576) (f : Fin 2048)
    (hx : ∀ k : Fin 4096, xb (ix2 a k) = x (ix2 r k)) (hw : ∀ k : Fin 4096, wb (ix3 0 k d) = w (ix3 0 k f))
    (hs : sb (ix2 a d) = s (ix2 r f)) (hq : qb (ix3 0 0 d) = q (ix3 (⟨(r.val / 2048 - 3) * 6 + 2, by omega⟩ : Fin 96) 0 f)) :
    Cert.OutIdeal.Gen.k0_pay1 (F := Ideal) xb wb sb qb (ix2 a d) = result x w s q (ix2 r f) := by
  rw [result_at]
  pointwise [Cert.OutIdeal.Gen.k0_pay1]
  simp only [hx, hw, hs, hq]

end Cert.OutProjection

end
-- ==== Proof.OutProjectionGrid.lean ====
/- The mixers' out-projections: which blocks a grid point works on, and that the output's blocks cover it. -/
module

public import proofs.«01_k».proof.Proof.Gen.OutIdeal.Flash
public import Idealize.ShloMosaic.Lib.Pipeline.ValueKit

@[expose] public section

set_option maxRecDepth 16384

noncomputable section

namespace Cert.OutProjection

open Idealize.ShloMosaic Idealize.ShloMosaic.TcCoe Idealize.SL.Sem
open Idealize.ShloMosaic.Pipeline (Dat)
open Cert.OutIdeal Cert.OutIdeal.Gen

/-- The blocks of a grid point: row tile `t / 2`, column tile `t % 2`; the gates of a tile are row 2 of its group's six,
    the group being 0 for the first 16 tiles and one more for every 4 tiles after them. -/
theorem idx : ∀ t : Fin (cfgA 0).N,
    ((cfgA 0).win 0).index t = ![t.val / 2, 0] ∧ ((cfgA 0).win 1).index t = ![0, 0, t.val % 2]
    ∧ ((cfgA 0).win 2).index t = ![t.val / 2, t.val % 2] ∧ ((cfgA 0).win 3).index t = ![(t.val / 2 / 4 - 3) * 6 + 2, 0, t.val % 2]
    ∧ ((cfgA 0).win 4).index t = ![t.val / 2, t.val % 2] :=
  (by decide +kernel : ∀ t : Fin grid0.N, _)

/-- The output's blocks cover the output array. -/
theorem covers : ((cfgA 0).win 4).Covers := by decide +kernel

end Cert.OutProjection

end
-- ==== Proof.OutProjectionValue.lean ====
/- The mixers' out-projections: the kernel's output array after the whole grid is the reference's result. -/
module

public import proofs.«01_k».proof.Proof.OutProjectionTile
public import proofs.«01_k».proof.Proof.OutProjectionGrid
public import Idealize.ShloMosaic.Lib.Pipeline.ValueKit

@[expose] public section

set_option maxRecDepth 16384

noncomputable section

namespace Cert.OutProjection

open Idealize.ShloMosaic Idealize.ShloMosaic.TcCoe Idealize.SL.Sem
open Idealize.ShloMosaic.Pipeline (Dat)
open Cert.OutIdeal Cert.OutIdeal.Gen

/-- A grid point's one store is the tile's payload over its four input blocks. -/
theorem out_eq (c : Dev nD) (i : grid0.Coords) (a5 : Memref sig .tc .vmem S512x4096 .bf16) (h5 : a5.IsWhole)
    (a6 : Memref sig .tc .vmem S1x4096x1024 .bf16) (h6 : a6.IsWhole) (a7 : Memref sig .tc .vmem S512x1024 .f32) (h7 : a7.IsWhole)
    (a8 : Memref sig .tc .vmem S1x1x1024 .f32) (h8 : a8.IsWhole) (a9 : Memref sig .tc .vmem S512x1024 .f32) (h9 : a9.IsWhole)
    (T0 : S48.Idx → Elt Ideal .i32) (T1 : S1.Idx → Elt Ideal .i32) (x0 : FVec Ideal S512x4096 .bf16) (x1 : FVec Ideal S1x4096x1024 .bf16)
    (x2 : FVec Ideal S512x1024 .f32) (x3 : FVec Ideal S1x1x1024 .f32) (k1) (k2) :
    out0_A_4 c i a5 h5 a6 h6 a7 h7 a8 h8 a9 h9 T0 T1 x0 x1 x2 x3 k1 k2 = k0_pay1 (F := Ideal) x0 x1 x2 x3 := by
  have z2 : (![0, 0] : Fin 2 → Nat) = fun _ => 0 := by decide
  have z3 : (![0, 0, 0] : Fin 3 → Nat) = fun _ => 0 := by decide
  unfold out0_A_4
  rw [View.read_writes_eq_canon _ _ _ (cover0_A_4 c i a5 h5 a6 h6 a7 h7 a8 h8 a9 h9 T0 T1 x0 x1 x2 x3 k1 k2)]
  unfold kernelRun0_A
  dsimp only
  sl_unfold_words
  rw [View.canon_unit_zero z2]
  simp only [View.readAt_eq_ld, View.read_rep, View.ld_unit_zero (S := S512x4096) z2, View.ld_unit_zero (S := S1x4096x1024) z3,
    View.ld_unit_zero (S := S512x1024) z2, View.ld_unit_zero (S := S1x1x1024) z3]

variable (m : (ℓ : Loc nD τ sig) → Buf (Elt Ideal) ℓ) (ρ : Dev nD → PrngReg)

/-- What a grid point leaves in its output block is the reference's result at the block's rows and columns. -/
theorem point (c : Dev nD) (t : Fin (cfgA 0).N) (y : S512x1024.Idx) (r : Fin 24576) (f : Fin 2048)
    (hr : r.val = t.val / 2 * 512 + (y 0 : ℕ)) (hf : f.val = t.val % 2 * 1024 + (y 1 : ℕ)) :
    k0_pay1 (F := Ideal) (iblk 0 m ρ c 0 t) (iblk 0 m ρ c 1 t) (iblk 0 m ρ c 2 t) (iblk 0 m ρ c 3 t) y
      = result (m ((c.tc : Thread nD τ).loc main_arg2)) (m ((c.tc : Thread nD τ).loc main_arg3))
          (m ((c.tc : Thread nD τ).loc main_arg4)) (m ((c.tc : Thread nD τ).loc main_arg5)) (ix2 r f) := by
  have tlt : t.val < 96 := t.isLt
  obtain ⟨i0, i1, i2, i3, -⟩ := idx t
  have y0 : (y 0 : ℕ) < 512 := (y 0).isLt
  rw [eq_ix2 y]
  refine tile _ _ _ _ _ _ _ _ _ _ r f (fun k => ?_) (fun k => ?_) ?_ ?_
  · refine congrArg (m ((c.tc : Thread nD τ).loc main_arg2)) (funext fun a => Fin.ext ?_)
    match a with
    | ⟨0, _⟩ => show ((cfgA 0).win 0).index t 0 * 512 + 1 * (y 0).val = r.val; rw [i0, hr]; simp
    | ⟨1, _⟩ => show ((cfgA 0).win 0).index t 1 * 4096 + 1 * k.val = k.val; rw [i0]; simp
  · refine congrArg (m ((c.tc : Thread nD τ).loc main_arg3)) (funext fun a => Fin.ext ?_)
    match a with
    | ⟨0, _⟩ => show ((cfgA 0).win 1).index t 0 * 1 + 1 * 0 = 0; rw [i1]; simp
    | ⟨1, _⟩ => show ((cfgA 0).win 1).index t 1 * 4096 + 1 * k.val = k.val; rw [i1]; simp
    | ⟨2, _⟩ => show ((cfgA 0).win 1).index t 2 * 1024 + 1 * (y 1).val = f.val; rw [i1, hf]; simp
  · refine congrArg (m ((c.tc : Thread nD τ).loc main_arg4)) (funext fun a => Fin.ext ?_)
    match a with
    | ⟨0, _⟩ => show ((cfgA 0).win 2).index t 0 * 512 + 1 * (y 0).val = r.val; rw [i2, hr]; simp
    | ⟨1, _⟩ => show ((cfgA 0).win 2).index t 1 * 1024 + 1 * (y 1).val = f.val; rw [i2, hf]; simp
  · refine congrArg (m ((c.tc : Thread nD τ).loc main_arg5)) (funext fun a => Fin.ext ?_)
    match a with
    | ⟨0, _⟩ => show ((cfgA 0).win 3).index t 0 * 1 + 1 * 0 = (r.val / 2048 - 3) * 6 + 2; rw [i3, hr]; show ((t.val / 2 / 4 - 3) * 6 + 2) * 1 + 1 * 0 = _; omega
    | ⟨1, _⟩ => show ((cfgA 0).win 3).index t 1 * 1 + 1 * 0 = 0; rw [i3]; simp
    | ⟨2, _⟩ => show ((cfgA 0).win 3).index t 2 * 1024 + 1 * (y 1).val = f.val; rw [i3, hf]; simp

/-- The output array after the whole grid. -/
theorem final (c : Dev nD) :
    (dats 0 m ρ 0 c).arrAt 4 (cfgA 0).N
      = result (m ((c.tc : Thread nD τ).loc main_arg2)) (m ((c.tc : Thread nD τ).loc main_arg3))
          (m ((c.tc : Thread nD τ).loc main_arg4)) (m ((c.tc : Thread nD τ).loc main_arg5)) := by
  refine (dats 0 m ρ 0 c).arrAt_eq_of_covers 4 _ covers fun t _ y => ?_
  have tlt : t.val < 96 := t.isLt
  have y0 : (y 0 : ℕ) < 512 := (y 0).isLt
  have y1 : (y 1 : ℕ) < 1024 := (y 1).isLt
  obtain ⟨-, -, -, -, i4⟩ := idx t
  show traj0 0 m ρ c t.val t.isLt y = _
  rw [traj0_eq, step0_A, out_eq]
  refine (point m ρ c t y ⟨t.val / 2 * 512 + (y 0 : ℕ), by omega⟩ ⟨t.val % 2 * 1024 + (y 1 : ℕ), by omega⟩ rfl rfl).trans ?_
  refine congrArg (result _ _ _ _) (funext fun a => Fin.ext ?_)
  match a with
  | ⟨0, _⟩ => show t.val / 2 * 512 + (y 0 : ℕ) = ((cfgA 0).win 4).index t 0 * 512 + 1 * (y 0).val; rw [i4]; simp
  | ⟨1, _⟩ => show t.val % 2 * 1024 + (y 1 : ℕ) = ((cfgA 0).win 4).index t 1 * 1024 + 1 * (y 1).val; rw [i4]; simp

end Cert.OutProjection

end
-- ==== Proof.DenseDownPinned.lean ====
/- The precondition of the dense layer's down projection fixes both tables: every row tile belongs to the one
   weight and all 48 are live. So the call runs at the tables that its schedule is stated at. -/
module

public import proofs.«01_k».proof.Proof.Gen.Pre_one_weight_low
public import proofs.«01_k».proof.Proof.Gen.Low.Flash
public import proofs.«01_k».proof.Proof.Gen.LowIdeal.Flash
public import Idealize.ShloMosaic.Lib.Pointwise
public import Idealize.ShloMosaic.Lib.ReduceAll
public import Idealize.ShloMosaic.Lib.Affine
public import Idealize.ShloMosaic.Lib.StableHlo.Predicate

@[expose] public section

set_option maxRecDepth 16384

noncomputable section

namespace Cert.DenseDown

open Idealize.ShloMosaic Idealize.ShloMosaic.TcCoe Idealize.SL.Sem

variable {F : FTy → Type} [FloatOps F]

/-- The dense layer's down projection' precondition, entry by entry. -/
theorem tables (te : IVec Cert.Pre_one_weight_low.S48 32) (nv : IVec Cert.Pre_one_weight_low.S1 32)
    (x : FVec F Cert.Pre_one_weight_low.S24576x5632 .bf16) (w : FVec F Cert.Pre_one_weight_low.S1x5632x2048 .bf16) (r : FVec F Cert.Pre_one_weight_low.S24576x2048 .f32) (q : FVec F Cert.Pre_one_weight_low.S96x1x2048 .f32)
    (h : Cert.Pre_one_weight_low.fn te nv x w r q = fun _ => 1#1) :
    (∀ i : Fin 48, te (ix1 i) = 0#32) ∧ ∀ i : Fin 1, nv (ix1 i) = 48#32 := by
  haveI : Subsingleton Cert.Pre_one_weight_low.S_.Idx := ⟨fun a b => funext fun k => k.elim0⟩
  have e := congrFun h (Shape.Idx.first Cert.Pre_one_weight_low.Facts.h_S_)
  simp only [Cert.Pre_one_weight_low.fn, andi] at e
  obtain ⟨e1, e2⟩ := IntOp.andi_eq_one.1 e
  refine ⟨fun i => ?_, fun i => ?_⟩
  · have a := StableHlo.Predicate.cmpi_eq_iff.1 (Host.reduce_andi_all _ _ _ _ _ e1 (ix1 i))
    rw [a]; pointwise
  · have a := StableHlo.Predicate.cmpi_eq_iff.1 (Host.reduce_andi_all _ _ _ _ _ e2 (ix1 i))
    rw [a]; pointwise

/-- The table of the call's schedule is zero everywhere. -/
theorem tiles : ∀ i : Fin 48, Cert.Low.Gen.pinT_0 0 (ix1 i) = 0#32 := by decide +kernel

/-- The same for the idealized call. -/
theorem ideal_tiles : ∀ i : Fin 48, Cert.LowIdeal.Gen.pinT_0 0 (ix1 i) = 0#32 := by decide +kernel

/-- The call's precondition fixes its tables. -/
theorem pinned (m : (ℓ : Loc Cert.Low.nD Cert.Low.τ Cert.Low.sig) → Buf (Elt Bits) ℓ)
    (h : ∀ c : Dev Cert.Low.nD, Cert.Pre_one_weight_low.fn (F := Bits) (m ((c.tc : Thread Cert.Low.nD Cert.Low.τ).loc Cert.Low.main_arg0))
      (m ((c.tc : Thread Cert.Low.nD Cert.Low.τ).loc Cert.Low.main_arg1)) (m ((c.tc : Thread Cert.Low.nD Cert.Low.τ).loc Cert.Low.main_arg2))
      (m ((c.tc : Thread Cert.Low.nD Cert.Low.τ).loc Cert.Low.main_arg3)) (m ((c.tc : Thread Cert.Low.nD Cert.Low.τ).loc Cert.Low.main_arg4))
      (m ((c.tc : Thread Cert.Low.nD Cert.Low.τ).loc Cert.Low.main_arg5))
        = fun _ => 1#1) : Cert.Low.Gen.Pinned 0 m := by
  constructor
  · intro c; funext x
    have e : x = ix1 (x 0) := eq_ix1 x
    rw [e]
    exact ((tables _ _ _ _ _ _ (h c)).1 (x 0)).trans (tiles (x 0)).symm
  · intro c; funext x
    have e : x = ix1 (x 0) := eq_ix1 x
    rw [e]
    exact (tables _ _ _ _ _ _ (h c)).2 (x 0)

/-- The idealized call's precondition fixes its tables. -/
theorem ideal_pinned (m : (ℓ : Loc Cert.LowIdeal.nD Cert.LowIdeal.τ Cert.LowIdeal.sig) → Buf (Elt Ideal) ℓ)
    (h : ∀ c : Dev Cert.LowIdeal.nD, Cert.Pre_one_weight_low.fn (F := Ideal) (m ((c.tc : Thread Cert.LowIdeal.nD Cert.LowIdeal.τ).loc Cert.LowIdeal.main_arg0))
      (m ((c.tc : Thread Cert.LowIdeal.nD Cert.LowIdeal.τ).loc Cert.LowIdeal.main_arg1)) (m ((c.tc : Thread Cert.LowIdeal.nD Cert.LowIdeal.τ).loc Cert.LowIdeal.main_arg2))
      (m ((c.tc : Thread Cert.LowIdeal.nD Cert.LowIdeal.τ).loc Cert.LowIdeal.main_arg3)) (m ((c.tc : Thread Cert.LowIdeal.nD Cert.LowIdeal.τ).loc Cert.LowIdeal.main_arg4))
      (m ((c.tc : Thread Cert.LowIdeal.nD Cert.LowIdeal.τ).loc Cert.LowIdeal.main_arg5))
        = fun _ => 1#1) : Cert.LowIdeal.Gen.Pinned 0 m := by
  constructor
  · intro c; funext x
    have e : x = ix1 (x 0) := eq_ix1 x
    rw [e]
    exact ((tables _ _ _ _ _ _ (h c)).1 (x 0)).trans (ideal_tiles (x 0)).symm
  · intro c; funext x
    have e : x = ix1 (x 0) := eq_ix1 x
    rw [e]
    exact (tables _ _ _ _ _ _ (h c)).2 (x 0)

end Cert.DenseDown

end
-- ==== Proof.DenseDownTile.lean ====
/- The dense layer's down projection: the reference's result as one function of the arguments, and one entry of a tile of the kernel against it. -/
module

public import proofs.«01_k».proof.Proof.Gen.LowIdeal.Skeleton
public import proofs.«01_k».proof.Proof.Gen.LowReferenceIdeal.Run
public import Idealize.ShloMosaic.Lib.Pointwise

@[expose] public section

set_option maxRecDepth 16384

noncomputable section

namespace Cert.DenseDown

open Idealize.ShloMosaic Idealize.ShloMosaic.TcCoe Idealize.SL.Sem

section Reference

open Cert.LowReferenceIdeal Cert.LowReferenceIdeal.Gen Cert.LowReferenceIdeal.Facts

/-- Row 5 of every group's six rows of the modulation. -/
def chosen (q : FVec Ideal S96x1x2048 .f32) : FVec Ideal S16x2048 .f32 :=
  shapeCast _ (extractStridedSlice S16x1x2048 ![0, 5, 0] (shapeCast _ q shapeCasts_S96x1x2048_S16x6x2048)
    slices_S16x6x2048_S16x1x2048_0_5_0) shapeCasts_S16x1x2048_S16x2048

/-- The gates of all rows: the first group's for the context, then one group's for every sequence. -/
def gates (g : FVec Ideal S16x2048 .f32) : FVec Ideal S24576x2048 .f32 :=
  concatenate S24576x2048 0 [⟨S8192x2048, (broadcastInDim S8192x2048 ![1] bcast_S2048_S8192x2048_1
      (shapeCast _ (extractStridedSlice S1x2048 ![0, 0] g slices_S16x2048_S1x2048_0_0) shapeCasts_S1x2048_S2048))⟩,
    ⟨S16384x2048, (shapeCast _ (broadcastInDim S8x2048x2048 ![0, 1, 2] bcast_S8x1x2048_S8x2048x2048_0_1_2
      (broadcastInDim S8x1x2048 ![0, 2] bcast_S8x2048_S8x1x2048_0_2
        (extractStridedSlice S8x2048 ![1, 0] g slices_S16x2048_S8x2048_1_0))) shapeCasts_S8x2048x2048_S16384x2048)⟩]
    concatenates_S8192x2048_S16384x2048_S24576x2048_d0

/-- The rows against the weights. -/
def product (x : FVec Ideal S24576x5632 .bf16) (w : FVec Ideal S1x5632x2048 .bf16) : FVec Ideal S24576x2048 .f32 :=
  Host.dotGeneral dot_S24576x5632_S5632x2048_S24576x2048_1_0_0_1_n_n none (extf .f32 x bitsLt_bf16_f32)
    (extf .f32 (shapeCast _ w shapeCasts_S1x5632x2048_S5632x2048) bitsLt_bf16_f32)

/-- The reference's result: the stream plus the gated product. -/
def result (x : FVec Ideal S24576x5632 .bf16) (w : FVec Ideal S1x5632x2048 .bf16) (r : FVec Ideal S24576x2048 .f32)
    (q : FVec Ideal S96x1x2048 .f32) : FVec Ideal S24576x2048 .f32 :=
  addf r (mulf (gates (chosen q)) (product x w))

/-- A group's gate. -/
theorem chosen_at (q : FVec Ideal S96x1x2048 .f32) (g : Fin 16) (f : Fin 2048) :
    chosen q (ix2 g f) = q (ix3 (⟨g.val * 6 + 5, by omega⟩ : Fin 96) 0 f) := by
  pointwise [chosen]

/-- The gate of a context row. -/
theorem gates_context (g : FVec Ideal S16x2048 .f32) (r : Fin 8192) (f : Fin 2048) :
    gates g (ix2 ⟨r.val, by omega⟩ f) = g (ix2 0 f) := by
  pointwise [gates]

/-- The gate of a row of a sequence. -/
theorem gates_latent (g : FVec Ideal S16x2048 .f32) (r : Fin 16384) (f : Fin 2048) :
    gates g (ix2 ⟨8192 + r.val, by omega⟩ f) = g (ix2 ⟨1 + r.val / 2048, by omega⟩ f) := by
  pointwise [gates]

/-- The gate of any row: its group is `r / 2048 - 3`, cut off at zero. -/
theorem gates_at (q : FVec Ideal S96x1x2048 .f32) (r : Fin 24576) (f : Fin 2048) :
    gates (chosen q) (ix2 r f) = q (ix3 (⟨(r.val / 2048 - 3) * 6 + 5, by omega⟩ : Fin 96) 0 f) := by
  by_cases hr : r.val < 8192
  · refine (gates_context _ ⟨r.val, hr⟩ f).trans ((chosen_at q 0 f).trans ?_)
    refine congrArg (fun u => q (ix3 u 0 f)) (Fin.ext ?_)
    show 0 * 6 + 5 = (r.val / 2048 - 3) * 6 + 5
    omega
  · have e : r = ⟨8192 + (r.val - 8192), by omega⟩ := Fin.ext (by show r.val = 8192 + (r.val - 8192); omega)
    refine Eq.trans (congrArg _ (congrArg (fun u => ix2 u f) e)) ((gates_latent _ ⟨r.val - 8192, by omega⟩ f).trans ((chosen_at q _ f).trans ?_))
    refine congrArg (fun u => q (ix3 u 0 f)) (Fin.ext ?_)
    show (1 + (r.val - 8192) / 2048) * 6 + 5 = (r.val / 2048 - 3) * 6 + 5
    omega

/-- An entry of the product. -/
theorem product_at (x : FVec Ideal S24576x5632 .bf16) (w : FVec Ideal S1x5632x2048 .bf16) (r : Fin 24576) (f : Fin 2048) :
    product x w (ix2 r f) = ∑ k : Fin 5632, x (ix2 r k) * w (ix3 0 k f) := by
  pointwise [product]

/-- An entry of the reference's result. -/
theorem result_at (x : FVec Ideal S24576x5632 .bf16) (w : FVec Ideal S1x5632x2048 .bf16) (s : FVec Ideal S24576x2048 .f32)
    (q : FVec Ideal S96x1x2048 .f32) (r : Fin 24576) (f : Fin 2048) :
    result x w s q (ix2 r f) = s (ix2 r f) + q (ix3 (⟨(r.val / 2048 - 3) * 6 + 5, by omega⟩ : Fin 96) 0 f)
      * ∑ k : Fin 5632, x (ix2 r k) * w (ix3 0 k f) := by
  rw [← gates_at q r f, ← product_at]
  rfl

end Reference

/-- An entry of a tile of the kernel after its two steps is the reference's entry at the row and column that the tile's
    rows and columns stand for. -/
theorem tile (x : FVec Ideal Cert.LowReferenceIdeal.S24576x5632 .bf16) (w : FVec Ideal Cert.LowReferenceIdeal.S1x5632x2048 .bf16)
    (s : FVec Ideal Cert.LowReferenceIdeal.S24576x2048 .f32) (q : FVec Ideal Cert.LowReferenceIdeal.S96x1x2048 .f32)
    (x0 x1 : FVec Ideal Cert.LowIdeal.S512x2816 .bf16) (w0 w1 : FVec Ideal Cert.LowIdeal.S1x2816x1024 .bf16)
    (sb : FVec Ideal Cert.LowIdeal.S512x1024 .f32) (qb : FVec Ideal Cert.LowIdeal.S1x1x1024 .f32)
    (a : Fin 512) (d : Fin 1024) (r : Fin 24576) (f : Fin 2048)
    (hx0 : ∀ k : Fin 2816, x0 (ix2 a k) = x (ix2 r (⟨k.val, by omega⟩ : Fin 5632)))
    (hx1 : ∀ k : Fin 2816, x1 (ix2 a k) = x (ix2 r (⟨2816 + k.val, by omega⟩ : Fin 5632)))
    (hw0 : ∀ k : Fin 2816, w0 (ix3 0 k d) = w (ix3 0 (⟨k.val, by omega⟩ : Fin 5632) f))
    (hw1 : ∀ k : Fin 2816, w1 (ix3 0 k d) = w (ix3 0 (⟨2816 + k.val, by omega⟩ : Fin 5632) f))
    (hs : sb (ix2 a d) = s (ix2 r f)) (hq : qb (ix3 0 0 d) = q (ix3 (⟨(r.val / 2048 - 3) * 6 + 5, by omega⟩ : Fin 96) 0 f)) :
    Cert.LowIdeal.Gen.k0_pay2 (F := Ideal) x1 w1 (Cert.LowIdeal.Gen.k0_pay1 (F := Ideal) x0 w0) sb qb (ix2 a d) = result x w s q (ix2 r f) := by
  rw [result_at, Fin.sum_univ_two_halves 2816 2816 rfl]
  pointwise [Cert.LowIdeal.Gen.k0_pay1, Cert.LowIdeal.Gen.k0_pay2]
  simp only [hx0, hx1, hw0, hw1, hs, hq]

end Cert.DenseDown

end
-- ==== Proof.DenseDownGrid.lean ====
/- The dense layer's down projection: which blocks a grid point works on, and that the output's blocks cover it. -/
module

public import proofs.«01_k».proof.Proof.Gen.LowIdeal.Flash
public import Idealize.ShloMosaic.Lib.Pipeline.ValueKit

@[expose] public section

set_option maxRecDepth 16384

noncomputable section

namespace Cert.DenseDown

open Idealize.ShloMosaic Idealize.ShloMosaic.TcCoe Idealize.SL.Sem
open Idealize.ShloMosaic.Pipeline (Dat)
open Cert.LowIdeal Cert.LowIdeal.Gen

/-- The blocks of a grid point: row tile `t / 4`, column tile `t / 2 % 2`, half `t % 2` of the contraction; the gates of a tile are row 5 of its group's six,
    the group being 0 for the first 16 tiles and one more for every 4 tiles after them. -/
theorem idx : ∀ t : Fin (cfgA 0).N,
    ((cfgA 0).win 0).index t = ![t.val / 4, t.val % 2] ∧ ((cfgA 0).win 1).index t = ![0, t.val % 2, t.val / 2 % 2]
    ∧ ((cfgA 0).win 2).index t = ![t.val / 4, t.val / 2 % 2] ∧ ((cfgA 0).win 3).index t = ![(t.val / 4 / 4 - 3) * 6 + 5, 0, t.val / 2 % 2]
    ∧ ((cfgA 0).win 4).index t = ![t.val / 4, t.val / 2 % 2] :=
  (by decide +kernel : ∀ t : Fin grid0.N, _)

/-- Even points take the first half of the contraction. -/
theorem first_iff : ∀ t : Fin (cfgA 0).N, P0_0 0 t ↔ t.val % 2 = 0 :=
  (by decide +kernel : ∀ t : Fin grid0.N, _)

/-- The output's blocks cover the output array. -/
theorem covers : ((cfgA 0).win 4).Covers := by decide +kernel

end Cert.DenseDown

end
-- ==== Proof.DenseDownValue.lean ====
/- The dense layer's down projection: the kernel's output array after the whole grid is the reference's result. -/
module

public import proofs.«01_k».proof.Proof.DenseDownTile
public import proofs.«01_k».proof.Proof.DenseDownGrid
public import Idealize.ShloMosaic.Lib.Pipeline.ValueKit

@[expose] public section

set_option maxRecDepth 16384

noncomputable section

namespace Cert.DenseDown

open Idealize.ShloMosaic Idealize.ShloMosaic.TcCoe Idealize.SL.Sem
open Idealize.ShloMosaic.Pipeline (Dat)
open Cert.LowIdeal Cert.LowIdeal.Gen

/-- A point of the first half stores the product of its two input blocks. -/
theorem first_eq (c : Dev nD) (i : grid0.Coords) (a5 : Memref sig .tc .vmem S512x2816 .bf16) (h5 : a5.IsWhole)
    (a6 : Memref sig .tc .vmem S1x2816x1024 .bf16) (h6 : a6.IsWhole) (a7 : Memref sig .tc .vmem S512x1024 .f32) (h7 : a7.IsWhole)
    (a8 : Memref sig .tc .vmem S1x1x1024 .f32) (h8 : a8.IsWhole) (a9 : Memref sig .tc .vmem S512x1024 .f32) (h9 : a9.IsWhole)
    (T0 : S48.Idx → Elt Ideal .i32) (T1 : S1.Idx → Elt Ideal .i32) (x0 : FVec Ideal S512x2816 .bf16) (x1 : FVec Ideal S1x2816x1024 .bf16)
    (x2 : FVec Ideal S512x1024 .f32) (x3 : FVec Ideal S1x1x1024 .f32) (k1) (k2) (k3) (k4) :
    out0_A_4 c i a5 h5 a6 h6 a7 h7 a8 h8 a9 h9 T0 T1 x0 x1 x2 x3 k1 k2 k3 k4 = k0_pay1 (F := Ideal) x0 x1 := by
  have z2 : (![0, 0] : Fin 2 → Nat) = fun _ => 0 := by decide
  have z3 : (![0, 0, 0] : Fin 3 → Nat) = fun _ => 0 := by decide
  unfold out0_A_4
  rw [View.read_writes_eq_canon _ _ _ (cover0_A_4 c i a5 h5 a6 h6 a7 h7 a8 h8 a9 h9 T0 T1 x0 x1 x2 x3 k1 k2 k3 k4)]
  unfold kernelRun0_A
  dsimp only
  sl_unfold_words
  rw [View.canon_unit_zero z2]
  simp only [View.readAt_eq_ld, View.read_rep, View.ld_unit_zero (S := S512x2816) z2, View.ld_unit_zero (S := S1x2816x1024) z3,
    View.ld_unit_zero (S := S512x1024) z2, View.ld_unit_zero (S := S1x1x1024) z3]

/-- A point of the second half adds its product to what the output block held, gates the sum and adds the stream's block. -/
theorem second_eq (c : Dev nD) (i : grid0.Coords) (a5 : Memref sig .tc .vmem S512x2816 .bf16) (h5 : a5.IsWhole)
    (a6 : Memref sig .tc .vmem S1x2816x1024 .bf16) (h6 : a6.IsWhole) (a7 : Memref sig .tc .vmem S512x1024 .f32) (h7 : a7.IsWhole)
    (a8 : Memref sig .tc .vmem S1x1x1024 .f32) (h8 : a8.IsWhole) (a9 : Memref sig .tc .vmem S512x1024 .f32) (h9 : a9.IsWhole)
    (T0 : S48.Idx → Elt Ideal .i32) (T1 : S1.Idx → Elt Ideal .i32) (x0 : FVec Ideal S512x2816 .bf16) (x1 : FVec Ideal S1x2816x1024 .bf16)
    (x2 : FVec Ideal S512x1024 .f32) (x3 : FVec Ideal S1x1x1024 .f32) (p : FVec Ideal S512x1024 .f32) (k1) (k2) (k3) (k4) :
    out0_B_4 c i a5 h5 a6 h6 a7 h7 a8 h8 a9 h9 T0 T1 x0 x1 x2 x3 p k1 k2 k3 k4 = k0_pay2 (F := Ideal) x0 x1 p x2 x3 := by
  have z2 : (![0, 0] : Fin 2 → Nat) = fun _ => 0 := by decide
  have z3 : (![0, 0, 0] : Fin 3 → Nat) = fun _ => 0 := by decide
  unfold out0_B_4
  rw [View.read_writes_eq_canon _ _ _ (cover0_B_4 c i a5 h5 a6 h6 a7 h7 a8 h8 a9 h9 T0 T1 x0 x1 x2 x3 p k1 k2 k3 k4)]
  unfold kernelRun0_B
  dsimp only
  sl_unfold_words
  rw [View.canon_unit_zero z2]
  simp only [View.readAt_eq_ld, View.read_rep, h9.read_unread, View.ld_unit_zero (S := S512x2816) z2, View.ld_unit_zero (S := S1x2816x1024) z3,
    View.ld_unit_zero (S := S512x1024) z2, View.ld_unit_zero (S := S1x1x1024) z3]

variable (m : (ℓ : Loc nD τ sig) → Buf (Elt Ideal) ℓ) (ρ : Dev nD → PrngReg)

/-- Before a point the output block holds what the point before it left. -/
theorem before_eq (c : Dev nD) (t s : Fin (cfgA 0).N) (hs : s.val + 1 = t.val) :
    prev0 0 m ρ c t = traj0 0 m ρ c s.val s.isLt := by
  obtain ⟨n, hn⟩ := t
  obtain ⟨k, hk⟩ := s
  obtain rfl : k + 1 = n := hs
  unfold prev0
  exact dif_neg (Nat.succ_ne_zero k)

/-- After the two points of an output block it holds the stream's block and the gated sum of the two products. -/
theorem held (c : Dev nD) (t s : Fin (cfgA 0).N) (ht : t.val % 2 = 1) (hs : s.val + 1 = t.val) :
    traj0 0 m ρ c t.val t.isLt
      = k0_pay2 (F := Ideal) (iblk 0 m ρ c 0 t) (iblk 0 m ρ c 1 t) (k0_pay1 (F := Ideal) (iblk 0 m ρ c 0 s) (iblk 0 m ρ c 1 s))
          (iblk 0 m ρ c 2 t) (iblk 0 m ρ c 3 t) := by
  have q : ¬P0_0 0 t := fun h => by have := (first_iff t).1 h; omega
  have qs : P0_0 0 s := (first_iff s).2 (by omega)
  rw [traj0_eq, step0_B 0 m ρ c t _ q, second_eq]
  refine congrArg (fun p => k0_pay2 (F := Ideal) (iblk 0 m ρ c 0 t) (iblk 0 m ρ c 1 t) p (iblk 0 m ρ c 2 t) (iblk 0 m ρ c 3 t)) ?_
  rw [before_eq m ρ c t s hs, traj0_eq 0 m ρ c s, step0_A 0 m ρ c s _ qs, first_eq]

/-- What an output block holds after its two points is the reference's result at the block's rows and columns. -/
theorem point (c : Dev nD) (t s : Fin (cfgA 0).N) (ht : t.val % 2 = 1) (hs : s.val + 1 = t.val) (y : S512x1024.Idx)
    (r : Fin 24576) (f : Fin 2048) (hr : r.val = t.val / 4 * 512 + (y 0 : ℕ)) (hf : f.val = t.val / 2 % 2 * 1024 + (y 1 : ℕ)) :
    k0_pay2 (F := Ideal) (iblk 0 m ρ c 0 t) (iblk 0 m ρ c 1 t) (k0_pay1 (F := Ideal) (iblk 0 m ρ c 0 s) (iblk 0 m ρ c 1 s))
          (iblk 0 m ρ c 2 t) (iblk 0 m ρ c 3 t) y
      = result (m ((c.tc : Thread nD τ).loc main_arg2)) (m ((c.tc : Thread nD τ).loc main_arg3))
          (m ((c.tc : Thread nD τ).loc main_arg4)) (m ((c.tc : Thread nD τ).loc main_arg5)) (ix2 r f) := by
  have tlt : t.val < 192 := t.isLt
  obtain ⟨i0, i1, i2, i3, -⟩ := idx t
  obtain ⟨j0, j1, -⟩ := idx s
  have y0 : (y 0 : ℕ) < 512 := (y 0).isLt
  have e4 : s.val / 4 = t.val / 4 := by omega
  have e2 : s.val / 2 = t.val / 2 := by omega
  have es : s.val % 2 = 0 := by omega
  rw [es, e4] at j0
  rw [es, e2] at j1
  rw [ht] at i0 i1
  rw [eq_ix2 y]
  refine tile _ _ _ _ _ _ _ _ _ _ _ _ r f (fun k => ?_) (fun k => ?_) (fun k => ?_) (fun k => ?_) ?_ ?_
  · refine congrArg (m ((c.tc : Thread nD τ).loc main_arg2)) (funext fun a => Fin.ext ?_)
    match a with
    | ⟨0, _⟩ => show ((cfgA 0).win 0).index s 0 * 512 + 1 * (y 0).val = r.val; rw [j0, hr]; simp
    | ⟨1, _⟩ => show ((cfgA 0).win 0).index s 1 * 2816 + 1 * k.val = k.val; rw [j0]; simp
  · refine congrArg (m ((c.tc : Thread nD τ).loc main_arg2)) (funext fun a => Fin.ext ?_)
    match a with
    | ⟨0, _⟩ => show ((cfgA 0).win 0).index t 0 * 512 + 1 * (y 0).val = r.val; rw [i0, hr]; simp
    | ⟨1, _⟩ => show ((cfgA 0).win 0).index t 1 * 2816 + 1 * k.val = 2816 + k.val; rw [i0]; simp
  · refine congrArg (m ((c.tc : Thread nD τ).loc main_arg3)) (funext fun a => Fin.ext ?_)
    match a with
    | ⟨0, _⟩ => show ((cfgA 0).win 1).index s 0 * 1 + 1 * 0 = 0; rw [j1]; simp
    | ⟨1, _⟩ => show ((cfgA 0).win 1).index s 1 * 2816 + 1 * k.val = k.val; rw [j1]; simp
    | ⟨2, _⟩ => show ((cfgA 0).win 1).index s 2 * 1024 + 1 * (y 1).val = f.val; rw [j1, hf]; simp
  · refine congrArg (m ((c.tc : Thread nD τ).loc main_arg3)) (funext fun a => Fin.ext ?_)
    match a with
    | ⟨0, _⟩ => show ((cfgA 0).win 1).index t 0 * 1 + 1 * 0 = 0; rw [i1]; simp
    | ⟨1, _⟩ => show ((cfgA 0).win 1).index t 1 * 2816 + 1 * k.val = 2816 + k.val; rw [i1]; simp
    | ⟨2, _⟩ => show ((cfgA 0).win 1).index t 2 * 1024 + 1 * (y 1).val = f.val; rw [i1, hf]; simp
  · refine congrArg (m ((c.tc : Thread nD τ).loc main_arg4)) (funext fun a => Fin.ext ?_)
    match a with
    | ⟨0, _⟩ => show ((cfgA 0).win 2).index t 0 * 512 + 1 * (y 0).val = r.val; rw [i2, hr]; simp
    | ⟨1, _⟩ => show ((cfgA 0).win 2).index t 1 * 1024 + 1 * (y 1).val = f.val; rw [i2, hf]; simp
  · refine congrArg (m ((c.tc : Thread nD τ).loc main_arg5)) (funext fun a => Fin.ext ?_)
    match a with
    | ⟨0, _⟩ => show ((cfgA 0).win 3).index t 0 * 1 + 1 * 0 = (r.val / 2048 - 3) * 6 + 5; rw [i3, hr]; show ((t.val / 4 / 4 - 3) * 6 + 5) * 1 + 1 * 0 = _; omega
    | ⟨1, _⟩ => show ((cfgA 0).win 3).index t 1 * 1 + 1 * 0 = 0; rw [i3]; simp
    | ⟨2, _⟩ => show ((cfgA 0).win 3).index t 2 * 1024 + 1 * (y 1).val = f.val; rw [i3, hf]; simp

/-- The output array after the whole grid. -/
theorem final (c : Dev nD) :
    (dats 0 m ρ 0 c).arrAt 4 (cfgA 0).N
      = result (m ((c.tc : Thread nD τ).loc main_arg2)) (m ((c.tc : Thread nD τ).loc main_arg3))
          (m ((c.tc : Thread nD τ).loc main_arg4)) (m ((c.tc : Thread nD τ).loc main_arg5)) := by
  refine (dats 0 m ρ 0 c).arrAt_eq_of_covers 4 _ covers fun t hfl y => ?_
  have tlt : t.val < 192 := t.isLt
  have y0 : (y 0 : ℕ) < 512 := (y 0).isLt
  have y1 : (y 1 : ℕ) < 1024 := (y 1).isLt
  obtain ⟨-, -, -, -, i4⟩ := idx t
  have odd : t.val % 2 = 1 := by
    by_contra hn
    have := (sched0_A 0 t ((first_iff t).2 (by omega))).2.1
    rw [this] at hfl
    exact absurd hfl (by decide)
  let s : Fin (cfgA 0).N := ⟨t.val - 1, Nat.lt_of_le_of_lt (Nat.sub_le _ _) t.isLt⟩
  have hs : s.val + 1 = t.val := by show t.val - 1 + 1 = t.val; omega
  show traj0 0 m ρ c t.val t.isLt y = _
  rw [held m ρ c t s odd hs]
  refine (point m ρ c t s odd hs y ⟨t.val / 4 * 512 + (y 0 : ℕ), by omega⟩ ⟨t.val / 2 % 2 * 1024 + (y 1 : ℕ), by omega⟩ rfl rfl).trans ?_
  refine congrArg (result _ _ _ _) (funext fun a => Fin.ext ?_)
  match a with
  | ⟨0, _⟩ => show t.val / 4 * 512 + (y 0 : ℕ) = ((cfgA 0).win 4).index t 0 * 512 + 1 * (y 0).val; rw [i4]; simp
  | ⟨1, _⟩ => show t.val / 2 % 2 * 1024 + (y 1 : ℕ) = ((cfgA 0).win 4).index t 1 * 1024 + 1 * (y 1).val; rw [i4]; simp

end Cert.DenseDown

end
-- ==== Proof.PrepareHead.lean ====
/- One head of the preparation of queries and keys: its norm and its rotation as functions of numbers, and the
   arithmetic of the kernel's body read as these functions. -/
module

public import proofs.«01_k».proof.Proof.Gen.PrepareIdeal.Value
public import Idealize.ShloMosaic.Lib.Pipeline.ValueKit
public import Idealize.ShloMosaic.Lib.Pointwise

@[expose] public section

set_option maxRecDepth 16384

noncomputable section

namespace Cert.Prepare

open Idealize.ShloMosaic Idealize.ShloMosaic.TcCoe Idealize.SL.Sem

/-- An entry of a head's row over the root of the row's mean square, times its gain. -/
def normed (x w : Fin 256 → EReal) (j : Fin 256) : EReal :=
  x j * Ideal.rsqrt (Ideal.div (∑ k : Fin 256, x k * x k) (Scalar.ofBits (F := Ideal) .f32 0x43800000#32)
    + Scalar.ofBits (F := Ideal) .f32 0x358637BD#32) * w j

/-- An entry of a head's row after the rotation: entry `d` of the first half is paired with entry `d` of the second. -/
def turned (n : Fin 256 → EReal) (c s : Fin 128 → EReal) (j : Fin 256) : EReal :=
  if h : j.val < 128 then n j * c ⟨j.val, h⟩ - n ⟨128 + j.val, by omega⟩ * s ⟨j.val, h⟩
  else n j * c ⟨j.val - 128, by omega⟩ + n ⟨j.val - 128, by omega⟩ * s ⟨j.val - 128, by omega⟩

/-- The rotation by cosines one and sines zero changes nothing, whatever the entries are. -/
theorem turned_one (n : Fin 256 → EReal) (c s : Fin 128 → EReal) (hc : ∀ e, c e = 1) (hs : ∀ e, s e = 0) (j : Fin 256) :
    turned n c s j = n j := by
  unfold turned
  split <;> simp [hc, hs]

/-- The factor of the queries. -/
def factor : EReal := Scalar.ofBits (F := Ideal) .f32 0x3D800000#32

open Cert.PrepareIdeal Cert.PrepareIdeal.Gen

/-- The body's normed head, entry by entry. -/
theorem pay106_at (x : FVec Ideal S256x256 .f32) (w : FVec Ideal S1x256 .f32) (a j : Fin 256) :
    k0_pay106 (F := Ideal) x w (ix2 a j) = normed (fun k => x (ix2 a k)) (fun k => w (ix2 0 k)) j := by
  unfold normed
  pointwise [k0_pay106]

/-- The first half of a rotated head, entry by entry. -/
theorem pay109_at (c s : FVec Ideal S256x128 .f32) (x : FVec Ideal S256x256 .f32) (w : FVec Ideal S1x256 .f32) (a : Fin 256) (d : Fin 128) :
    k0_pay109 (F := Ideal) c s x w (ix2 a d)
      = turned (normed (fun k => x (ix2 a k)) (fun k => w (ix2 0 k))) (fun e => c (ix2 a e)) (fun e => s (ix2 a e)) ⟨d.val, by omega⟩ := by
  rw [turned, dif_pos d.isLt, ← pay106_at, ← pay106_at]
  pointwise [k0_pay109, k0_pay107, k0_pay108]

/-- The second half of a rotated head, entry by entry. -/
theorem pay110_at (c s : FVec Ideal S256x128 .f32) (x : FVec Ideal S256x256 .f32) (w : FVec Ideal S1x256 .f32) (a : Fin 256) (d : Fin 128) :
    k0_pay110 (F := Ideal) c s x w (ix2 a d)
      = turned (normed (fun k => x (ix2 a k)) (fun k => w (ix2 0 k))) (fun e => c (ix2 a e)) (fun e => s (ix2 a e)) ⟨128 + d.val, by omega⟩ := by
  rw [turned, dif_neg (show ¬ 128 + d.val < 128 by omega), ← pay106_at, ← pay106_at]
  simp only [Nat.add_sub_cancel_left]
  pointwise [k0_pay110, k0_pay107, k0_pay108]

/-- The queries' first halves are the keys' times the factor. -/
theorem pay12_at (c s : FVec Ideal S256x128 .f32) (x : FVec Ideal S256x256 .f32) (w : FVec Ideal S1x256 .f32) (i : S256x128.Idx) :
    k0_pay12 (F := Ideal) c s x w i = k0_pay109 (F := Ideal) c s x w i * factor := rfl

/-- The queries' second halves are the keys' times the factor. -/
theorem pay13_at (c s : FVec Ideal S256x128 .f32) (x : FVec Ideal S256x256 .f32) (w : FVec Ideal S1x256 .f32) (i : S256x128.Idx) :
    k0_pay13 (F := Ideal) c s x w i = k0_pay110 (F := Ideal) c s x w i * factor := rfl

/-- The head that lies from column `o` on, of a block of rows. -/
theorem head_at (x : Vec Ideal S256x5120 .f32) (o : ℕ) (ho : ∀ a, (![0, o] : Fin 2 → ℕ) a + S256x256.size a ≤ S256x5120.size a) (a k : Fin 256) (hk : o + 256 ≤ 5120) :
    View.ld x (Rect.unit (s := S256x5120) ![0, o] S256x256.size ho) (ix2 a k) = x (ix2 a ⟨o + k.val, by omega⟩) := by
  refine congrArg x (funext fun e => Fin.ext ?_)
  match e with
  | ⟨0, _⟩ => show 0 + 1 * a.val = a.val; omega
  | ⟨1, _⟩ => show o + 1 * k.val = o + k.val; omega

/-- Entry `j` of the rotated head that starts at column `o`, for row `a` of a block. -/
def entry (x : Vec Ideal S256x5120 .f32) (w : Vec Ideal S1x256 .f32) (c s : Vec Ideal S256x128 .f32) (o : ℕ) (ho : o + 256 ≤ 5120) (a : Fin 256) (j : Fin 256) : EReal :=
  turned (normed (fun k => x (ix2 a ⟨o + k.val, by omega⟩)) (fun k => w (ix2 0 k))) (fun e => c (ix2 a e)) (fun e => s (ix2 a e)) j

end Cert.Prepare

end
-- ==== Proof.PreparePieces.lean ====
/- The stores of a grid point of the preparation, head by head. -/
module

public import proofs.«01_k».proof.Proof.PrepareHead

@[expose] public section

set_option maxRecDepth 16384

noncomputable section

namespace Cert.Prepare

open Idealize.ShloMosaic Idealize.ShloMosaic.TcCoe Idealize.SL.Sem

open Cert.PrepareIdeal Cert.PrepareIdeal.Gen

/-- A load of all gains reads them. -/
theorem gains_ld (w : Vec Ideal S1x256 .f32) : View.ld w r0_2 = w := View.ld_unit_zero (S := S1x256) (by decide) _ w

/-- A load of a whole block of cosines or sines reads it. -/
theorem table_ld (w : Vec Ideal S256x128 .f32) : View.ld w r0_0 = w := View.ld_unit_zero (S := S256x128) (by decide) _ w

section Pieces

variable (x0 : Vec Ideal S256x5120 .f32) (w : Vec Ideal S1x256 .f32) (c s : Vec Ideal S256x128 .f32) (o p : ℕ)
  (ho : ∀ a, (![0, o] : Fin 2 → ℕ) a + S256x256.size a ≤ S256x5120.size a) (hp : p + 256 ≤ 5120) (e : p = o)
  (x : S256x128.Idx) (a j : Fin 256) (ha : a.val = (x 0 : ℕ))

include e ha

/-- A key's first half is a rotated head's. -/
theorem first_key (hj : j.val = (x 1 : ℕ)) :
    k0_pay109 (F := Ideal) c s (View.ld x0 (Rect.unit (s := S256x5120) ![0, o] S256x256.size ho)) (View.ld w r0_2) x = entry x0 w c s p hp a j := by
  subst e
  obtain ⟨a', d, rfl⟩ : ∃ (a' : Fin 256) (d : Fin 128), x = ix2 a' d := ⟨x 0, x 1, eq_ix2 x⟩
  have ea : a = a' := Fin.ext ha
  have ej : j = ⟨d.val, by omega⟩ := Fin.ext hj
  subst ea
  rw [ej]
  rw [gains_ld, pay109_at, entry]
  simp only [head_at x0 p ho _ _ hp]

/-- A key's second half is a rotated head's. -/
theorem second_key (hj : j.val = 128 + (x 1 : ℕ)) :
    k0_pay110 (F := Ideal) c s (View.ld x0 (Rect.unit (s := S256x5120) ![0, o] S256x256.size ho)) (View.ld w r0_2) x = entry x0 w c s p hp a j := by
  subst e
  obtain ⟨a', d, rfl⟩ : ∃ (a' : Fin 256) (d : Fin 128), x = ix2 a' d := ⟨x 0, x 1, eq_ix2 x⟩
  have ea : a = a' := Fin.ext ha
  have ej : j = ⟨128 + d.val, by omega⟩ := Fin.ext hj
  subst ea
  rw [ej]
  rw [gains_ld, pay110_at, entry]
  simp only [head_at x0 p ho _ _ hp]

/-- A query's first half is a rotated head's times the factor. -/
theorem first_query (hj : j.val = (x 1 : ℕ)) :
    k0_pay12 (F := Ideal) c s (View.ld x0 (Rect.unit (s := S256x5120) ![0, o] S256x256.size ho)) (View.ld w r0_2) x
      = entry x0 w c s p hp a j * factor := by
  rw [pay12_at, first_key x0 w c s o p ho hp e x a j ha hj]

/-- A query's second half is a rotated head's times the factor. -/
theorem second_query (hj : j.val = 128 + (x 1 : ℕ)) :
    k0_pay13 (F := Ideal) c s (View.ld x0 (Rect.unit (s := S256x5120) ![0, o] S256x256.size ho)) (View.ld w r0_2) x
      = entry x0 w c s p hp a j * factor := by
  rw [pay13_at, second_key x0 w c s o p ho hp e x a j ha hj]

/-- A key's first half in the narrow format. -/
theorem first_narrow (hj : j.val = (x 1 : ℕ)) :
    k0_pay111 (F := Ideal) c s (View.ld x0 (Rect.unit (s := S256x5120) ![0, o] S256x256.size ho)) (View.ld w r0_2) x = entry x0 w c s p hp a j :=
  first_key x0 w c s o p ho hp e x a j ha hj

/-- A key's second half in the narrow format. -/
theorem second_narrow (hj : j.val = 128 + (x 1 : ℕ)) :
    k0_pay112 (F := Ideal) c s (View.ld x0 (Rect.unit (s := S256x5120) ![0, o] S256x256.size ho)) (View.ld w r0_2) x = entry x0 w c s p hp a j :=
  second_key x0 w c s o p ho hp e x a j ha hj

end Pieces

set_option maxHeartbeats 2000000 in
/-- The stores of the sixteen query heads, each by the same arithmetic. -/
theorem queries_eq (i : grid0.Coords) (x0 : Vec Ideal S256x5120 .f32) (x1 x2 : Vec Ideal S256x128 .f32) (x3 x4 : Vec Ideal S1x256 .f32) :
    out0_5 (F := Ideal) i x0 x1 x2 x3 x4 = View.canon [⟨r0_49, k0_pay13 (k0_pay2 i (View.ld x1 r0_0)) (k0_pay3 i (View.ld x2 r0_0)) (View.ld x0 r0_47) (View.ld x3 r0_2)⟩,
      ⟨r0_48, k0_pay12 (k0_pay2 i (View.ld x1 r0_0)) (k0_pay3 i (View.ld x2 r0_0)) (View.ld x0 r0_47) (View.ld x3 r0_2)⟩,
      ⟨r0_46, k0_pay13 (k0_pay2 i (View.ld x1 r0_0)) (k0_pay3 i (View.ld x2 r0_0)) (View.ld x0 r0_44) (View.ld x3 r0_2)⟩,
      ⟨r0_45, k0_pay12 (k0_pay2 i (View.ld x1 r0_0)) (k0_pay3 i (View.ld x2 r0_0)) (View.ld x0 r0_44) (View.ld x3 r0_2)⟩,
      ⟨r0_43, k0_pay13 (k0_pay2 i (View.ld x1 r0_0)) (k0_pay3 i (View.ld x2 r0_0)) (View.ld x0 r0_41) (View.ld x3 r0_2)⟩,
      ⟨r0_42, k0_pay12 (k0_pay2 i (View.ld x1 r0_0)) (k0_pay3 i (View.ld x2 r0_0)) (View.ld x0 r0_41) (View.ld x3 r0_2)⟩,
      ⟨r0_40, k0_pay13 (k0_pay2 i (View.ld x1 r0_0)) (k0_pay3 i (View.ld x2 r0_0)) (View.ld x0 r0_38) (View.ld x3 r0_2)⟩,
      ⟨r0_39, k0_pay12 (k0_pay2 i (View.ld x1 r0_0)) (k0_pay3 i (View.ld x2 r0_0)) (View.ld x0 r0_38) (View.ld x3 r0_2)⟩,
      ⟨r0_37, k0_pay13 (k0_pay2 i (View.ld x1 r0_0)) (k0_pay3 i (View.ld x2 r0_0)) (View.ld x0 r0_35) (View.ld x3 r0_2)⟩,
      ⟨r0_36, k0_pay12 (k0_pay2 i (View.ld x1 r0_0)) (k0_pay3 i (View.ld x2 r0_0)) (View.ld x0 r0_35) (View.ld x3 r0_2)⟩,
      ⟨r0_34, k0_pay13 (k0_pay2 i (View.ld x1 r0_0)) (k0_pay3 i (View.ld x2 r0_0)) (View.ld x0 r0_32) (View.ld x3 r0_2)⟩,
      ⟨r0_33, k0_pay12 (k0_pay2 i (View.ld x1 r0_0)) (k0_pay3 i (View.ld x2 r0_0)) (View.ld x0 r0_32) (View.ld x3 r0_2)⟩,
      ⟨r0_31, k0_pay13 (k0_pay2 i (View.ld x1 r0_0)) (k0_pay3 i (View.ld x2 r0_0)) (View.ld x0 r0_29) (View.ld x3 r0_2)⟩,
      ⟨r0_30, k0_pay12 (k0_pay2 i (View.ld x1 r0_0)) (k0_pay3 i (View.ld x2 r0_0)) (View.ld x0 r0_29) (View.ld x3 r0_2)⟩,
      ⟨r0_28, k0_pay13 (k0_pay2 i (View.ld x1 r0_0)) (k0_pay3 i (View.ld x2 r0_0)) (View.ld x0 r0_26) (View.ld x3 r0_2)⟩,
      ⟨r0_27, k0_pay12 (k0_pay2 i (View.ld x1 r0_0)) (k0_pay3 i (View.ld x2 r0_0)) (View.ld x0 r0_26) (View.ld x3 r0_2)⟩,
      ⟨r0_25, k0_pay13 (k0_pay2 i (View.ld x1 r0_0)) (k0_pay3 i (View.ld x2 r0_0)) (View.ld x0 r0_23) (View.ld x3 r0_2)⟩,
      ⟨r0_24, k0_pay12 (k0_pay2 i (View.ld x1 r0_0)) (k0_pay3 i (View.ld x2 r0_0)) (View.ld x0 r0_23) (View.ld x3 r0_2)⟩,
      ⟨r0_22, k0_pay13 (k0_pay2 i (View.ld x1 r0_0)) (k0_pay3 i (View.ld x2 r0_0)) (View.ld x0 r0_20) (View.ld x3 r0_2)⟩,
      ⟨r0_21, k0_pay12 (k0_pay2 i (View.ld x1 r0_0)) (k0_pay3 i (View.ld x2 r0_0)) (View.ld x0 r0_20) (View.ld x3 r0_2)⟩,
      ⟨r0_19, k0_pay13 (k0_pay2 i (View.ld x1 r0_0)) (k0_pay3 i (View.ld x2 r0_0)) (View.ld x0 r0_17) (View.ld x3 r0_2)⟩,
      ⟨r0_18, k0_pay12 (k0_pay2 i (View.ld x1 r0_0)) (k0_pay3 i (View.ld x2 r0_0)) (View.ld x0 r0_17) (View.ld x3 r0_2)⟩,
      ⟨r0_16, k0_pay13 (k0_pay2 i (View.ld x1 r0_0)) (k0_pay3 i (View.ld x2 r0_0)) (View.ld x0 r0_14) (View.ld x3 r0_2)⟩,
      ⟨r0_15, k0_pay12 (k0_pay2 i (View.ld x1 r0_0)) (k0_pay3 i (View.ld x2 r0_0)) (View.ld x0 r0_14) (View.ld x3 r0_2)⟩,
      ⟨r0_13, k0_pay13 (k0_pay2 i (View.ld x1 r0_0)) (k0_pay3 i (View.ld x2 r0_0)) (View.ld x0 r0_11) (View.ld x3 r0_2)⟩,
      ⟨r0_12, k0_pay12 (k0_pay2 i (View.ld x1 r0_0)) (k0_pay3 i (View.ld x2 r0_0)) (View.ld x0 r0_11) (View.ld x3 r0_2)⟩,
      ⟨r0_10, k0_pay13 (k0_pay2 i (View.ld x1 r0_0)) (k0_pay3 i (View.ld x2 r0_0)) (View.ld x0 r0_8) (View.ld x3 r0_2)⟩,
      ⟨r0_9, k0_pay12 (k0_pay2 i (View.ld x1 r0_0)) (k0_pay3 i (View.ld x2 r0_0)) (View.ld x0 r0_8) (View.ld x3 r0_2)⟩,
      ⟨r0_7, k0_pay13 (k0_pay2 i (View.ld x1 r0_0)) (k0_pay3 i (View.ld x2 r0_0)) (View.ld x0 r0_5) (View.ld x3 r0_2)⟩,
      ⟨r0_6, k0_pay12 (k0_pay2 i (View.ld x1 r0_0)) (k0_pay3 i (View.ld x2 r0_0)) (View.ld x0 r0_5) (View.ld x3 r0_2)⟩,
      ⟨r0_4, k0_pay13 (k0_pay2 i (View.ld x1 r0_0)) (k0_pay3 i (View.ld x2 r0_0)) (View.ld x0 r0_1) (View.ld x3 r0_2)⟩,
      ⟨r0_3, k0_pay12 (k0_pay2 i (View.ld x1 r0_0)) (k0_pay3 i (View.ld x2 r0_0)) (View.ld x0 r0_1) (View.ld x3 r0_2)⟩] := rfl

set_option maxHeartbeats 2000000 in
/-- The stores of the two key heads, each by the same arithmetic. -/
theorem keys_eq (i : grid0.Coords) (x0 : Vec Ideal S256x5120 .f32) (x1 x2 : Vec Ideal S256x128 .f32) (x3 x4 : Vec Ideal S1x256 .f32) :
    out0_8 (F := Ideal) i x0 x1 x2 x3 x4 = View.canon [⟨r0_55, k0_pay110 (k0_pay2 i (View.ld x1 r0_0)) (k0_pay3 i (View.ld x2 r0_0)) (View.ld x0 r0_53) (View.ld x4 r0_2)⟩,
      ⟨r0_54, k0_pay109 (k0_pay2 i (View.ld x1 r0_0)) (k0_pay3 i (View.ld x2 r0_0)) (View.ld x0 r0_53) (View.ld x4 r0_2)⟩,
      ⟨r0_52, k0_pay110 (k0_pay2 i (View.ld x1 r0_0)) (k0_pay3 i (View.ld x2 r0_0)) (View.ld x0 r0_50) (View.ld x4 r0_2)⟩,
      ⟨r0_51, k0_pay109 (k0_pay2 i (View.ld x1 r0_0)) (k0_pay3 i (View.ld x2 r0_0)) (View.ld x0 r0_50) (View.ld x4 r0_2)⟩] := rfl

set_option maxHeartbeats 2000000 in
/-- The stores of the two key heads in the narrow format: the numbers are the same. -/
theorem narrow_keys_eq (i : grid0.Coords) (x0 : Vec Ideal S256x5120 .f32) (x1 x2 : Vec Ideal S256x128 .f32) (x3 x4 : Vec Ideal S1x256 .f32) :
    out0_6 (F := Ideal) i x0 x1 x2 x3 x4 = View.canon [⟨r0_55, k0_pay112 (k0_pay2 i (View.ld x1 r0_0)) (k0_pay3 i (View.ld x2 r0_0)) (View.ld x0 r0_53) (View.ld x4 r0_2)⟩,
      ⟨r0_54, k0_pay111 (k0_pay2 i (View.ld x1 r0_0)) (k0_pay3 i (View.ld x2 r0_0)) (View.ld x0 r0_53) (View.ld x4 r0_2)⟩,
      ⟨r0_52, k0_pay112 (k0_pay2 i (View.ld x1 r0_0)) (k0_pay3 i (View.ld x2 r0_0)) (View.ld x0 r0_50) (View.ld x4 r0_2)⟩,
      ⟨r0_51, k0_pay111 (k0_pay2 i (View.ld x1 r0_0)) (k0_pay3 i (View.ld x2 r0_0)) (View.ld x0 r0_50) (View.ld x4 r0_2)⟩] := rfl

end Cert.Prepare

end
-- ==== Proof.PrepareBlock.lean ====
/- What a grid point of the preparation leaves in its blocks, from the blocks it reads. -/
module

public import proofs.«01_k».proof.Proof.PreparePieces

@[expose] public section

set_option maxRecDepth 16384

noncomputable section

namespace Cert.Prepare

open Idealize.ShloMosaic Idealize.ShloMosaic.TcCoe Idealize.SL.Sem

open Cert.PrepareIdeal Cert.PrepareIdeal.Gen

attribute [local irreducible] k0_pay12 k0_pay13 k0_pay109 k0_pay110 k0_pay111 k0_pay112

set_option maxHeartbeats 4000000 in
/-- The queries that a grid point leaves, from its blocks. -/
theorem queries_block (i : grid0.Coords) (x0 : Vec Ideal S256x5120 .f32) (x1 x2 : Vec Ideal S256x128 .f32) (x3 x4 : Vec Ideal S1x256 .f32) (y : S256x4096.Idx) (h : (y 1 : ℕ) < 4096) :
    out0_5 (F := Ideal) i x0 x1 x2 x3 x4 y
      = entry x0 x3 (k0_pay2 i x1) (k0_pay3 i x2) ((y 1 : ℕ) / 256 * 256) (by omega) (y 0) ⟨(y 1 : ℕ) % 256, by omega⟩ * factor := by
  rw [queries_eq, table_ld, table_ld]
  canon_tiles x hx
  all_goals
    first
    | exact first_query _ _ _ _ _ _ _ _ (by omega) x _ _ (by omega) (by simp only []; omega)
    | exact second_query _ _ _ _ _ _ _ _ (by omega) x _ _ (by omega) (by simp only []; omega)

set_option maxHeartbeats 4000000 in
/-- The keys that a grid point leaves, from its blocks. -/
theorem keys_block (i : grid0.Coords) (x0 : Vec Ideal S256x5120 .f32) (x1 x2 : Vec Ideal S256x128 .f32) (x3 x4 : Vec Ideal S1x256 .f32) (y : S256x512.Idx) (h : (y 1 : ℕ) < 512) :
    out0_8 (F := Ideal) i x0 x1 x2 x3 x4 y
      = entry x0 x4 (k0_pay2 i x1) (k0_pay3 i x2) (4096 + (y 1 : ℕ) / 256 * 256) (by omega) (y 0) ⟨(y 1 : ℕ) % 256, by omega⟩ := by
  rw [keys_eq, table_ld, table_ld]
  canon_tiles x hx
  all_goals
    first
    | exact first_key _ _ _ _ _ _ _ _ (by omega) x _ _ (by omega) (by simp only []; omega)
    | exact second_key _ _ _ _ _ _ _ _ (by omega) x _ _ (by omega) (by simp only []; omega)

set_option maxHeartbeats 4000000 in
/-- The same keys in the narrow format. -/
theorem narrow_keys_block (i : grid0.Coords) (x0 : Vec Ideal S256x5120 .f32) (x1 x2 : Vec Ideal S256x128 .f32) (x3 x4 : Vec Ideal S1x256 .f32) (y : S256x512.Idx) (h : (y 1 : ℕ) < 512) :
    out0_6 (F := Ideal) i x0 x1 x2 x3 x4 y
      = entry x0 x4 (k0_pay2 i x1) (k0_pay3 i x2) (4096 + (y 1 : ℕ) / 256 * 256) (by omega) (y 0) ⟨(y 1 : ℕ) % 256, by omega⟩ := by
  rw [narrow_keys_eq, table_ld, table_ld]
  canon_tiles x hx
  all_goals
    first
    | exact first_narrow _ _ _ _ _ _ _ _ (by omega) x _ _ (by omega) (by simp only []; omega)
    | exact second_narrow _ _ _ _ _ _ _ _ (by omega) x _ _ (by omega) (by simp only []; omega)

/-- The values that a grid point leaves are the last columns of its block. -/
theorem values_block (i : grid0.Coords) (x0 : Vec Ideal S256x5120 .f32) (x1 x2 : Vec Ideal S256x128 .f32) (x3 x4 : Vec Ideal S1x256 .f32) (y : S256x512.Idx) (h : (y 1 : ℕ) < 512) :
    out0_7 (F := Ideal) i x0 x1 x2 x3 x4 y = x0 (ix2 (y 0) ⟨4608 + (y 1 : ℕ), by omega⟩) := by
  have z2 : (![0, 0] : Fin 2 → Nat) = fun _ => 0 := by decide
  unfold out0_7
  rw [View.canon_unit_zero z2]
  refine congrArg x0 (funext fun e => Fin.ext ?_)
  match e with
  | ⟨0, _⟩ => show 0 + 1 * (y 0).val = (y 0).val; omega
  | ⟨1, _⟩ => show 4608 + 1 * (y 1).val = 4608 + (y 1).val; omega

end Cert.Prepare

end
-- ==== Proof.PrepareRef.lean ====
/- The reference of the preparation, entry by entry: the heads, their norm, the rotation of the latent rows. -/
module

public import proofs.«01_k».proof.Proof.PrepareHead
public import proofs.«01_k».proof.Proof.Gen.PrepareReferenceIdeal.Run

@[expose] public section

set_option maxRecDepth 16384

noncomputable section

namespace Cert.Prepare

open Idealize.ShloMosaic Idealize.ShloMosaic.TcCoe Idealize.SL.Sem

open Cert.PrepareReferenceIdeal Cert.PrepareReferenceIdeal.Gen

/-- The columns of the 16 heads, head by head. -/
def heads16 (x : FVec Ideal S24576x5120 .f32) : FVec Ideal S24576x16x256 .f32 :=
  shapeCast _ (extractStridedSlice S24576x4096 ![0, 0] x slices_S24576x5120_S24576x4096_0_0) shapeCasts_S24576x4096_S24576x16x256

/-- Every head's row over the root of its mean square, times the gains. -/
def normed16 (h : FVec Ideal S24576x16x256 .f32) (w : FVec Ideal S256 .f32) : FVec Ideal S24576x16x256 .f32 :=
  mulf (mulf h (broadcastInDim S24576x16x256 ![0, 1, 2] bcast_S24576x16x1_S24576x16x256_0_1_2 (Host.rsqrt (addf (Host.divf
    (broadcastInDim S24576x16x1 ![0, 1] bcast_S24576x16_S24576x16x1_0_1 (Host.reduceAdd (mulf h h) (constant S_ .f32 0x00000000#32) reducesTo_S24576x16x256_S24576x16_d2 h_S_))
    (broadcastInDim S24576x16x1 ![] bcast_S_S24576x16x1 (constant S_ .f32 0x43800000#32)))
    (broadcastInDim S24576x16x1 ![] bcast_S_S24576x16x1 (constant S_ .f32 0x358637BD#32))))))
    (broadcastInDim S24576x16x256 ![0, 1, 2] bcast_S1x1x256_S24576x16x256_0_1_2 (broadcastInDim S1x1x256 ![2] bcast_S256_S1x1x256_2 w))

/-- The latent rows, sequence by sequence. -/
def latent16 (n : FVec Ideal S24576x16x256 .f32) : FVec Ideal S8x2048x16x256 .f32 :=
  shapeCast _ (extractStridedSlice S16384x16x256 ![8192, 0, 0] n slices_S24576x16x256_S16384x16x256_8192_0_0) shapeCasts_S16384x16x256_S8x2048x16x256

/-- A table of positions, repeated over sequences and heads. -/
def table16 (c : FVec Ideal S2048x128 .f32) : FVec Ideal S8x2048x16x128 .f32 :=
  broadcastInDim S8x2048x16x128 ![0, 1, 2, 3] bcast_S1x2048x1x128_S8x2048x16x128_0_1_2_3 (broadcastInDim S1x2048x1x128 ![1, 3] bcast_S2048x128_S1x2048x1x128_1_3 c)

/-- The rotated rows: the first halves and the second halves, put side by side. -/
def turned16 (l : FVec Ideal S8x2048x16x256 .f32) (c s : FVec Ideal S2048x128 .f32) : FVec Ideal S8x2048x16x256 .f32 :=
  concatenate S8x2048x16x256 3 [⟨S8x2048x16x128, (subf (mulf (extractStridedSlice S8x2048x16x128 ![0, 0, 0, 0] l slices_S8x2048x16x256_S8x2048x16x128_0_0_0_0) (table16 c)) (mulf (extractStridedSlice S8x2048x16x128 ![0, 0, 0, 128] l slices_S8x2048x16x256_S8x2048x16x128_0_0_0_128) (table16 s)))⟩,
    ⟨S8x2048x16x128, (addf (mulf (extractStridedSlice S8x2048x16x128 ![0, 0, 0, 128] l slices_S8x2048x16x256_S8x2048x16x128_0_0_0_128) (table16 c)) (mulf (extractStridedSlice S8x2048x16x128 ![0, 0, 0, 0] l slices_S8x2048x16x256_S8x2048x16x128_0_0_0_0) (table16 s)))⟩] concatenates_S8x2048x16x128_S8x2048x16x128_S8x2048x16x256_d3

/-- The context rows as they are, followed by the rotated latent rows. -/
def placed16 (n : FVec Ideal S24576x16x256 .f32) (t : FVec Ideal S8x2048x16x256 .f32) : FVec Ideal S24576x16x256 .f32 :=
  concatenate S24576x16x256 0 [⟨S8192x16x256, (extractStridedSlice S8192x16x256 ![0, 0, 0] n slices_S24576x16x256_S8192x16x256_0_0_0)⟩,
    ⟨S16384x16x256, (shapeCast _ t shapeCasts_S8x2048x16x256_S16384x16x256)⟩] concatenates_S8192x16x256_S16384x16x256_S24576x16x256_d0

/-- The heads normed, and rotated where the row is latent. -/
def prepared16 (x : FVec Ideal S24576x5120 .f32) (c s : FVec Ideal S2048x128 .f32) (w : FVec Ideal S256 .f32) : FVec Ideal S24576x16x256 .f32 :=
  placed16 (normed16 (heads16 x) w) (turned16 (latent16 (normed16 (heads16 x) w)) c s)

/-- An entry of a head. -/
theorem heads16_at (x : FVec Ideal S24576x5120 .f32) (r : Fin 24576) (h : Fin 16) (j : Fin 256) :
    heads16 x (ix3 r h j) = x (ix2 r ⟨0 + (h.val * 256 + j.val), by omega⟩) := by
  pointwise [heads16]

/-- An entry of a normed head. -/
theorem normed16_at (g : FVec Ideal S24576x16x256 .f32) (w : FVec Ideal S256 .f32) (r : Fin 24576) (h : Fin 16) (j : Fin 256) :
    normed16 g w (ix3 r h j) = normed (fun k => g (ix3 r h k)) (fun k => w (ix1 k)) j := by
  unfold normed
  pointwise [normed16]

/-- An entry of a latent row. -/
theorem latent16_at (n : FVec Ideal S24576x16x256 .f32) (b : Fin 8) (t : Fin 2048) (h : Fin 16) (j : Fin 256) :
    latent16 n (ix4 b t h j) = n (ix3 ⟨8192 + (b.val * 2048 + t.val), by omega⟩ h j) := by
  pointwise [latent16]

/-- An entry of a repeated table. -/
theorem table16_at (c : FVec Ideal S2048x128 .f32) (b : Fin 8) (t : Fin 2048) (h : Fin 16) (d : Fin 128) :
    table16 c (ix4 b t h d) = c (ix2 t d) := by
  pointwise [table16]

/-- An entry in the first half of a rotated row. -/
theorem turned16_first (l : FVec Ideal S8x2048x16x256 .f32) (c s : FVec Ideal S2048x128 .f32) (b : Fin 8) (t : Fin 2048) (h : Fin 16) (d : Fin 128) :
    turned16 l c s (ix4 b t h ⟨d.val, by omega⟩)
      = l (ix4 b t h ⟨d.val, by omega⟩) * table16 c (ix4 b t h d) - l (ix4 b t h ⟨128 + d.val, by omega⟩) * table16 s (ix4 b t h d) := by
  pointwise [turned16]

/-- An entry in the second half of a rotated row. -/
theorem turned16_second (l : FVec Ideal S8x2048x16x256 .f32) (c s : FVec Ideal S2048x128 .f32) (b : Fin 8) (t : Fin 2048) (h : Fin 16) (d : Fin 128) :
    turned16 l c s (ix4 b t h ⟨128 + d.val, by omega⟩)
      = l (ix4 b t h ⟨128 + d.val, by omega⟩) * table16 c (ix4 b t h d) + l (ix4 b t h ⟨d.val, by omega⟩) * table16 s (ix4 b t h d) := by
  pointwise [turned16]

/-- An entry of a rotated row. -/
theorem turned16_at (l : FVec Ideal S8x2048x16x256 .f32) (c s : FVec Ideal S2048x128 .f32) (b : Fin 8) (t : Fin 2048) (h : Fin 16) (j : Fin 256) :
    turned16 l c s (ix4 b t h j) = turned (fun k => l (ix4 b t h k)) (fun e => c (ix2 t e)) (fun e => s (ix2 t e)) j := by
  unfold turned
  split
  · next hj =>
    refine (turned16_first l c s b t h ⟨j.val, hj⟩).trans ?_
    rw [table16_at, table16_at]
  · next hj =>
    have e : (⟨128 + (j.val - 128), by omega⟩ : Fin 256) = j := Fin.ext (by show 128 + (j.val - 128) = j.val; omega)
    refine Eq.trans (congrArg _ (congrArg _ e.symm)) ((turned16_second l c s b t h ⟨j.val - 128, by omega⟩).trans ?_)
    rw [table16_at, table16_at, e]

/-- An entry of a context row. -/
theorem placed16_context (n : FVec Ideal S24576x16x256 .f32) (t : FVec Ideal S8x2048x16x256 .f32) (r : Fin 8192) (h : Fin 16) (j : Fin 256) :
    placed16 n t (ix3 ⟨r.val, by omega⟩ h j) = n (ix3 ⟨r.val, by omega⟩ h j) := by
  pointwise [placed16]

/-- An entry of a latent row's place. -/
theorem placed16_latent (n : FVec Ideal S24576x16x256 .f32) (t : FVec Ideal S8x2048x16x256 .f32) (r : Fin 16384) (h : Fin 16) (j : Fin 256) :
    placed16 n t (ix3 ⟨8192 + r.val, by omega⟩ h j) = t (ix4 ⟨r.val / 2048, by omega⟩ ⟨r.val % 2048, by omega⟩ h j) := by
  pointwise [placed16]

/-- A prepared entry of a context row. -/
theorem prepared16_context (x : FVec Ideal S24576x5120 .f32) (c s : FVec Ideal S2048x128 .f32) (w : FVec Ideal S256 .f32) (r : Fin 24576)
    (hr : r.val < 8192) (h : Fin 16) (j : Fin 256) :
    prepared16 x c s w (ix3 r h j)
      = normed (fun k => x (ix2 r ⟨0 + (h.val * 256 + k.val), by omega⟩)) (fun k => w (ix1 k)) j := by
  refine (placed16_context _ _ ⟨r.val, hr⟩ h j).trans ((normed16_at _ w r h j).trans ?_)
  simp only [heads16_at]

/-- A prepared entry of a latent row: row `t` of a sequence is turned by row `t` of the tables. -/
theorem prepared16_latent (x : FVec Ideal S24576x5120 .f32) (c s : FVec Ideal S2048x128 .f32) (w : FVec Ideal S256 .f32) (r : Fin 24576)
    (hr : 8192 ≤ r.val) (h : Fin 16) (j : Fin 256) :
    prepared16 x c s w (ix3 r h j)
      = turned (normed (fun k => x (ix2 r ⟨0 + (h.val * 256 + k.val), by omega⟩)) (fun k => w (ix1 k)))
          (fun e => c (ix2 ⟨(r.val - 8192) % 2048, by omega⟩ e)) (fun e => s (ix2 ⟨(r.val - 8192) % 2048, by omega⟩ e)) j := by
  have e : r = ⟨8192 + (⟨r.val - 8192, by omega⟩ : Fin 16384).val, by have := r.isLt; simp only []; omega⟩ := Fin.ext (by show r.val = 8192 + (r.val - 8192); omega)
  have e' : (⟨8192 + ((r.val - 8192) / 2048 * 2048 + (r.val - 8192) % 2048), by omega⟩ : Fin 24576) = r := Fin.ext (by show 8192 + ((r.val - 8192) / 2048 * 2048 + (r.val - 8192) % 2048) = r.val; omega)
  refine Eq.trans (congrArg _ (congrArg (fun q => ix3 q h j) e)) ((placed16_latent _ _ ⟨r.val - 8192, by omega⟩ h j).trans ?_)
  rw [turned16_at]
  simp only [latent16_at, normed16_at, heads16_at, e']

/-- The columns of the 2 heads, head by head. -/
def heads2 (x : FVec Ideal S24576x5120 .f32) : FVec Ideal S24576x2x256 .f32 :=
  shapeCast _ (extractStridedSlice S24576x512 ![0, 4096] x slices_S24576x5120_S24576x512_0_4096) shapeCasts_S24576x512_S24576x2x256

/-- Every head's row over the root of its mean square, times the gains. -/
def normed2 (h : FVec Ideal S24576x2x256 .f32) (w : FVec Ideal S256 .f32) : FVec Ideal S24576x2x256 .f32 :=
  mulf (mulf h (broadcastInDim S24576x2x256 ![0, 1, 2] bcast_S24576x2x1_S24576x2x256_0_1_2 (Host.rsqrt (addf (Host.divf
    (broadcastInDim S24576x2x1 ![0, 1] bcast_S24576x2_S24576x2x1_0_1 (Host.reduceAdd (mulf h h) (constant S_ .f32 0x00000000#32) reducesTo_S24576x2x256_S24576x2_d2 h_S_))
    (broadcastInDim S24576x2x1 ![] bcast_S_S24576x2x1 (constant S_ .f32 0x43800000#32)))
    (broadcastInDim S24576x2x1 ![] bcast_S_S24576x2x1 (constant S_ .f32 0x358637BD#32))))))
    (broadcastInDim S24576x2x256 ![0, 1, 2] bcast_S1x1x256_S24576x2x256_0_1_2 (broadcastInDim S1x1x256 ![2] bcast_S256_S1x1x256_2 w))

/-- The latent rows, sequence by sequence. -/
def latent2 (n : FVec Ideal S24576x2x256 .f32) : FVec Ideal S8x2048x2x256 .f32 :=
  shapeCast _ (extractStridedSlice S16384x2x256 ![8192, 0, 0] n slices_S24576x2x256_S16384x2x256_8192_0_0) shapeCasts_S16384x2x256_S8x2048x2x256

/-- A table of positions, repeated over sequences and heads. -/
def table2 (c : FVec Ideal S2048x128 .f32) : FVec Ideal S8x2048x2x128 .f32 :=
  broadcastInDim S8x2048x2x128 ![0, 1, 2, 3] bcast_S1x2048x1x128_S8x2048x2x128_0_1_2_3 (broadcastInDim S1x2048x1x128 ![1, 3] bcast_S2048x128_S1x2048x1x128_1_3 c)

/-- The rotated rows: the first halves and the second halves, put side by side. -/
def turned2 (l : FVec Ideal S8x2048x2x256 .f32) (c s : FVec Ideal S2048x128 .f32) : FVec Ideal S8x2048x2x256 .f32 :=
  concatenate S8x2048x2x256 3 [⟨S8x2048x2x128, (subf (mulf (extractStridedSlice S8x2048x2x128 ![0, 0, 0, 0] l slices_S8x2048x2x256_S8x2048x2x128_0_0_0_0) (table2 c)) (mulf (extractStridedSlice S8x2048x2x128 ![0, 0, 0, 128] l slices_S8x2048x2x256_S8x2048x2x128_0_0_0_128) (table2 s)))⟩,
    ⟨S8x2048x2x128, (addf (mulf (extractStridedSlice S8x2048x2x128 ![0, 0, 0, 128] l slices_S8x2048x2x256_S8x2048x2x128_0_0_0_128) (table2 c)) (mulf (extractStridedSlice S8x2048x2x128 ![0, 0, 0, 0] l slices_S8x2048x2x256_S8x2048x2x128_0_0_0_0) (table2 s)))⟩] concatenates_S8x2048x2x128_S8x2048x2x128_S8x2048x2x256_d3

/-- The context rows as they are, followed by the rotated latent rows. -/
def placed2 (n : FVec Ideal S24576x2x256 .f32) (t : FVec Ideal S8x2048x2x256 .f32) : FVec Ideal S24576x2x256 .f32 :=
  concatenate S24576x2x256 0 [⟨S8192x2x256, (extractStridedSlice S8192x2x256 ![0, 0, 0] n slices_S24576x2x256_S8192x2x256_0_0_0)⟩,
    ⟨S16384x2x256, (shapeCast _ t shapeCasts_S8x2048x2x256_S16384x2x256)⟩] concatenates_S8192x2x256_S16384x2x256_S24576x2x256_d0

/-- The heads normed, and rotated where the row is latent. -/
def prepared2 (x : FVec Ideal S24576x5120 .f32) (c s : FVec Ideal S2048x128 .f32) (w : FVec Ideal S256 .f32) : FVec Ideal S24576x2x256 .f32 :=
  placed2 (normed2 (heads2 x) w) (turned2 (latent2 (normed2 (heads2 x) w)) c s)

/-- An entry of a head. -/
theorem heads2_at (x : FVec Ideal S24576x5120 .f32) (r : Fin 24576) (h : Fin 2) (j : Fin 256) :
    heads2 x (ix3 r h j) = x (ix2 r ⟨4096 + (h.val * 256 + j.val), by omega⟩) := by
  pointwise [heads2]

/-- An entry of a normed head. -/
theorem normed2_at (g : FVec Ideal S24576x2x256 .f32) (w : FVec Ideal S256 .f32) (r : Fin 24576) (h : Fin 2) (j : Fin 256) :
    normed2 g w (ix3 r h j) = normed (fun k => g (ix3 r h k)) (fun k => w (ix1 k)) j := by
  unfold normed
  pointwise [normed2]

/-- An entry of a latent row. -/
theorem latent2_at (n : FVec Ideal S24576x2x256 .f32) (b : Fin 8) (t : Fin 2048) (h : Fin 2) (j : Fin 256) :
    latent2 n (ix4 b t h j) = n (ix3 ⟨8192 + (b.val * 2048 + t.val), by omega⟩ h j) := by
  pointwise [latent2]

/-- An entry of a repeated table. -/
theorem table2_at (c : FVec Ideal S2048x128 .f32) (b : Fin 8) (t : Fin 2048) (h : Fin 2) (d : Fin 128) :
    table2 c (ix4 b t h d) = c (ix2 t d) := by
  pointwise [table2]

/-- An entry in the first half of a rotated row. -/
theorem turned2_first (l : FVec Ideal S8x2048x2x256 .f32) (c s : FVec Ideal S2048x128 .f32) (b : Fin 8) (t : Fin 2048) (h : Fin 2) (d : Fin 128) :
    turned2 l c s (ix4 b t h ⟨d.val, by omega⟩)
      = l (ix4 b t h ⟨d.val, by omega⟩) * table2 c (ix4 b t h d) - l (ix4 b t h ⟨128 + d.val, by omega⟩) * table2 s (ix4 b t h d) := by
  pointwise [turned2]

/-- An entry in the second half of a rotated row. -/
theorem turned2_second (l : FVec Ideal S8x2048x2x256 .f32) (c s : FVec Ideal S2048x128 .f32) (b : Fin 8) (t : Fin 2048) (h : Fin 2) (d : Fin 128) :
    turned2 l c s (ix4 b t h ⟨128 + d.val, by omega⟩)
      = l (ix4 b t h ⟨128 + d.val, by omega⟩) * table2 c (ix4 b t h d) + l (ix4 b t h ⟨d.val, by omega⟩) * table2 s (ix4 b t h d) := by
  pointwise [turned2]

/-- An entry of a rotated row. -/
theorem turned2_at (l : FVec Ideal S8x2048x2x256 .f32) (c s : FVec Ideal S2048x128 .f32) (b : Fin 8) (t : Fin 2048) (h : Fin 2) (j : Fin 256) :
    turned2 l c s (ix4 b t h j) = turned (fun k => l (ix4 b t h k)) (fun e => c (ix2 t e)) (fun e => s (ix2 t e)) j := by
  unfold turned
  split
  · next hj =>
    refine (turned2_first l c s b t h ⟨j.val, hj⟩).trans ?_
    rw [table2_at, table2_at]
  · next hj =>
    have e : (⟨128 + (j.val - 128), by omega⟩ : Fin 256) = j := Fin.ext (by show 128 + (j.val - 128) = j.val; omega)
    refine Eq.trans (congrArg _ (congrArg _ e.symm)) ((turned2_second l c s b t h ⟨j.val - 128, by omega⟩).trans ?_)
    rw [table2_at, table2_at, e]

/-- An entry of a context row. -/
theorem placed2_context (n : FVec Ideal S24576x2x256 .f32) (t : FVec Ideal S8x2048x2x256 .f32) (r : Fin 8192) (h : Fin 2) (j : Fin 256) :
    placed2 n t (ix3 ⟨r.val, by omega⟩ h j) = n (ix3 ⟨r.val, by omega⟩ h j) := by
  pointwise [placed2]

/-- An entry of a latent row's place. -/
theorem placed2_latent (n : FVec Ideal S24576x2x256 .f32) (t : FVec Ideal S8x2048x2x256 .f32) (r : Fin 16384) (h : Fin 2) (j : Fin 256) :
    placed2 n t (ix3 ⟨8192 + r.val, by omega⟩ h j) = t (ix4 ⟨r.val / 2048, by omega⟩ ⟨r.val % 2048, by omega⟩ h j) := by
  pointwise [placed2]

/-- A prepared entry of a context row. -/
theorem prepared2_context (x : FVec Ideal S24576x5120 .f32) (c s : FVec Ideal S2048x128 .f32) (w : FVec Ideal S256 .f32) (r : Fin 24576)
    (hr : r.val < 8192) (h : Fin 2) (j : Fin 256) :
    prepared2 x c s w (ix3 r h j)
      = normed (fun k => x (ix2 r ⟨4096 + (h.val * 256 + k.val), by omega⟩)) (fun k => w (ix1 k)) j := by
  refine (placed2_context _ _ ⟨r.val, hr⟩ h j).trans ((normed2_at _ w r h j).trans ?_)
  simp only [heads2_at]

/-- A prepared entry of a latent row: row `t` of a sequence is turned by row `t` of the tables. -/
theorem prepared2_latent (x : FVec Ideal S24576x5120 .f32) (c s : FVec Ideal S2048x128 .f32) (w : FVec Ideal S256 .f32) (r : Fin 24576)
    (hr : 8192 ≤ r.val) (h : Fin 2) (j : Fin 256) :
    prepared2 x c s w (ix3 r h j)
      = turned (normed (fun k => x (ix2 r ⟨4096 + (h.val * 256 + k.val), by omega⟩)) (fun k => w (ix1 k)))
          (fun e => c (ix2 ⟨(r.val - 8192) % 2048, by omega⟩ e)) (fun e => s (ix2 ⟨(r.val - 8192) % 2048, by omega⟩ e)) j := by
  have e : r = ⟨8192 + (⟨r.val - 8192, by omega⟩ : Fin 16384).val, by have := r.isLt; simp only []; omega⟩ := Fin.ext (by show r.val = 8192 + (r.val - 8192); omega)
  have e' : (⟨8192 + ((r.val - 8192) / 2048 * 2048 + (r.val - 8192) % 2048), by omega⟩ : Fin 24576) = r := Fin.ext (by show 8192 + ((r.val - 8192) / 2048 * 2048 + (r.val - 8192) % 2048) = r.val; omega)
  refine Eq.trans (congrArg _ (congrArg (fun q => ix3 q h j) e)) ((placed2_latent _ _ ⟨r.val - 8192, by omega⟩ h j).trans ?_)
  rw [turned2_at]
  simp only [latent2_at, normed2_at, heads2_at, e']

/-- The queries: prepared, scaled, and laid out as rows. -/
def queries (x : FVec Ideal S24576x5120 .f32) (c s : FVec Ideal S2048x128 .f32) (w : FVec Ideal S256 .f32) : FVec Ideal S24576x4096 .bf16 :=
  truncf .bf16 (shapeCast _ (mulf (prepared16 x c s w) (broadcastInDim S24576x16x256 ![] bcast_S_S24576x16x256 (constant S_ .f32 0x3D800000#32))) shapeCasts_S24576x16x256_S24576x4096) bitsLt_bf16_f32

/-- The keys: prepared and laid out as rows. -/
def keys (x : FVec Ideal S24576x5120 .f32) (c s : FVec Ideal S2048x128 .f32) (w : FVec Ideal S256 .f32) : FVec Ideal S24576x512 .f32 :=
  shapeCast _ (prepared2 x c s w) shapeCasts_S24576x2x256_S24576x512

/-- The keys in the narrow format. -/
def narrowKeys (x : FVec Ideal S24576x5120 .f32) (c s : FVec Ideal S2048x128 .f32) (w : FVec Ideal S256 .f32) : FVec Ideal S24576x512 .bf16 :=
  truncf .bf16 (keys x c s w) bitsLt_bf16_f32

/-- The values: the last columns. -/
def values (x : FVec Ideal S24576x5120 .f32) : FVec Ideal S24576x512 .bf16 :=
  truncf .bf16 (extractStridedSlice S24576x512 ![0, 4608] x slices_S24576x5120_S24576x512_0_4608) bitsLt_bf16_f32

/-- An entry of the queries is its head's, scaled. -/
theorem queries_at (x : FVec Ideal S24576x5120 .f32) (c s : FVec Ideal S2048x128 .f32) (w : FVec Ideal S256 .f32) (r : Fin 24576) (u : Fin 4096) :
    queries x c s w (ix2 r u) = prepared16 x c s w (ix3 r ⟨u.val / 256, by omega⟩ ⟨u.val % 256, by omega⟩) * factor := by
  unfold factor
  pointwise [queries]

/-- An entry of the keys is its head's. -/
theorem keys_at (x : FVec Ideal S24576x5120 .f32) (c s : FVec Ideal S2048x128 .f32) (w : FVec Ideal S256 .f32) (r : Fin 24576) (u : Fin 512) :
    keys x c s w (ix2 r u) = prepared2 x c s w (ix3 r ⟨u.val / 256, by omega⟩ ⟨u.val % 256, by omega⟩) := by
  pointwise [keys]

/-- An entry of the values. -/
theorem values_at (x : FVec Ideal S24576x5120 .f32) (r : Fin 24576) (u : Fin 512) : values x (ix2 r u) = x (ix2 r ⟨4608 + u.val, by omega⟩) := by
  pointwise [values]

variable (m : (ℓ : Loc nD τ sig) → Buf (Elt Ideal) ℓ) (c : Dev nD)

/-- The reference's run leaves the queries of its arguments. -/
theorem res_queries : Value.res_main_v75 m c = queries (m ((c.tc : Thread nD τ).loc main_arg0)) (m ((c.tc : Thread nD τ).loc main_arg1))
    (m ((c.tc : Thread nD τ).loc main_arg2)) (m ((c.tc : Thread nD τ).loc main_arg3)) := rfl

/-- The reference's run leaves the keys of its arguments. -/
theorem res_keys : Value.res_main_v73 m c = keys (m ((c.tc : Thread nD τ).loc main_arg0)) (m ((c.tc : Thread nD τ).loc main_arg1))
    (m ((c.tc : Thread nD τ).loc main_arg2)) (m ((c.tc : Thread nD τ).loc main_arg4)) := rfl

/-- The reference's run leaves the keys in the narrow format. -/
theorem res_narrow : Value.res_main_v76 m c = narrowKeys (m ((c.tc : Thread nD τ).loc main_arg0)) (m ((c.tc : Thread nD τ).loc main_arg1))
    (m ((c.tc : Thread nD τ).loc main_arg2)) (m ((c.tc : Thread nD τ).loc main_arg4)) := rfl

end Cert.Prepare

end
-- ==== Proof.PrepareValue.lean ====
/- The preparation: the kernel's four output arrays after the whole grid are the reference's. -/
module

public import proofs.«01_k».proof.Proof.PrepareBlock
public import proofs.«01_k».proof.Proof.PrepareRef

@[expose] public section

set_option maxRecDepth 16384

noncomputable section

namespace Cert.Prepare

open Idealize.ShloMosaic Idealize.ShloMosaic.TcCoe Idealize.SL.Sem

open Cert.PrepareIdeal Cert.PrepareIdeal.Gen

/-- The blocks of a grid point: row block `t`, and from point 32 on the tables' blocks in turn. -/
theorem idx : ∀ t : Fin cfg0.N, win0_0.index t = ![t.val, 0] ∧ win0_1.index t = ![if t.val < 32 then 0 else (t.val - 32) % 8, 0]
    ∧ win0_2.index t = ![if t.val < 32 then 0 else (t.val - 32) % 8, 0] ∧ win0_3.index t = ![0, 0] ∧ win0_4.index t = ![0, 0]
    ∧ win0_5.index t = ![t.val, 0] ∧ win0_6.index t = ![t.val, 0] ∧ win0_7.index t = ![t.val, 0] ∧ win0_8.index t = ![t.val, 0] :=
  (by decide +kernel : ∀ t : Fin grid0.N, _)

/-- The body's test tells the context's points from the latent ones. -/
theorem test : ∀ t : Fin cfg0.N, Scalar.cmpi .sge (Scalar.muli (BitVec.ofNat 32 (grid0.coords t 0).val) 256#32) 8192#32
    = if t.val < 32 then 0#1 else 1#1 :=
  (by decide +kernel : ∀ t : Fin grid0.N, _)

/-- In the context the cosines are one. -/
theorem cos_context (t : Fin cfg0.N) (h : t.val < 32) (v : Vec Ideal S256x128 .f32) (j : S256x128.Idx) :
    k0_pay2 (F := Ideal) (grid0.coords t) v j = 1 := by
  have e : k0_pay2 (F := Ideal) (grid0.coords t) v = Scalar.select (Scalar.cmpi .sge (Scalar.muli (BitVec.ofNat 32 (grid0.coords t 0).val) 256#32) 8192#32) v
      (broadcast S256x128 (Scalar.ofBits (F := Ideal) .f32 0x3F800000#32)) := rfl
  rw [e, test t, if_pos h]
  exact Ideal.ofBits_one_f32

/-- In the context the sines are zero. -/
theorem sin_context (t : Fin cfg0.N) (h : t.val < 32) (v : Vec Ideal S256x128 .f32) (j : S256x128.Idx) :
    k0_pay3 (F := Ideal) (grid0.coords t) v j = 0 := by
  have e : k0_pay3 (F := Ideal) (grid0.coords t) v = Scalar.select (Scalar.cmpi .sge (Scalar.muli (BitVec.ofNat 32 (grid0.coords t 0).val) 256#32) 8192#32) v
      (broadcast S256x128 (Scalar.ofBits (F := Ideal) .f32 0x00000000#32)) := rfl
  rw [e, test t, if_pos h]
  exact Ideal.ofBits_zero_f32

/-- In the latent rows the cosines are the block's. -/
theorem cos_latent (t : Fin cfg0.N) (h : ¬ t.val < 32) (v : Vec Ideal S256x128 .f32) : k0_pay2 (F := Ideal) (grid0.coords t) v = v := by
  have e : k0_pay2 (F := Ideal) (grid0.coords t) v = Scalar.select (Scalar.cmpi .sge (Scalar.muli (BitVec.ofNat 32 (grid0.coords t 0).val) 256#32) 8192#32) v
      (broadcast S256x128 (Scalar.ofBits (F := Ideal) .f32 0x3F800000#32)) := rfl
  rw [e, test t, if_neg h]
  rfl

/-- In the latent rows the sines are the block's. -/
theorem sin_latent (t : Fin cfg0.N) (h : ¬ t.val < 32) (v : Vec Ideal S256x128 .f32) : k0_pay3 (F := Ideal) (grid0.coords t) v = v := by
  have e : k0_pay3 (F := Ideal) (grid0.coords t) v = Scalar.select (Scalar.cmpi .sge (Scalar.muli (BitVec.ofNat 32 (grid0.coords t 0).val) 256#32) 8192#32) v
      (broadcast S256x128 (Scalar.ofBits (F := Ideal) .f32 0x00000000#32)) := rfl
  rw [e, test t, if_neg h]
  rfl

variable (m : (ℓ : Loc nD τ sig) → Buf (Elt Ideal) ℓ) (c : Dev nD)

/-- The rows of a grid point's block. -/
theorem rows (t : Fin cfg0.N) (a : Fin 256) (k : Fin 5120) (r : Fin 24576) (hr : r.val = t.val * 256 + a.val) :
    (iblk m c 0 t : Vec Ideal S256x5120 .f32) (ix2 a k) = m ((c.tc : Thread nD τ).loc main_arg0) (ix2 r k) := by
  obtain ⟨i0, -⟩ := idx t
  refine congrArg (m ((c.tc : Thread nD τ).loc main_arg0)) (funext fun e => Fin.ext ?_)
  match e with
  | ⟨0, _⟩ => show win0_0.index t 0 * 256 + 1 * a.val = r.val; rw [i0, hr]; simp
  | ⟨1, _⟩ => show win0_0.index t 1 * 5120 + 1 * k.val = k.val; rw [i0]; simp

/-- The cosines of a latent grid point's block. -/
theorem cos_rows (t : Fin cfg0.N) (h : ¬ t.val < 32) (a : Fin 256) (e : Fin 128) (p : Fin 2048) (hp : p.val = (t.val - 32) % 8 * 256 + a.val) :
    (iblk m c 1 t : Vec Ideal S256x128 .f32) (ix2 a e) = m ((c.tc : Thread nD τ).loc main_arg1) (ix2 p e) := by
  obtain ⟨-, i1, -⟩ := idx t
  rw [if_neg h] at i1
  refine congrArg (m ((c.tc : Thread nD τ).loc main_arg1)) (funext fun b => Fin.ext ?_)
  match b with
  | ⟨0, _⟩ => show win0_1.index t 0 * 256 + 1 * a.val = p.val; rw [i1, hp]; simp
  | ⟨1, _⟩ => show win0_1.index t 1 * 128 + 1 * e.val = e.val; rw [i1]; simp

/-- The sines of a latent grid point's block. -/
theorem sin_rows (t : Fin cfg0.N) (h : ¬ t.val < 32) (a : Fin 256) (e : Fin 128) (p : Fin 2048) (hp : p.val = (t.val - 32) % 8 * 256 + a.val) :
    (iblk m c 2 t : Vec Ideal S256x128 .f32) (ix2 a e) = m ((c.tc : Thread nD τ).loc main_arg2) (ix2 p e) := by
  obtain ⟨-, -, i2, -⟩ := idx t
  rw [if_neg h] at i2
  refine congrArg (m ((c.tc : Thread nD τ).loc main_arg2)) (funext fun b => Fin.ext ?_)
  match b with
  | ⟨0, _⟩ => show win0_2.index t 0 * 256 + 1 * a.val = p.val; rw [i2, hp]; simp
  | ⟨1, _⟩ => show win0_2.index t 1 * 128 + 1 * e.val = e.val; rw [i2]; simp

/-- The queries' gains, read from the argument. -/
theorem query_gains (t : Fin cfg0.N) (k : Fin 256) :
    (iblk m c 3 t : Vec Ideal S1x256 .f32) (ix2 (0 : Fin 1) k) = m ((c.tc : Thread nD τ).loc main_arg3) (ix1 k) := by
  obtain ⟨-, -, -, i3, -⟩ := idx t
  have e : V m c main_v0 = shapeCast S1x256 (m ((c.tc : Thread nD τ).loc main_arg3)) shapeCasts_S256_S1x256 := by
    unfold V
    after_results
    rfl
  refine Eq.trans (congrArg (V m c main_v0) (funext fun a => Fin.ext ?_)) (?_ : V m c main_v0 (ix2 (0 : Fin 1) k) = _)
  · match a with
    | ⟨0, _⟩ => show win0_3.index t 0 * 1 + 1 * 0 = 0; rw [i3]; simp
    | ⟨1, _⟩ => show win0_3.index t 1 * 256 + 1 * k.val = k.val; rw [i3]; simp
  · rw [e]
    pointwise

/-- The keys' gains, read from the argument. -/
theorem key_gains (t : Fin cfg0.N) (k : Fin 256) :
    (iblk m c 4 t : Vec Ideal S1x256 .f32) (ix2 (0 : Fin 1) k) = m ((c.tc : Thread nD τ).loc main_arg4) (ix1 k) := by
  obtain ⟨-, -, -, -, i4, -⟩ := idx t
  have e : V m c main_v1 = shapeCast S1x256 (m ((c.tc : Thread nD τ).loc main_arg4)) shapeCasts_S256_S1x256 := by
    unfold V
    after_results
    rfl
  refine Eq.trans (congrArg (V m c main_v1) (funext fun a => Fin.ext ?_)) (?_ : V m c main_v1 (ix2 (0 : Fin 1) k) = _)
  · match a with
    | ⟨0, _⟩ => show win0_4.index t 0 * 1 + 1 * 0 = 0; rw [i4]; simp
    | ⟨1, _⟩ => show win0_4.index t 1 * 256 + 1 * k.val = k.val; rw [i4]; simp
  · rw [e]
    pointwise

/-- A head's entry of a grid point is `z`, when `z` is the normed entry in a context row and the turned one in a latent row. -/
theorem entry_eq (t : Fin cfg0.N) (a : Fin 256) (r : Fin 24576) (hr : r.val = t.val * 256 + a.val) (p : ℕ) (hp : p + 256 ≤ 5120)
    (g : Vec Ideal S1x256 .f32) (w : FVec Ideal S256 .f32) (hg : ∀ k : Fin 256, g (ix2 (0 : Fin 1) k) = w (ix1 k))
    (o : ℕ) (e : o = p) (ho : o + 256 ≤ 5120) (j j' : Fin 256) (ej : j = j') (z : EReal)
    (low : r.val < 8192 → z = normed (fun k => m ((c.tc : Thread nD τ).loc main_arg0) (ix2 r ⟨p + k.val, by omega⟩)) (fun k => w (ix1 k)) j')
    (high : 8192 ≤ r.val → z = turned (normed (fun k => m ((c.tc : Thread nD τ).loc main_arg0) (ix2 r ⟨p + k.val, by omega⟩)) (fun k => w (ix1 k)))
      (fun e => m ((c.tc : Thread nD τ).loc main_arg1) (ix2 ⟨(r.val - 8192) % 2048, by omega⟩ e))
      (fun e => m ((c.tc : Thread nD τ).loc main_arg2) (ix2 ⟨(r.val - 8192) % 2048, by omega⟩ e)) j') :
    entry (iblk m c 0 t) g (k0_pay2 (grid0.coords t) (iblk m c 1 t)) (k0_pay3 (grid0.coords t) (iblk m c 2 t)) o ho a j = z := by
  subst e ej
  have al : a.val < 256 := a.isLt
  unfold entry
  by_cases h : t.val < 32
  · rw [low (by omega), turned_one _ _ _ (fun e => cos_context t h _ _) (fun e => sin_context t h _ _)]
    simp only [hg, rows m c t a _ r hr]
  · rw [high (by omega), cos_latent t h, sin_latent t h]
    have q : (r.val - 8192) % 2048 = (t.val - 32) % 8 * 256 + a.val := by omega
    simp only [hg, rows m c t a _ r hr, cos_rows m c t h a _ ⟨(r.val - 8192) % 2048, by omega⟩ q, sin_rows m c t h a _ ⟨(r.val - 8192) % 2048, by omega⟩ q]

/-- What a grid point leaves in the queries' block is the reference's. -/
theorem query_point (t : Fin cfg0.N) (y : S256x4096.Idx) (r : Fin 24576) (u : Fin 4096) (hr : r.val = t.val * 256 + (y 0 : ℕ)) (hu : u.val = (y 1 : ℕ)) :
    out0_5 (F := Ideal) (grid0.coords t) (iblk m c 0 t) (iblk m c 1 t) (iblk m c 2 t) (iblk m c 3 t) (iblk m c 4 t) y
      = queries (m ((c.tc : Thread nD τ).loc main_arg0)) (m ((c.tc : Thread nD τ).loc main_arg1)) (m ((c.tc : Thread nD τ).loc main_arg2)) (m ((c.tc : Thread nD τ).loc main_arg3)) (ix2 r u) := by
  have y1 : (y 1 : ℕ) < 4096 := (y 1).isLt
  have ul : u.val < 4096 := u.isLt
  refine Eq.trans (queries_block _ _ _ _ _ _ y y1) (Eq.trans ?_ (queries_at (m ((c.tc : Thread nD τ).loc main_arg0)) (m ((c.tc : Thread nD τ).loc main_arg1)) (m ((c.tc : Thread nD τ).loc main_arg2)) (m ((c.tc : Thread nD τ).loc main_arg3)) r u).symm)
  refine congrArg (· * factor) ?_
  refine entry_eq m c t (y 0) r hr (0 + u.val / 256 * 256) (by omega) _ (m ((c.tc : Thread nD τ).loc main_arg3)) (query_gains m c t) _ (by rw [hu]; omega) _ _ ⟨u.val % 256, by omega⟩ (Fin.ext (by show (y 1 : ℕ) % 256 = u.val % 256; rw [hu])) _ ?_ ?_
  · intro h
    rw [prepared16_context _ _ _ _ r h]
    simp only [Nat.add_assoc]
  · intro h
    rw [prepared16_latent _ _ _ _ r h]
    simp only [Nat.add_assoc]

/-- What a grid point leaves in the keys' block is the reference's. -/
theorem key_point (t : Fin cfg0.N) (y : S256x512.Idx) (r : Fin 24576) (u : Fin 512) (hr : r.val = t.val * 256 + (y 0 : ℕ)) (hu : u.val = (y 1 : ℕ)) :
    out0_8 (F := Ideal) (grid0.coords t) (iblk m c 0 t) (iblk m c 1 t) (iblk m c 2 t) (iblk m c 3 t) (iblk m c 4 t) y
      = keys (m ((c.tc : Thread nD τ).loc main_arg0)) (m ((c.tc : Thread nD τ).loc main_arg1)) (m ((c.tc : Thread nD τ).loc main_arg2)) (m ((c.tc : Thread nD τ).loc main_arg4)) (ix2 r u) := by
  have y1 : (y 1 : ℕ) < 512 := (y 1).isLt
  have ul : u.val < 512 := u.isLt
  refine Eq.trans (keys_block _ _ _ _ _ _ y y1) (Eq.trans ?_ (keys_at (m ((c.tc : Thread nD τ).loc main_arg0)) (m ((c.tc : Thread nD τ).loc main_arg1)) (m ((c.tc : Thread nD τ).loc main_arg2)) (m ((c.tc : Thread nD τ).loc main_arg4)) r u).symm)
  refine entry_eq m c t (y 0) r hr (4096 + u.val / 256 * 256) (by omega) _ (m ((c.tc : Thread nD τ).loc main_arg4)) (key_gains m c t) _ (by rw [hu]) _ _ ⟨u.val % 256, by omega⟩ (Fin.ext (by show (y 1 : ℕ) % 256 = u.val % 256; rw [hu])) _ ?_ ?_
  · intro h
    rw [prepared2_context _ _ _ _ r h]
    simp only [Nat.add_assoc]
  · intro h
    rw [prepared2_latent _ _ _ _ r h]
    simp only [Nat.add_assoc]

/-- What a grid point leaves in the narrow keys' block is the reference's. -/
theorem narrow_point (t : Fin cfg0.N) (y : S256x512.Idx) (r : Fin 24576) (u : Fin 512) (hr : r.val = t.val * 256 + (y 0 : ℕ)) (hu : u.val = (y 1 : ℕ)) :
    out0_6 (F := Ideal) (grid0.coords t) (iblk m c 0 t) (iblk m c 1 t) (iblk m c 2 t) (iblk m c 3 t) (iblk m c 4 t) y
      = narrowKeys (m ((c.tc : Thread nD τ).loc main_arg0)) (m ((c.tc : Thread nD τ).loc main_arg1)) (m ((c.tc : Thread nD τ).loc main_arg2)) (m ((c.tc : Thread nD τ).loc main_arg4)) (ix2 r u) := by
  have y1 : (y 1 : ℕ) < 512 := (y 1).isLt
  have ul : u.val < 512 := u.isLt
  refine Eq.trans (narrow_keys_block _ _ _ _ _ _ y y1) (Eq.trans ?_ (keys_at (m ((c.tc : Thread nD τ).loc main_arg0)) (m ((c.tc : Thread nD τ).loc main_arg1)) (m ((c.tc : Thread nD τ).loc main_arg2)) (m ((c.tc : Thread nD τ).loc main_arg4)) r u).symm)
  refine entry_eq m c t (y 0) r hr (4096 + u.val / 256 * 256) (by omega) _ (m ((c.tc : Thread nD τ).loc main_arg4)) (key_gains m c t) _ (by rw [hu]) _ _ ⟨u.val % 256, by omega⟩ (Fin.ext (by show (y 1 : ℕ) % 256 = u.val % 256; rw [hu])) _ ?_ ?_
  · intro h
    rw [prepared2_context _ _ _ _ r h]
    simp only [Nat.add_assoc]
  · intro h
    rw [prepared2_latent _ _ _ _ r h]
    simp only [Nat.add_assoc]

/-- What a grid point leaves in the values' block is the reference's. -/
theorem value_point (t : Fin cfg0.N) (y : S256x512.Idx) (r : Fin 24576) (u : Fin 512) (hr : r.val = t.val * 256 + (y 0 : ℕ)) (hu : u.val = (y 1 : ℕ)) :
    out0_7 (F := Ideal) (grid0.coords t) (iblk m c 0 t) (iblk m c 1 t) (iblk m c 2 t) (iblk m c 3 t) (iblk m c 4 t) y
      = values (m ((c.tc : Thread nD τ).loc main_arg0)) (ix2 r u) := by
  have y1 : (y 1 : ℕ) < 512 := (y 1).isLt
  have eu : u = (⟨(y 1 : ℕ), y1⟩ : Fin 512) := Fin.ext hu
  rw [eu]
  exact (values_block _ _ _ _ _ _ y y1).trans ((rows m c t (y 0) _ r hr).trans (values_at _ r _).symm)

/-- The queries after the whole grid. -/
theorem final_queries : (dats m 0 c).arrAt 5 cfg0.N = queries (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t _ y => ?_
  blk_simp
  rw [after0_5]
  have tlt : t.val < 96 := t.isLt
  have y0 : (y 0 : ℕ) < 256 := (y 0).isLt
  refine (query_point m c t y ⟨t.val * 256 + (y 0 : ℕ), by omega⟩ (y 1) rfl rfl).trans ?_
  refine congrArg _ ?_
  blk_ext [idx t]

/-- The keys in the narrow format after the whole grid. -/
theorem final_narrow : (dats m 0 c).arrAt 6 cfg0.N = narrowKeys (m ((c.tc : Thread nD τ).loc main_arg0)) (m ((c.tc : Thread nD τ).loc main_arg1)) (m ((c.tc : Thread nD τ).loc main_arg2)) (m ((c.tc : Thread nD τ).loc main_arg4)) := by
  refine (dats m 0 c).arrAt_eq_of_covers 6 _ (by decide +kernel) fun t _ y => ?_
  blk_simp
  rw [after0_6]
  have tlt : t.val < 96 := t.isLt
  have y0 : (y 0 : ℕ) < 256 := (y 0).isLt
  refine (narrow_point m c t y ⟨t.val * 256 + (y 0 : ℕ), by omega⟩ (y 1) rfl rfl).trans ?_
  refine congrArg _ ?_
  blk_ext [idx t]

/-- The values after the whole grid. -/
theorem final_values : (dats m 0 c).arrAt 7 cfg0.N = values (m ((c.tc : Thread nD τ).loc main_arg0)) := by
  refine (dats m 0 c).arrAt_eq_of_covers 7 _ (by decide +kernel) fun t _ y => ?_
  blk_simp
  rw [after0_7]
  have tlt : t.val < 96 := t.isLt
  have y0 : (y 0 : ℕ) < 256 := (y 0).isLt
  refine (value_point m c t y ⟨t.val * 256 + (y 0 : ℕ), by omega⟩ (y 1) rfl rfl).trans ?_
  refine congrArg _ ?_
  blk_ext [idx t]

/-- The keys after the whole grid. -/
theorem final_keys : (dats m 0 c).arrAt 8 cfg0.N = keys (m ((c.tc : Thread nD τ).loc main_arg0)) (m ((c.tc : Thread nD τ).loc main_arg1)) (m ((c.tc : Thread nD τ).loc main_arg2)) (m ((c.tc : Thread nD τ).loc main_arg4)) := by
  refine (dats m 0 c).arrAt_eq_of_covers 8 _ (by decide +kernel) fun t _ y => ?_
  blk_simp
  rw [after0_8]
  have tlt : t.val < 96 := t.isLt
  have y0 : (y 0 : ℕ) < 256 := (y 0).isLt
  refine (key_point m c t y ⟨t.val * 256 + (y 0 : ℕ), by omega⟩ (y 1) rfl rfl).trans ?_
  refine congrArg _ ?_
  blk_ext [idx t]

end Cert.Prepare

end
-- ==== Proof.lean ====
/- The proof of the certificate's claims: the attention call, the experts' two calls, the projection to queries,
   keys and values, their preparation, the gated delta layers' in-projection, the dense layer's three
   projections, the mixers' out-projections, and the final norm. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Gen.Up
public import proofs.«01_k».proof.Proof.Gen.Up.Skeleton
public import proofs.«01_k».proof.Proof.Gen.Up.Launch
public import proofs.«01_k».proof.Proof.Gen.Up.Flash
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Flash
public import proofs.«01_k».proof.Proof.Gen.UpReferenceIdeal
public import proofs.«01_k».proof.Proof.Gen.UpReferenceIdeal.Run
public import proofs.«01_k».proof.Proof.Gen.Pre_routed_up
public import proofs.«01_k».proof.Proof.Gen.Down
public import proofs.«01_k».proof.Proof.Gen.Down.Skeleton
public import proofs.«01_k».proof.Proof.Gen.Down.Launch
public import proofs.«01_k».proof.Proof.Gen.Down.Flash
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Flash
public import proofs.«01_k».proof.Proof.Gen.DownReferenceIdeal
public import proofs.«01_k».proof.Proof.Gen.DownReferenceIdeal.Run
public import proofs.«01_k».proof.Proof.Gen.Pre_routed_down
public import proofs.«01_k».proof.Proof.Gen.Pre_one_expert
public import proofs.«01_k».proof.Proof.Gen.Pre_one_weight
public import proofs.«01_k».proof.Proof.Gen.Pre_one_weight_low
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectIdeal.Value
public import proofs.«01_k».proof.Proof.Gen.ProjectReferenceIdeal
public import proofs.«01_k».proof.Proof.Gen.ProjectReferenceIdeal.Run
public import proofs.«01_k».proof.Proof.AttentionValue
public import proofs.«01_k».proof.Proof.Finite
public import proofs.«01_k».proof.Proof.ExpertsPinned
public import proofs.«01_k».proof.Proof.ExpertsUpValue
public import proofs.«01_k».proof.Proof.ExpertsDownValue
public import proofs.«01_k».proof.Proof.NormValue
public import proofs.«01_k».proof.Proof.ProjectValue
public import proofs.«01_k».proof.Proof.MixValue
public import proofs.«01_k».proof.Proof.DenseUpPinned
public import proofs.«01_k».proof.Proof.DenseUpValue
public import proofs.«01_k».proof.Proof.OutProjectionPinned
public import proofs.«01_k».proof.Proof.OutProjectionValue
public import proofs.«01_k».proof.Proof.DenseDownPinned
public import proofs.«01_k».proof.Proof.DenseDownValue
public import proofs.«01_k».proof.Proof.PrepareValue
public import proofs.«01_k».proof.Proof.Gen.Prepare
public import proofs.«01_k».proof.Proof.Gen.Prepare.Skeleton
public import proofs.«01_k».proof.Proof.Gen.Prepare.Launch
public import proofs.«01_k».proof.Proof.Gen.Prepare.Points
public import proofs.«01_k».proof.Proof.Gen.Prepare.Frame
public import proofs.«01_k».proof.Proof.Gen.PrepareIdeal
public import proofs.«01_k».proof.Proof.Gen.PrepareIdeal.Skeleton
public import proofs.«01_k».proof.Proof.Gen.PrepareIdeal.Launch
public import proofs.«01_k».proof.Proof.Gen.PrepareIdeal.Points
public import proofs.«01_k».proof.Proof.Gen.PrepareIdeal.Frame
public import proofs.«01_k».proof.Proof.Gen.PrepareIdeal.Value
public import proofs.«01_k».proof.Proof.Gen.PrepareReferenceIdeal
public import proofs.«01_k».proof.Proof.Gen.PrepareReferenceIdeal.Run
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.Dense
public import proofs.«01_k».proof.Proof.Gen.Dense.Skeleton
public import proofs.«01_k».proof.Proof.Gen.Dense.Launch
public import proofs.«01_k».proof.Proof.Gen.Dense.Flash
public import proofs.«01_k».proof.Proof.Gen.DenseIdeal
public import proofs.«01_k».proof.Proof.Gen.DenseIdeal.Skeleton
public import proofs.«01_k».proof.Proof.Gen.DenseIdeal.Launch
public import proofs.«01_k».proof.Proof.Gen.DenseIdeal.Flash
public import proofs.«01_k».proof.Proof.Gen.DenseReferenceIdeal
public import proofs.«01_k».proof.Proof.Gen.DenseReferenceIdeal.Run
public import proofs.«01_k».proof.Proof.Gen.Out
public import proofs.«01_k».proof.Proof.Gen.Out.Skeleton
public import proofs.«01_k».proof.Proof.Gen.Out.Launch
public import proofs.«01_k».proof.Proof.Gen.Out.Flash
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Flash
public import proofs.«01_k».proof.Proof.Gen.OutReferenceIdeal
public import proofs.«01_k».proof.Proof.Gen.OutReferenceIdeal.Run
public import proofs.«01_k».proof.Proof.Gen.Low
public import proofs.«01_k».proof.Proof.Gen.Low.Skeleton
public import proofs.«01_k».proof.Proof.Gen.Low.Launch
public import proofs.«01_k».proof.Proof.Gen.Low.Flash
public import proofs.«01_k».proof.Proof.Gen.LowIdeal
public import proofs.«01_k».proof.Proof.Gen.LowIdeal.Skeleton
public import proofs.«01_k».proof.Proof.Gen.LowIdeal.Launch
public import proofs.«01_k».proof.Proof.Gen.LowIdeal.Flash
public import proofs.«01_k».proof.Proof.Gen.LowReferenceIdeal
public import proofs.«01_k».proof.Proof.Gen.LowReferenceIdeal.Run
public import Idealize.ShloMosaic.Lib.Claim
public import Idealize.ShloMosaic.Adequacy
public import Idealize.ShloMosaic.Init

@[expose] public section

noncomputable section

namespace Cert.Proof

open Idealize.ShloMosaic Idealize.SL.Sem

/-- The attention kernel and its reference leave equal results from arguments whose queries and keys are finite. -/
theorem attention : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Gen.run_main m g
  · run_from Cert.ReferenceIdeal.Value.run m' g'
    obtain ⟨hQ, hK, hCK⟩ := Cert.Attention.real_of_pre _ _ _ _ _ (hpre c)
    obtain ⟨a0, a1, a2, a3, a4⟩ := hagree c
    refine (Cert.Attention.res_eq m' c).trans ?_
    rw [a0, a1, a2, a3, a4]
    exact (Cert.Attention.final m c hQ hK hCK).symm

/-- The attention reference ends with its arguments unchanged and every counter at zero. -/
theorem attention_reference : Cert.quiescent_ReferenceIdeal (hReferenceIdeal := Cert.ReferenceIdeal.Gen.facts) := fun m g _ =>
  (θ_run Cert.ReferenceIdeal.defs _ _).mono
    (fun r h => And.intro (fun c => (h c).2) (Idealize.ShloMosaic.sem_eq_zero_of_no_sems (by decide) r.2))
    (Cert.ReferenceIdeal.Value.run (F := Ideal) m g)

/-- The experts' gate and up projections and their reference leave equal results, at the tables the routing makes. -/
theorem experts_up : Cert.algebraic_UpIdeal_UpReferenceIdeal (hUpIdeal := Cert.UpIdeal.Gen.facts)
    (hUpReferenceIdeal := Cert.UpReferenceIdeal.Gen.facts) (hPre_routed_up := Cert.Pre_routed_up.Gen.facts) := by
  intro m g m' g' hpre hagree
  have hp := Cert.Experts.upIdeal_pinned m hpre
  refine ⟨fun c => (Cert.UpIdeal.Gen.dats 0 m g 0 c).arrAt 3 (Cert.UpIdeal.Gen.cfgA 0).N, ?_, ?_⟩
  · exact (θ_run Cert.UpIdeal.defs _ _).mono (fun r h c => ⟨(h.1 c).1 3, h.2 c⟩)
      (θ_run_and (Cert.UpIdeal.Gen.run_main 0 m g hp) (Cert.UpIdeal.Gen.unchanged 0 m g hp))
  · refine (θ_run Cert.UpReferenceIdeal.defs _ _).mono (fun r h c => ⟨(h c).1.trans ?_, (h c).2⟩)
      (Cert.UpReferenceIdeal.Value.run (F := Ideal) m' g')
    obtain ⟨a0, a1, a2, a3, a4⟩ := hagree c
    rw [a2, a3, a4]
    exact (Cert.ExpertsUp.final m g c).symm

/-- The experts' down projections and their reference leave equal results, at the tables the routing makes. -/
theorem experts_down : Cert.algebraic_DownIdeal_DownReferenceIdeal (hDownIdeal := Cert.DownIdeal.Gen.facts)
    (hDownReferenceIdeal := Cert.DownReferenceIdeal.Gen.facts) (hPre_routed_down := Cert.Pre_routed_down.Gen.facts) := by
  intro m g m' g' hpre hagree
  have hp := Cert.Experts.downIdeal_pinned m hpre
  refine ⟨fun c => (Cert.DownIdeal.Gen.dats 0 m g 0 c).arrAt 2 (Cert.DownIdeal.Gen.cfgA 0).N, ?_, ?_⟩
  · exact (θ_run Cert.DownIdeal.defs _ _).mono (fun r h c => ⟨(h.1 c).1 2, h.2 c⟩)
      (θ_run_and (Cert.DownIdeal.Gen.run_main 0 m g hp) (Cert.DownIdeal.Gen.unchanged 0 m g hp))
  · refine (θ_run Cert.DownReferenceIdeal.defs _ _).mono (fun r h c => ⟨(h c).1.trans ?_, (h c).2⟩)
      (Cert.DownReferenceIdeal.Value.run (F := Ideal) m' g')
    obtain ⟨a0, a1, a2, a3⟩ := hagree c
    rw [a2, a3]
    exact (Cert.ExpertsDown.final m g c).symm

/-- The up reference ends with its arguments unchanged and every counter at zero. -/
theorem up_reference : Cert.quiescent_UpReferenceIdeal (hUpReferenceIdeal := Cert.UpReferenceIdeal.Gen.facts) := fun m g _ =>
  (θ_run Cert.UpReferenceIdeal.defs _ _).mono
    (fun r h => And.intro (fun c => (h c).2) (Idealize.ShloMosaic.sem_eq_zero_of_no_sems (by decide) r.2))
    (Cert.UpReferenceIdeal.Value.run (F := Ideal) m g)

/-- The down reference ends with its arguments unchanged and every counter at zero. -/
theorem down_reference : Cert.quiescent_DownReferenceIdeal (hDownReferenceIdeal := Cert.DownReferenceIdeal.Gen.facts) := fun m g _ =>
  (θ_run Cert.DownReferenceIdeal.defs _ _).mono
    (fun r h => And.intro (fun c => (h c).2) (Idealize.ShloMosaic.sem_eq_zero_of_no_sems (by decide) r.2))
    (Cert.DownReferenceIdeal.Value.run (F := Ideal) m g)

/-- The final norm and its reference leave equal results. -/
theorem final_norm : Cert.algebraic_NormIdeal_NormReferenceIdeal (hNormIdeal := Cert.NormIdeal.Gen.facts)
    (hNormReferenceIdeal := Cert.NormReferenceIdeal.Gen.facts) := by
  pair_intro
  · run_from Cert.NormIdeal.Gen.run_main m g
  · run_from Cert.NormReferenceIdeal.Value.run m' g'
    exact (Cert.Norm.final m c).symm

/-- The norm's reference ends with its arguments unchanged and every counter at zero. -/
theorem final_norm_reference : Cert.quiescent_NormReferenceIdeal (hNormReferenceIdeal := Cert.NormReferenceIdeal.Gen.facts) := fun m g _ =>
  (θ_run Cert.NormReferenceIdeal.defs _ _).mono
    (fun r h => And.intro (fun c => (h c).2) (Idealize.ShloMosaic.sem_eq_zero_of_no_sems (by decide) r.2))
    (Cert.NormReferenceIdeal.Value.run (F := Ideal) m g)

/-- The projection to queries, keys and values and its reference leave equal results. -/
theorem projection : Cert.algebraic_ProjectIdeal_ProjectReferenceIdeal (hProjectIdeal := Cert.ProjectIdeal.Gen.facts)
    (hProjectReferenceIdeal := Cert.ProjectReferenceIdeal.Gen.facts) := by
  pair_intro
  · run_from Cert.ProjectIdeal.Gen.run_main m g
  · run_from Cert.ProjectReferenceIdeal.Value.run m' g'
    exact (Cert.Project.final m c).symm

/-- The projection's reference ends with its arguments unchanged and every counter at zero. -/
theorem projection_reference : Cert.quiescent_ProjectReferenceIdeal (hProjectReferenceIdeal := Cert.ProjectReferenceIdeal.Gen.facts) := fun m g _ =>
  (θ_run Cert.ProjectReferenceIdeal.defs _ _).mono
    (fun r h => And.intro (fun c => (h c).2) (Idealize.ShloMosaic.sem_eq_zero_of_no_sems (by decide) r.2))
    (Cert.ProjectReferenceIdeal.Value.run (F := Ideal) m g)

/-- The preparation of queries, keys and values computes the reference's four results. -/
theorem preparation : Cert.algebraic_PrepareIdeal_PrepareReferenceIdeal (hPrepareIdeal := Cert.PrepareIdeal.Gen.facts)
    (hPrepareReferenceIdeal := Cert.PrepareReferenceIdeal.Gen.facts) := by
  pair_intro
  · run_from Cert.PrepareIdeal.Gen.run_main m g
  · run_from Cert.PrepareReferenceIdeal.Value.run m' g'
    · obtain ⟨a0, a1, a2, a3, a4⟩ := hagree c
      rw [Cert.Prepare.res_queries, a0, a1, a2, a3]
      exact (Cert.Prepare.final_queries m c).symm
    · obtain ⟨a0, a1, a2, a3, a4⟩ := hagree c
      rw [Cert.Prepare.res_narrow, a0, a1, a2, a4]
      exact (Cert.Prepare.final_narrow m c).symm
    · exact (Cert.Prepare.final_values m c).symm
    · obtain ⟨a0, a1, a2, a3, a4⟩ := hagree c
      rw [Cert.Prepare.res_keys, a0, a1, a2, a4]
      exact (Cert.Prepare.final_keys m c).symm

/-- The preparation's reference ends with its arguments unchanged and every counter at zero. -/
theorem preparation_reference : Cert.quiescent_PrepareReferenceIdeal (hPrepareReferenceIdeal := Cert.PrepareReferenceIdeal.Gen.facts) := fun m g _ =>
  (θ_run Cert.PrepareReferenceIdeal.defs _ _).mono
    (fun r h => And.intro (fun c => (h c).2.2.2.2) (Idealize.ShloMosaic.sem_eq_zero_of_no_sems (by decide) r.2))
    (Cert.PrepareReferenceIdeal.Value.run (F := Ideal) m g)

/-- The in-projection of the gated delta layers and its reference leave equal results. -/
theorem mix : Cert.algebraic_MixIdeal_MixReferenceIdeal (hMixIdeal := Cert.MixIdeal.Gen.facts)
    (hMixReferenceIdeal := Cert.MixReferenceIdeal.Gen.facts) := by
  pair_intro
  · run_from Cert.MixIdeal.Gen.run_main m g
  · run_from Cert.MixReferenceIdeal.Value.run m' g'
    exact (Cert.Mix.final m c).symm

/-- The same in-projection's reference ends with its arguments unchanged and every counter at zero. -/
theorem mix_reference : Cert.quiescent_MixReferenceIdeal (hMixReferenceIdeal := Cert.MixReferenceIdeal.Gen.facts) := fun m g _ =>
  (θ_run Cert.MixReferenceIdeal.defs _ _).mono
    (fun r h => And.intro (fun c => (h c).2) (Idealize.ShloMosaic.sem_eq_zero_of_no_sems (by decide) r.2))
    (Cert.MixReferenceIdeal.Value.run (F := Ideal) m g)

/-- The dense layer's gate and up projections and their reference leave equal results, at the tables of a single expert. -/
theorem dense : Cert.algebraic_DenseIdeal_DenseReferenceIdeal (hDenseIdeal := Cert.DenseIdeal.Gen.facts)
    (hDenseReferenceIdeal := Cert.DenseReferenceIdeal.Gen.facts) (hPre_one_expert := Cert.Pre_one_expert.Gen.facts) := by
  intro m g m' g' hpre hagree
  have hp := Cert.DenseUp.ideal_pinned m hpre
  refine ⟨fun c => (Cert.DenseIdeal.Gen.dats 0 m g 0 c).arrAt 3 (Cert.DenseIdeal.Gen.cfgA 0).N, ?_, ?_⟩
  · exact (θ_run Cert.DenseIdeal.defs _ _).mono (fun r h c => ⟨(h.1 c).1 3, h.2 c⟩)
      (θ_run_and (Cert.DenseIdeal.Gen.run_main 0 m g hp) (Cert.DenseIdeal.Gen.unchanged 0 m g hp))
  · refine (θ_run Cert.DenseReferenceIdeal.defs _ _).mono (fun r h c => ⟨(h c).1.trans ?_, (h c).2⟩)
      (Cert.DenseReferenceIdeal.Value.run (F := Ideal) m' g')
    obtain ⟨a0, a1, a2, a3, a4⟩ := hagree c
    rw [a2, a3, a4]
    exact (Cert.DenseUp.final m g c).symm

/-- The dense layer's reference ends with its arguments unchanged and every counter at zero. -/
theorem dense_reference : Cert.quiescent_DenseReferenceIdeal (hDenseReferenceIdeal := Cert.DenseReferenceIdeal.Gen.facts) := fun m g _ =>
  (θ_run Cert.DenseReferenceIdeal.defs _ _).mono
    (fun r h => And.intro (fun c => (h c).2) (Idealize.ShloMosaic.sem_eq_zero_of_no_sems (by decide) r.2))
    (Cert.DenseReferenceIdeal.Value.run (F := Ideal) m g)

/-- The mixers' out-projection and its reference leave equal results, at the tables of a single weight. -/
theorem out : Cert.algebraic_OutIdeal_OutReferenceIdeal (hOutIdeal := Cert.OutIdeal.Gen.facts)
    (hOutReferenceIdeal := Cert.OutReferenceIdeal.Gen.facts) (hPre_one_weight := Cert.Pre_one_weight.Gen.facts) := by
  intro m g m' g' hpre hagree
  have hp := Cert.OutProjection.ideal_pinned m hpre
  refine ⟨fun c => (Cert.OutIdeal.Gen.dats 0 m g 0 c).arrAt 4 (Cert.OutIdeal.Gen.cfgA 0).N, ?_, ?_⟩
  · exact (θ_run Cert.OutIdeal.defs _ _).mono (fun r h c => ⟨(h.1 c).1 4, h.2 c⟩)
      (θ_run_and (Cert.OutIdeal.Gen.run_main 0 m g hp) (Cert.OutIdeal.Gen.unchanged 0 m g hp))
  · refine (θ_run Cert.OutReferenceIdeal.defs _ _).mono (fun r h c => ⟨(h c).1.trans ?_, (h c).2⟩)
      (Cert.OutReferenceIdeal.Value.run (F := Ideal) m' g')
    obtain ⟨a0, a1, a2, a3, a4, a5⟩ := hagree c
    rw [a2, a3, a4, a5]
    exact (Cert.OutProjection.final m g c).symm

/-- The mixers' out-projection's reference ends with its arguments unchanged and every counter at zero. -/
theorem out_reference : Cert.quiescent_OutReferenceIdeal (hOutReferenceIdeal := Cert.OutReferenceIdeal.Gen.facts) := fun m g _ =>
  (θ_run Cert.OutReferenceIdeal.defs _ _).mono
    (fun r h => And.intro (fun c => (h c).2) (Idealize.ShloMosaic.sem_eq_zero_of_no_sems (by decide) r.2))
    (Cert.OutReferenceIdeal.Value.run (F := Ideal) m g)

/-- The dense layer's down projection and its reference leave equal results, at the tables of a single weight. -/
theorem low : Cert.algebraic_LowIdeal_LowReferenceIdeal (hLowIdeal := Cert.LowIdeal.Gen.facts)
    (hLowReferenceIdeal := Cert.LowReferenceIdeal.Gen.facts) (hPre_one_weight_low := Cert.Pre_one_weight_low.Gen.facts) := by
  intro m g m' g' hpre hagree
  have hp := Cert.DenseDown.ideal_pinned m hpre
  refine ⟨fun c => (Cert.LowIdeal.Gen.dats 0 m g 0 c).arrAt 4 (Cert.LowIdeal.Gen.cfgA 0).N, ?_, ?_⟩
  · exact (θ_run Cert.LowIdeal.defs _ _).mono (fun r h c => ⟨(h.1 c).1 4, h.2 c⟩)
      (θ_run_and (Cert.LowIdeal.Gen.run_main 0 m g hp) (Cert.LowIdeal.Gen.unchanged 0 m g hp))
  · refine (θ_run Cert.LowReferenceIdeal.defs _ _).mono (fun r h c => ⟨(h c).1.trans ?_, (h c).2⟩)
      (Cert.LowReferenceIdeal.Value.run (F := Ideal) m' g')
    obtain ⟨a0, a1, a2, a3, a4, a5⟩ := hagree c
    rw [a2, a3, a4, a5]
    exact (Cert.DenseDown.final m g c).symm

/-- The dense layer's down projection's reference ends with its arguments unchanged and every counter at zero. -/
theorem low_reference : Cert.quiescent_LowReferenceIdeal (hLowReferenceIdeal := Cert.LowReferenceIdeal.Gen.facts) := fun m g _ =>
  (θ_run Cert.LowReferenceIdeal.defs _ _).mono
    (fun r h => And.intro (fun c => (h c).2) (Idealize.ShloMosaic.sem_eq_zero_of_no_sems (by decide) r.2))
    (Cert.LowReferenceIdeal.Value.run (F := Ideal) m g)

/-- Every claim of the certificate. -/
theorem claim : Cert.Claim :=
  ⟨Cert.Kernel.Gen.facts, Cert.KernelIdeal.Gen.facts, Cert.ReferenceIdeal.Gen.facts, Cert.Up.Gen.facts, Cert.UpIdeal.Gen.facts,
    Cert.UpReferenceIdeal.Gen.facts, Cert.Down.Gen.facts, Cert.DownIdeal.Gen.facts, Cert.DownReferenceIdeal.Gen.facts,
    Cert.Norm.Gen.facts, Cert.NormIdeal.Gen.facts, Cert.NormReferenceIdeal.Gen.facts,
    Cert.Project.Gen.facts, Cert.ProjectIdeal.Gen.facts, Cert.ProjectReferenceIdeal.Gen.facts,
    Cert.Prepare.Gen.facts, Cert.PrepareIdeal.Gen.facts, Cert.PrepareReferenceIdeal.Gen.facts,
    Cert.Mix.Gen.facts, Cert.MixIdeal.Gen.facts, Cert.MixReferenceIdeal.Gen.facts,
    Cert.Dense.Gen.facts, Cert.DenseIdeal.Gen.facts, Cert.DenseReferenceIdeal.Gen.facts,
    Cert.Out.Gen.facts, Cert.OutIdeal.Gen.facts, Cert.OutReferenceIdeal.Gen.facts,
    Cert.Low.Gen.facts, Cert.LowIdeal.Gen.facts, Cert.LowReferenceIdeal.Gen.facts,
    Cert.Pre_finite.Gen.facts, Cert.Pre_routed_up.Gen.facts, Cert.Pre_routed_down.Gen.facts, Cert.Pre_one_expert.Gen.facts,
    Cert.Pre_one_weight.Gen.facts, Cert.Pre_one_weight_low.Gen.facts,
    fun m g _ => Cert.Kernel.Gen.frame m g, fun m g _ => Cert.KernelIdeal.Gen.frame m g, fun m g _ => Cert.KernelIdeal.Gen.frame m g,
    fun m g _ => attention_reference m g trivial, fun m g _ => attention_reference m g trivial,
    fun m g h => Cert.Up.Gen.frame 0 m g (Cert.Experts.up_pinned m h),
    fun m g h => Cert.UpIdeal.Gen.frame 0 m g (Cert.Experts.upIdeal_pinned m h),
    fun m g _ => up_reference m g trivial, fun m g _ => up_reference m g trivial,
    fun m g h => Cert.Down.Gen.frame 0 m g (Cert.Experts.down_pinned m h),
    fun m g h => Cert.DownIdeal.Gen.frame 0 m g (Cert.Experts.downIdeal_pinned m h),
    fun m g _ => down_reference m g trivial, fun m g _ => down_reference m g trivial,
    fun m g _ => Cert.Norm.Gen.frame m g, fun m g _ => Cert.NormIdeal.Gen.frame m g, fun m g _ => final_norm_reference m g trivial,
    fun m g _ => Cert.Project.Gen.frame m g, fun m g _ => Cert.ProjectIdeal.Gen.frame m g, fun m g _ => projection_reference m g trivial,
    fun m g _ => Cert.Prepare.Gen.frame m g, fun m g _ => Cert.PrepareIdeal.Gen.frame m g, fun m g _ => preparation_reference m g trivial,
    fun m g _ => Cert.Mix.Gen.frame m g, fun m g _ => Cert.MixIdeal.Gen.frame m g, fun m g _ => mix_reference m g trivial,
    fun m g h => Cert.Dense.Gen.frame 0 m g (Cert.DenseUp.pinned m h),
    fun m g h => Cert.DenseIdeal.Gen.frame 0 m g (Cert.DenseUp.ideal_pinned m h),
    fun m g _ => dense_reference m g trivial, fun m g _ => dense_reference m g trivial,
    fun m g h => Cert.Out.Gen.frame 0 m g (Cert.OutProjection.pinned m h),
    fun m g h => Cert.OutIdeal.Gen.frame 0 m g (Cert.OutProjection.ideal_pinned m h),
    fun m g _ => out_reference m g trivial, fun m g _ => out_reference m g trivial,
    fun m g h => Cert.Low.Gen.frame 0 m g (Cert.DenseDown.pinned m h),
    fun m g h => Cert.LowIdeal.Gen.frame 0 m g (Cert.DenseDown.ideal_pinned m h),
    fun m g _ => low_reference m g trivial, fun m g _ => low_reference m g trivial,
    trivial, attention, trivial, experts_up, trivial, experts_down, trivial, final_norm, trivial, projection, trivial, preparation,
    trivial, mix, trivial, dense, trivial, out, trivial, low⟩

end Cert.Proof

end
